-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Reference_in_vocab [hPre_in_vocab : Cert.Pre_in_vocab.Facts] (m : (ℓ : Loc Cert.Reference.nD Cert.Reference.τ Cert.Reference.sig) → Buf (Elt Bits) ℓ) : Prop :=
  ∀ c : Dev Cert.Reference.nD,
    (Cert.Pre_in_vocab.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_in_vocab [hReference : Cert.Reference.Facts] [hPre_in_vocab : Cert.Pre_in_vocab.Facts] : Prop :=
  ∀ (m : (ℓ : Loc Cert.Reference.nD Cert.Reference.τ Cert.Reference.sig) → Buf (Elt Bits) ℓ) (g : Dev Cert.Reference.nD → PrngReg), Pre_Reference_in_vocab m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ quiescent_Reference (hReference := hReference)
    ∧ quiescent_Reference_pre_in_vocab (hReference := hReference) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
    ∧ bitexact_Kernel_Reference (hKernel := hKernel) (hReference := hReference) (hPre_in_vocab := hPre_in_vocab)
-- ==== Pre_in_vocab.lean ====
abbrev S4096x200 : Shape := ⟨2, ![4096, 200]⟩
abbrev S1000x128 : Shape := ⟨2, ![1000, 128]⟩
abbrev S99000x128 : Shape := ⟨2, ![99000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000x128 .f32) (main_arg2 : FVec F S99000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000x128 : Shape := ⟨2, ![1000, 128]⟩
abbrev S99000x128 : Shape := ⟨2, ![99000, 128]⟩
abbrev S6400x128 : Shape := ⟨2, ![6400, 128]⟩
abbrev S819200x128 : Shape := ⟨2, ![819200, 128]⟩
abbrev S200x128 : Shape := ⟨2, ![200, 128]⟩
abbrev S128 : Shape := ⟨1, ![128]⟩
abbrev S256x128 : Shape := ⟨2, ![256, 128]⟩
abbrev S272 : Shape := ⟨1, ![272]⟩
abbrev S_ : Shape := ⟨0, ![]⟩
abbrev S16 : Shape := ⟨1, ![16]⟩
abbrev S1x16 : Shape := ⟨2, ![1, 16]⟩
abbrev S1 : Shape := ⟨1, ![1]⟩
abbrev S128x128 : Shape := ⟨2, ![128, 128]⟩
abbrev S1x128 : Shape := ⟨2, ![1, 128]⟩
abbrev S4096x200x128 : Shape := ⟨3, ![4096, 200, 128]⟩

abbrev nBuf : Table → Nat
  | .hbm => 6
  | .local .scVector .vmem => 11
  | _ => 0

abbrev bufTy : (tb : Table) → Fin (nBuf tb) → BufTy
  | .hbm, ⟨0, _⟩ => ⟨S4096x200, .i32⟩
  | .hbm, ⟨1, _⟩ => ⟨S1000x128, .f32⟩
  | .hbm, ⟨2, _⟩ => ⟨S99000x128, .f32⟩
  | .hbm, ⟨3, _⟩ => ⟨S6400x128, .i32⟩
  | .hbm, ⟨4, _⟩ => ⟨S819200x128, .f32⟩
  | .hbm, ⟨5, _⟩ => ⟨S4096x200x128, .f32⟩
  | .local .scVector .vmem, ⟨0, _⟩ => ⟨S200x128, .i32⟩
  | .local .scVector .vmem, ⟨1, _⟩ => ⟨S128, .i32⟩
  | .local .scVector .vmem, ⟨2, _⟩ => ⟨S128, .i32⟩
  | .local .scVector .vmem, ⟨3, _⟩ => ⟨S256x128, .f32⟩
  | .local .scVector .vmem, ⟨4, _⟩ => ⟨S272, .i32⟩
  | .local .scVector .vmem, ⟨5, _⟩ => ⟨S272, .i32⟩
  | .local .scVector .vmem, ⟨6, _⟩ => ⟨S128, .i32⟩
  | .local .scVector .vmem, ⟨7, _⟩ => ⟨S128, .i32⟩
  | .local .scVector .vmem, ⟨8, _⟩ => ⟨S256x128, .f32⟩
  | .local .scVector .vmem, ⟨9, _⟩ => ⟨S272, .i32⟩
  | .local .scVector .vmem, ⟨10, _⟩ => ⟨S272, .i32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch8 : Ref sig .scVector := ⟨.vmem, 6, rfl⟩
abbrev cc0_scratch9 : Ref sig .scVector := ⟨.vmem, 7, rfl⟩
abbrev cc0_scratch10 : Ref sig .scVector := ⟨.vmem, 8, rfl⟩
abbrev cc0_scratch11 : Ref sig .scVector := ⟨.vmem, 9, rfl⟩
abbrev cc0_scratch12 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c0_i32_3_r0 : BitVec 32 := 0#32
  ![v3.toNat, 0]
@[reducible] def k0_t1_loop : Scf.Loop 32 :=
  let c0_i32_1 : BitVec 32 := 0#32
  let c51_i32 : BitVec 32 := 51#32
  let v4 : BitVec 32 := Scalar.addi c0_i32_1 c51_i32
  let c1_i32 : BitVec 32 := 1#32
  ⟨c0_i32_1, v4, c1_i32⟩
def k0_cond1 (k0_t1 : Fin k0_t1_loop.trips) : BitVec 1 :=
  let c0_i32_1 : BitVec 32 := 0#32
  let c1_i32 : BitVec 32 := 1#32
  let arg22 : BitVec 32 := Scf.iv c0_i32_1 c1_i32 k0_t1
  let c2_i32_3 : BitVec 32 := 2#32
  let v6 : BitVec 32 := Scalar.muli arg22 c2_i32_3
  let c0_i32_4 : BitVec 32 := 0#32
  let v7 : BitVec 32 := Scalar.addi v6 c0_i32_4
  let c2_i32_5 : BitVec 32 := 2#32
  let v8 : BitVec 1 := Scalar.cmpi .sge v7 c2_i32_5
  let v9 : BitVec 32 := Scalar.extui v8
  let c0_i32_6 : BitVec 32 := 0#32
  let v10 : BitVec 1 := Scalar.cmpi .ne v9 c0_i32_6
  v10

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_22 : BitVec 32 := 0#32
  ![v2.toNat, 0]
def k0_cond2 (k0_t1 : Fin k0_t1_loop.trips) : BitVec 1 :=
  let c0_i32_1 : BitVec 32 := 0#32
  let c1_i32 : BitVec 32 := 1#32
  let arg22 : BitVec 32 := Scf.iv c0_i32_1 c1_i32 k0_t1
  let c2_i32_3 : BitVec 32 := 2#32
  let v6 : BitVec 32 := Scalar.muli arg22 c2_i32_3
  let c0_i32_4 : BitVec 32 := 0#32
  let v7 : BitVec 32 := Scalar.addi v6 c0_i32_4
  let c100_i32 : BitVec 32 := 100#32
  let v11 : BitVec 1 := Scalar.cmpi .slt v7 c100_i32
  let v12 : BitVec 32 := Scalar.extui v11
  let c0_i32_7 : BitVec 32 := 0#32
  let v13 : BitVec 1 := Scalar.cmpi .ne v12 c0_i32_7
  v13

@[reducible] def k0_t2_loop : Scf.Loop 32 :=
  let c0_i32_23 : BitVec 32 := 0#32
  let c8_i32 : BitVec 32 := 8#32
  let v36 : BitVec 32 := Scalar.addi c0_i32_23 c8_i32
  let c1_i32_24 : BitVec 32 := 1#32
  ⟨c0_i32_23, v36, c1_i32_24⟩
def k0_off3 (k0_t1 : Fin k0_t1_loop.trips) (k0_t2 : Fin k0_t2_loop.trips) : Fin 2 → Nat :=
  let c2_i32_37 : BitVec 32 := 2#32
  let c0_i32_1 : BitVec 32 := 0#32
  let c1_i32 : BitVec 32 := 1#32
  let arg22 : BitVec 32 := Scf.iv c0_i32_1 c1_i32 k0_t1
  let c2_i32_3 : BitVec 32 := 2#32
  let v6 : BitVec 32 := Scalar.muli arg22 c2_i32_3
  let c0_i32_4 : BitVec 32 := 0#32
  let v7 : BitVec 32 := Scalar.addi v6 c0_i32_4
  let v44 : BitVec 32 := Scalar.muli c2_i32_37 v7
  let c0_i32_38 : BitVec 32 := 0#32
  let v45 : BitVec 32 := Scalar.addi v44 c0_i32_38
  let v48 : Index := Scalar.indexCast v45
  let c0_i32_23 : BitVec 32 := 0#32
  let c1_i32_24 : BitVec 32 := 1#32
  let arg25 : BitVec 32 := Scf.iv c0_i32_23 c1_i32_24 k0_t2
  let c0_i32_39 : BitVec 32 := 0#32
  let v46 : BitVec 32 := Scalar.subi arg25 c0_i32_39
  let c16_i32 : BitVec 32 := 16#32
  let v47 : BitVec 32 := Scalar.muli v46 c16_i32
  let v49 : Index := Scalar.indexCast v47
  ![v48.toNat, v49.toNat]
def k0_off4 (k0_t2 : Fin k0_t2_loop.trips) : Fin 1 → Nat :=
  let c0_i32_23 : BitVec 32 := 0#32
  let c1_i32_24 : BitVec 32 := 1#32
  let arg25 : BitVec 32 := Scf.iv c0_i32_23 c1_i32_24 k0_t2
  let c0_i32_42 : BitVec 32 := 0#32
  let v66 : BitVec 32 := Scalar.subi arg25 c0_i32_42
  let c16_i32_43 : BitVec 32 := 16#32
  let v67 : BitVec 32 := Scalar.muli v66 c16_i32_43
  let v68 : Index := Scalar.indexCast v67
  ![v68.toNat]

def k0_chk1 (k0_t1 : Fin k0_t1_loop.trips) (v78 : IVec S16 32) : Prop :=
  (∀ (k0_h2 : k0_cond2 k0_t1 = 1#1), ∀ a x, ((![v78] : Fin 1 → IVec S16 32) a x).toNat < S272.size a) ∧
  (∀ (k0_h2 : k0_cond2 k0_t1 = 1#1), ∀ a x, ((![v78] : Fin 1 → IVec S16 32) a x).toNat < S272.size a)
theorem k0_idx1_inb : ∀ (k0_t1 : Fin k0_t1_loop.trips) (v78 : IVec S16 32) (k0_hw1 : k0_chk1 k0_t1 v78), ∀ (k0_h2 : k0_cond2 k0_t1 = 1#1), ∀ a x, ((![v78] : Fin 1 → IVec S16 32) a x).toNat < S272.size a := fun k0_t1 v78 k0_hw1 k0_h2 => k0_hw1.1 k0_h2
theorem k0_idx2_inb : ∀ (k0_t1 : Fin k0_t1_loop.trips) (v78 : IVec S16 32) (k0_hw1 : k0_chk1 k0_t1 v78), ∀ (k0_h2 : k0_cond2 k0_t1 = 1#1), ∀ a x, ((![v78] : Fin 1 → IVec S16 32) a x).toNat < S272.size a := fun k0_t1 v78 k0_hw1 k0_h2 => k0_hw1.2 k0_h2
@[reducible] def k0_t3_loop : Scf.Loop 32 :=
  let c8_i32_26 : BitVec 32 := 8#32
  let c8_i32_27 : BitVec 32 := 8#32
  let v38 : BitVec 32 := Scalar.addi c8_i32_26 c8_i32_27
  let c1_i32_28 : BitVec 32 := 1#32
  ⟨c8_i32_26, v38, c1_i32_28⟩
def k0_off5 (k0_t1 : Fin k0_t1_loop.trips) (k0_t3 : Fin k0_t3_loop.trips) : Fin 2 → Nat :=
  let c2_i32_37 : BitVec 32 := 2#32
  let c0_i32_1 : BitVec 32 := 0#32
  let c1_i32 : BitVec 32 := 1#32
  let arg22 : BitVec 32 := Scf.iv c0_i32_1 c1_i32 k0_t1
  let c2_i32_3 : BitVec 32 := 2#32
  let v6 : BitVec 32 := Scalar.muli arg22 c2_i32_3
  let c0_i32_4 : BitVec 32 := 0#32
  let v7 : BitVec 32 := Scalar.addi v6 c0_i32_4
  let v44 : BitVec 32 := Scalar.muli c2_i32_37 v7
  let c1_i32_38 : BitVec 32 := 1#32
  let v45 : BitVec 32 := Scalar.addi v44 c1_i32_38
  let v48 : Index := Scalar.indexCast v45
  let c8_i32_26 : BitVec 32 := 8#32
  let c1_i32_28 : BitVec 32 := 1#32
  let arg25 : BitVec 32 := Scf.iv c8_i32_26 c1_i32_28 k0_t3
  let c8_i32_39 : BitVec 32 := 8#32
  let v46 : BitVec 32 := Scalar.subi arg25 c8_i32_39
  let c16_i32 : BitVec 32 := 16#32
  let v47 : BitVec 32 := Scalar.muli v46 c16_i32
  let v49 : Index := Scalar.indexCast v47
  ![v48.toNat, v49.toNat]
def k0_off6 (k0_t3 : Fin k0_t3_loop.trips) : Fin 1 → Nat :=
  let c8_i32_26 : BitVec 32 := 8#32
  let c1_i32_28 : BitVec 32 := 1#32
  let arg25 : BitVec 32 := Scf.iv c8_i32_26 c1_i32_28 k0_t3
  let c8_i32_42 : BitVec 32 := 8#32
  let v66 : BitVec 32 := Scalar.subi arg25 c8_i32_42
  let c16_i32_43 : BitVec 32 := 16#32
  let v67 : BitVec 32 := Scalar.muli v66 c16_i32_43
  let v68 : Index := Scalar.indexCast v67
  ![v68.toNat]

def k0_chk2 (k0_t1 : Fin k0_t1_loop.trips) (v78 : IVec S16 32) : Prop :=
  (∀ (k0_h2 : k0_cond2 k0_t1 = 1#1), ∀ a x, ((![v78] : Fin 1 → IVec S16 32) a x).toNat < S272.size a) ∧
  (∀ (k0_h2 : k0_cond2 k0_t1 = 1#1), ∀ a x, ((![v78] : Fin 1 → IVec S16 32) a x).toNat < S272.size a)
theorem k0_idx3_inb : ∀ (k0_t1 : Fin k0_t1_loop.trips) (v78 : IVec S16 32) (k0_hw2 : k0_chk2 k0_t1 v78), ∀ (k0_h2 : k0_cond2 k0_t1 = 1#1), ∀ a x, ((![v78] : Fin 1 → IVec S16 32) a x).toNat < S272.size a := fun k0_t1 v78 k0_hw2 k0_h2 => k0_hw2.1 k0_h2
theorem k0_idx4_inb : ∀ (k0_t1 : Fin k0_t1_loop.trips) (v78 : IVec S16 32) (k0_hw2 : k0_chk2 k0_t1 v78), ∀ (k0_h2 : k0_cond2 k0_t1 = 1#1), ∀ a x, ((![v78] : Fin 1 → IVec S16 32) a x).toNat < S272.size a := fun k0_t1 v78 k0_hw2 k0_h2 => k0_hw2.2 k0_h2
def k0_cond3 (k0_t1 : Fin k0_t1_loop.trips) : BitVec 1 :=
  let c0_i32_1 : BitVec 32 := 0#32
  let c1_i32 : BitVec 32 := 1#32
  let arg22 : BitVec 32 := Scf.iv c0_i32_1 c1_i32 k0_t1
  let c2_i32_3 : BitVec 32 := 2#32
  let v6 : BitVec 32 := Scalar.muli arg22 c2_i32_3
  let c0_i32_4 : BitVec 32 := 0#32
  let v7 : BitVec 32 := Scalar.addi v6 c0_i32_4
  let c1_i32_8 : BitVec 32 := 1#32
  let v15 : BitVec 32 := Scalar.subi v7 c1_i32_8
  let c0_i32_9 : BitVec 32 := 0#32
  let v16 : BitVec 1 := Scalar.cmpi .sge v15 c0_i32_9
  let c100_i32_10 : BitVec 32 := 100#32
  let v17 : BitVec 1 := Scalar.cmpi .slt v15 c100_i32_10
  let v18 : BitVec 1 := Scalar.andi v16 v17
  let v19 : BitVec 32 := Scalar.extui v18
  let c0_i32_11 : BitVec 32 := 0#32
  let v20 : BitVec 1 := Scalar.cmpi .ne v19 c0_i32_11
  v20

@[reducible] def k0_t4_loop (arg24 : BitVec 32) : Scf.Loop 32 :=
  let c0_i32_29 : BitVec 32 := 0#32
  let v42 : BitVec 32 := Scalar.subi arg24 c0_i32_29
  let c1_i32_31 : BitVec 32 := 1#32
  let v44 : BitVec 32 := Scalar.divsi v42 c1_i32_31
  let v45 : BitVec 32 := Scalar.muli v44 c1_i32_31
  let v46 : BitVec 32 := Scalar.addi c0_i32_29 v45
  let c1_i32_32 : BitVec 32 := 1#32
  ⟨c0_i32_29, v46, c1_i32_32⟩

def k0_off7 (arg24 : BitVec 32) (k0_t4 : Fin (k0_t4_loop arg24).trips) : Fin 1 → Nat :=
  let c0_i32_29 : BitVec 32 := 0#32
  let c1_i32_32 : BitVec 32 := 1#32
  let arg25 : BitVec 32 := Scf.iv c0_i32_29 c1_i32_32 k0_t4
  let v58 : Index := Scalar.indexCast arg25
  ![v58.toNat]
def k0_off8 (v61 : BitVec 32) : Fin 2 → Nat :=
  let c0_i32_41 : BitVec 32 := 0#32
  ![v61.toNat, 0]

def k0_off9 (v65 : BitVec 32) : Fin 2 → Nat :=
  let c0_i32_42 : BitVec 32 := 0#32
  ![v65.toNat, 0]

def k0_chk5 (k0_t1 : Fin k0_t1_loop.trips) (v65 : BitVec 32) : Prop :=
  (∀ (k0_h3 : k0_cond3 k0_t1 = 1#1), ∀ a, (k0_off9 v65) a + S1x128.size a ≤ S1000x128.size a)
theorem k0_off9_inb : ∀ (k0_t1 : Fin k0_t1_loop.trips) (v65 : BitVec 32) (k0_hw5 : k0_chk5 k0_t1 v65), ∀ (k0_h3 : k0_cond3 k0_t1 = 1#1), ∀ a, (k0_off9 v65) a + S1x128.size a ≤ S1000x128.size a := fun k0_t1 v65 k0_hw5 k0_h3 => k0_hw5 k0_h3

def k0_off10 (v61 : BitVec 32) : Fin 2 → Nat :=
  let c0_i32_43 : BitVec 32 := 0#32
  ![v61.toNat, 0]

def k0_chk4 (k0_t1 : Fin k0_t1_loop.trips) (v61 : BitVec 32) : Prop :=
  (∀ (k0_h3 : k0_cond3 k0_t1 = 1#1), ∀ a, (k0_off8 v61) a + S1x128.size a ≤ S256x128.size a) ∧
  (∀ (k0_h3 : k0_cond3 k0_t1 = 1#1), ∀ a, (k0_off10 v61) a + S1x128.size a ≤ S256x128.size a)
theorem k0_off8_inb : ∀ (k0_t1 : Fin k0_t1_loop.trips) (v61 : BitVec 32) (k0_hw4 : k0_chk4 k0_t1 v61), ∀ (k0_h3 : k0_cond3 k0_t1 = 1#1), ∀ a, (k0_off8 v61) a + S1x128.size a ≤ S256x128.size a := fun k0_t1 v61 k0_hw4 k0_h3 => k0_hw4.1 k0_h3
theorem k0_off10_inb : ∀ (k0_t1 : Fin k0_t1_loop.trips) (v61 : BitVec 32) (k0_hw4 : k0_chk4 k0_t1 v61), ∀ (k0_h3 : k0_cond3 k0_t1 = 1#1), ∀ a, (k0_off10 v61) a + S1x128.size a ≤ S256x128.size a := fun k0_t1 v61 k0_hw4 k0_h3 => k0_hw4.2 k0_h3

@[reducible] def k0_t5_loop (arg24 : BitVec 32) : Scf.Loop 32 :=
  let c0_i32_29 : BitVec 32 := 0#32
  let v42 : BitVec 32 := Scalar.subi arg24 c0_i32_29
  let c1_i32_31 : BitVec 32 := 1#32
  let v44 : BitVec 32 := Scalar.divsi v42 c1_i32_31
  let v45 : BitVec 32 := Scalar.muli v44 c1_i32_31
  let v46 : BitVec 32 := Scalar.addi c0_i32_29 v45
  let v43 : BitVec 32 := Scalar.addi c0_i32_29 v42
  let c1_i32_33 : BitVec 32 := 1#32
  ⟨v46, v43, c1_i32_33⟩
def k0_off11 (arg24 : BitVec 32) (k0_t5 : Fin (k0_t5_loop arg24).trips) : Fin 1 → Nat :=
  let c0_i32_29 : BitVec 32 := 0#32
  let v42 : BitVec 32 := Scalar.subi arg24 c0_i32_29
  let c1_i32_31 : BitVec 32 := 1#32
  let v44 : BitVec 32 := Scalar.divsi v42 c1_i32_31
  let v45 : BitVec 32 := Scalar.muli v44 c1_i32_31
  let v46 : BitVec 32 := Scalar.addi c0_i32_29 v45
  let c1_i32_33 : BitVec 32 := 1#32
  let arg25 : BitVec 32 := Scf.iv v46 c1_i32_33 k0_t5
  let v58 : Index := Scalar.indexCast arg25
  ![v58.toNat]
def k0_off12 (v61 : BitVec 32) : Fin 2 → Nat :=
  let c0_i32_41 : BitVec 32 := 0#32
  ![v61.toNat, 0]

def k0_off13 (v65 : BitVec 32) : Fin 2 → Nat :=
  let c0_i32_42 : BitVec 32 := 0#32
  ![v65.toNat, 0]

def k0_chk7 (k0_t1 : Fin k0_t1_loop.trips) (v65 : BitVec 32) : Prop :=
  (∀ (k0_h3 : k0_cond3 k0_t1 = 1#1), ∀ a, (k0_off13 v65) a + S1x128.size a ≤ S1000x128.size a)
theorem k0_off13_inb : ∀ (k0_t1 : Fin k0_t1_loop.trips) (v65 : BitVec 32) (k0_hw7 : k0_chk7 k0_t1 v65), ∀ (k0_h3 : k0_cond3 k0_t1 = 1#1), ∀ a, (k0_off13 v65) a + S1x128.size a ≤ S1000x128.size a := fun k0_t1 v65 k0_hw7 k0_h3 => k0_hw7 k0_h3

def k0_off14 (v61 : BitVec 32) : Fin 2 → Nat :=
  let c0_i32_43 : BitVec 32 := 0#32
  ![v61.toNat, 0]

def k0_chk6 (k0_t1 : Fin k0_t1_loop.trips) (v61 : BitVec 32) : Prop :=
  (∀ (k0_h3 : k0_cond3 k0_t1 = 1#1), ∀ a, (k0_off12 v61) a + S1x128.size a ≤ S256x128.size a) ∧
  (∀ (k0_h3 : k0_cond3 k0_t1 = 1#1), ∀ a, (k0_off14 v61) a + S1x128.size a ≤ S256x128.size a)
theorem k0_off12_inb : ∀ (k0_t1 : Fin k0_t1_loop.trips) (v61 : BitVec 32) (k0_hw6 : k0_chk6 k0_t1 v61), ∀ (k0_h3 : k0_cond3 k0_t1 = 1#1), ∀ a, (k0_off12 v61) a + S1x128.size a ≤ S256x128.size a := fun k0_t1 v61 k0_hw6 k0_h3 => k0_hw6.1 k0_h3
theorem k0_off14_inb : ∀ (k0_t1 : Fin k0_t1_loop.trips) (v61 : BitVec 32) (k0_hw6 : k0_chk6 k0_t1 v61), ∀ (k0_h3 : k0_cond3 k0_t1 = 1#1), ∀ a, (k0_off14 v61) a + S1x128.size a ≤ S256x128.size a := fun k0_t1 v61 k0_hw6 k0_h3 => k0_hw6.2 k0_h3

@[reducible] def k0_t6_loop (arg24 : BitVec 32) : Scf.Loop 32 :=
  let c0_i32_34 : BitVec 32 := 0#32
  let v49 : BitVec 32 := Scalar.subi arg24 c0_i32_34
  let c1_i32_36 : BitVec 32 := 1#32
  let v51 : BitVec 32 := Scalar.divsi v49 c1_i32_36
  let v52 : BitVec 32 := Scalar.muli v51 c1_i32_36
  let v53 : BitVec 32 := Scalar.addi c0_i32_34 v52
  let c1_i32_37 : BitVec 32 := 1#32
  ⟨c0_i32_34, v53, c1_i32_37⟩
@[reducible] def k0_t7_loop (arg24 : BitVec 32) : Scf.Loop 32 :=
  let c0_i32_34 : BitVec 32 := 0#32
  let v49 : BitVec 32 := Scalar.subi arg24 c0_i32_34
  let c1_i32_36 : BitVec 32 := 1#32
  let v51 : BitVec 32 := Scalar.divsi v49 c1_i32_36
  let v52 : BitVec 32 := Scalar.muli v51 c1_i32_36
  let v53 : BitVec 32 := Scalar.addi c0_i32_34 v52
  let v50 : BitVec 32 := Scalar.addi c0_i32_34 v49
  let c1_i32_38 : BitVec 32 := 1#32
  ⟨v53, v50, c1_i32_38⟩

def k0_chk3 (k0_t1 : Fin k0_t1_loop.trips) (arg24 : BitVec 32) : Prop :=
  (∀ (k0_h3 : k0_cond3 k0_t1 = 1#1), (k0_t4_loop arg24).OK) ∧
  (∀ k0_t4 : Fin (k0_t4_loop arg24).trips, ∀ (k0_h3 : k0_cond3 k0_t1 = 1#1), ∀ a, (k0_off7 arg24 k0_t4) a + S16.size a ≤ S272.size a) ∧
  (∀ (k0_h3 : k0_cond3 k0_t1 = 1#1), (k0_t5_loop arg24).OK) ∧
  (∀ k0_t5 : Fin (k0_t5_loop arg24).trips, ∀ (k0_h3 : k0_cond3 k0_t1 = 1#1), ∀ a, (k0_off11 arg24 k0_t5) a + S16.size a ≤ S272.size a) ∧
  (∀ (k0_h3 : k0_cond3 k0_t1 = 1#1), (k0_t6_loop arg24).OK) ∧
  (∀ (k0_h3 : k0_cond3 k0_t1 = 1#1), (k0_t7_loop arg24).OK)
theorem k0_t4_ok : ∀ (k0_t1 : Fin k0_t1_loop.trips) (arg24 : BitVec 32) (k0_hw3 : k0_chk3 k0_t1 arg24), ∀ (k0_h3 : k0_cond3 k0_t1 = 1#1), (k0_t4_loop arg24).OK := fun k0_t1 arg24 k0_hw3 k0_h3 => k0_hw3.1 k0_h3
theorem k0_off7_inb : ∀ (k0_t1 : Fin k0_t1_loop.trips) (arg24 : BitVec 32) (k0_hw3 : k0_chk3 k0_t1 arg24) (k0_t4 : Fin (k0_t4_loop arg24).trips), ∀ (k0_h3 : k0_cond3 k0_t1 = 1#1), ∀ a, (k0_off7 arg24 k0_t4) a + S16.size a ≤ S272.size a := fun k0_t1 arg24 k0_hw3 k0_t4 k0_h3 => k0_hw3.2.1 k0_t4 k0_h3
theorem k0_t5_ok : ∀ (k0_t1 : Fin k0_t1_loop.trips) (arg24 : BitVec 32) (k0_hw3 : k0_chk3 k0_t1 arg24), ∀ (k0_h3 : k0_cond3 k0_t1 = 1#1), (k0_t5_loop arg24).OK := fun k0_t1 arg24 k0_hw3 k0_h3 => k0_hw3.2.2.1 k0_h3
theorem k0_off11_inb : ∀ (k0_t1 : Fin k0_t1_loop.trips) (arg24 : BitVec 32) (k0_hw3 : k0_chk3 k0_t1 arg24) (k0_t5 : Fin (k0_t5_loop arg24).trips), ∀ (k0_h3 : k0_cond3 k0_t1 = 1#1), ∀ a, (k0_off11 arg24 k0_t5) a + S16.size a ≤ S272.size a := fun k0_t1 arg24 k0_hw3 k0_t5 k0_h3 => k0_hw3.2.2.2.1 k0_t5 k0_h3
theorem k0_t6_ok : ∀ (k0_t1 : Fin k0_t1_loop.trips) (arg24 : BitVec 32) (k0_hw3 : k0_chk3 k0_t1 arg24), ∀ (k0_h3 : k0_cond3 k0_t1 = 1#1), (k0_t6_loop arg24).OK := fun k0_t1 arg24 k0_hw3 k0_h3 => k0_hw3.2.2.2.2.1 k0_h3
theorem k0_t7_ok : ∀ (k0_t1 : Fin k0_t1_loop.trips) (arg24 : BitVec 32) (k0_hw3 : k0_chk3 k0_t1 arg24), ∀ (k0_h3 : k0_cond3 k0_t1 = 1#1), (k0_t7_loop arg24).OK := fun k0_t1 arg24 k0_hw3 k0_h3 => k0_hw3.2.2.2.2.2 k0_h3

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_1 : BitVec 32 := 0#32
  let c1_i32 : BitVec 32 := 1#32
  let arg22 : BitVec 32 := Scf.iv c0_i32_1 c1_i32 k0_t1
  let c2_i32_3 : BitVec 32 := 2#32
  let v6 : BitVec 32 := Scalar.muli arg22 c2_i32_3
  let c0_i32_4 : BitVec 32 := 0#32
  let v7 : BitVec 32 := Scalar.addi v6 c0_i32_4
  let c1_i32_8 : BitVec 32 := 1#32
  let v15 : BitVec 32 := Scalar.subi v7 c1_i32_8
  let c256_i32 : BitVec 32 := 256#32
  let v36 : BitVec 32 := Scalar.muli v15 c256_i32
  let v37 : BitVec 32 := Scalar.addi v2 v36
  let c0_i32_39 : BitVec 32 := 0#32
  ![v37.toNat, 0]
def k0_cond4 (k0_t1 : Fin k0_t1_loop.trips) : BitVec 1 :=
  let c0_i32_1 : BitVec 32 := 0#32
  let c1_i32 : BitVec 32 := 1#32
  let arg22 : BitVec 32 := Scf.iv c0_i32_1 c1_i32 k0_t1
  let c2_i32_12 : BitVec 32 := 2#32
  let v21 : BitVec 32 := Scalar.muli arg22 c2_i32_12
  let c1_i32_13 : BitVec 32 := 1#32
  let v22 : BitVec 32 := Scalar.addi v21 c1_i32_13
  let c2_i32_14 : BitVec 32 := 2#32
  let v23 : BitVec 1 := Scalar.cmpi .sge v22 c2_i32_14
  let v24 : BitVec 32 := Scalar.extui v23
  let c0_i32_15 : BitVec 32 := 0#32
  let v25 : BitVec 1 := Scalar.cmpi .ne v24 c0_i32_15
  v25

def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_22 : BitVec 32 := 0#32
  ![v2.toNat, 0]
def k0_cond5 (k0_t1 : Fin k0_t1_loop.trips) : BitVec 1 :=
  let c0_i32_1 : BitVec 32 := 0#32
  let c1_i32 : BitVec 32 := 1#32
  let arg22 : BitVec 32 := Scf.iv c0_i32_1 c1_i32 k0_t1
  let c2_i32_12 : BitVec 32 := 2#32
  let v21 : BitVec 32 := Scalar.muli arg22 c2_i32_12
  let c1_i32_13 : BitVec 32 := 1#32
  let v22 : BitVec 32 := Scalar.addi v21 c1_i32_13
  let c100_i32_16 : BitVec 32 := 100#32
  let v26 : BitVec 1 := Scalar.cmpi .slt v22 c100_i32_16
  let v27 : BitVec 32 := Scalar.extui v26
  let c0_i32_17 : BitVec 32 := 0#32
  let v28 : BitVec 1 := Scalar.cmpi .ne v27 c0_i32_17
  v28

@[reducible] def k0_t8_loop : Scf.Loop 32 :=
  let c0_i32_23 : BitVec 32 := 0#32
  let c8_i32 : BitVec 32 := 8#32
  let v36 : BitVec 32 := Scalar.addi c0_i32_23 c8_i32
  let c1_i32_24 : BitVec 32 := 1#32
  ⟨c0_i32_23, v36, c1_i32_24⟩
def k0_off17 (k0_t1 : Fin k0_t1_loop.trips) (k0_t8 : Fin k0_t8_loop.trips) : Fin 2 → Nat :=
  let c2_i32_37 : BitVec 32 := 2#32
  let c0_i32_1 : BitVec 32 := 0#32
  let c1_i32 : BitVec 32 := 1#32
  let arg22 : BitVec 32 := Scf.iv c0_i32_1 c1_i32 k0_t1
  let c2_i32_12 : BitVec 32 := 2#32
  let v21 : BitVec 32 := Scalar.muli arg22 c2_i32_12
  let c1_i32_13 : BitVec 32 := 1#32
  let v22 : BitVec 32 := Scalar.addi v21 c1_i32_13
  let v44 : BitVec 32 := Scalar.muli c2_i32_37 v22
  let c0_i32_38 : BitVec 32 := 0#32
  let v45 : BitVec 32 := Scalar.addi v44 c0_i32_38
  let v48 : Index := Scalar.indexCast v45
  let c0_i32_23 : BitVec 32 := 0#32
  let c1_i32_24 : BitVec 32 := 1#32
  let arg25 : BitVec 32 := Scf.iv c0_i32_23 c1_i32_24 k0_t8
  let c0_i32_39 : BitVec 32 := 0#32
  let v46 : BitVec 32 := Scalar.subi arg25 c0_i32_39
  let c16_i32 : BitVec 32 := 16#32
  let v47 : BitVec 32 := Scalar.muli v46 c16_i32
  let v49 : Index := Scalar.indexCast v47
  ![v48.toNat, v49.toNat]
def k0_off18 (k0_t8 : Fin k0_t8_loop.trips) : Fin 1 → Nat :=
  let c0_i32_23 : BitVec 32 := 0#32
  let c1_i32_24 : BitVec 32 := 1#32
  let arg25 : BitVec 32 := Scf.iv c0_i32_23 c1_i32_24 k0_t8
  let c0_i32_42 : BitVec 32 := 0#32
  let v66 : BitVec 32 := Scalar.subi arg25 c0_i32_42
  let c16_i32_43 : BitVec 32 := 16#32
  let v67 : BitVec 32 := Scalar.muli v66 c16_i32_43
  let v68 : Index := Scalar.indexCast v67
  ![v68.toNat]

def k0_chk8 (k0_t1 : Fin k0_t1_loop.trips) (v78 : IVec S16 32) : Prop :=
  (∀ (k0_h5 : k0_cond5 k0_t1 = 1#1), ∀ a x, ((![v78] : Fin 1 → IVec S16 32) a x).toNat < S272.size a) ∧
  (∀ (k0_h5 : k0_cond5 k0_t1 = 1#1), ∀ a x, ((![v78] : Fin 1 → IVec S16 32) a x).toNat < S272.size a)
theorem k0_idx5_inb : ∀ (k0_t1 : Fin k0_t1_loop.trips) (v78 : IVec S16 32) (k0_hw8 : k0_chk8 k0_t1 v78), ∀ (k0_h5 : k0_cond5 k0_t1 = 1#1), ∀ a x, ((![v78] : Fin 1 → IVec S16 32) a x).toNat < S272.size a := fun k0_t1 v78 k0_hw8 k0_h5 => k0_hw8.1 k0_h5
theorem k0_idx6_inb : ∀ (k0_t1 : Fin k0_t1_loop.trips) (v78 : IVec S16 32) (k0_hw8 : k0_chk8 k0_t1 v78), ∀ (k0_h5 : k0_cond5 k0_t1 = 1#1), ∀ a x, ((![v78] : Fin 1 → IVec S16 32) a x).toNat < S272.size a := fun k0_t1 v78 k0_hw8 k0_h5 => k0_hw8.2 k0_h5
@[reducible] def k0_t9_loop : Scf.Loop 32 :=
  let c8_i32_26 : BitVec 32 := 8#32
  let c8_i32_27 : BitVec 32 := 8#32
  let v38 : BitVec 32 := Scalar.addi c8_i32_26 c8_i32_27
  let c1_i32_28 : BitVec 32 := 1#32
  ⟨c8_i32_26, v38, c1_i32_28⟩
def k0_off19 (k0_t1 : Fin k0_t1_loop.trips) (k0_t9 : Fin k0_t9_loop.trips) : Fin 2 → Nat :=
  let c2_i32_37 : BitVec 32 := 2#32
  let c0_i32_1 : BitVec 32 := 0#32
  let c1_i32 : BitVec 32 := 1#32
  let arg22 : BitVec 32 := Scf.iv c0_i32_1 c1_i32 k0_t1
  let c2_i32_12 : BitVec 32 := 2#32
  let v21 : BitVec 32 := Scalar.muli arg22 c2_i32_12
  let c1_i32_13 : BitVec 32 := 1#32
  let v22 : BitVec 32 := Scalar.addi v21 c1_i32_13
  let v44 : BitVec 32 := Scalar.muli c2_i32_37 v22
  let c1_i32_38 : BitVec 32 := 1#32
  let v45 : BitVec 32 := Scalar.addi v44 c1_i32_38
  let v48 : Index := Scalar.indexCast v45
  let c8_i32_26 : BitVec 32 := 8#32
  let c1_i32_28 : BitVec 32 := 1#32
  let arg25 : BitVec 32 := Scf.iv c8_i32_26 c1_i32_28 k0_t9
  let c8_i32_39 : BitVec 32 := 8#32
  let v46 : BitVec 32 := Scalar.subi arg25 c8_i32_39
  let c16_i32 : BitVec 32 := 16#32
  let v47 : BitVec 32 := Scalar.muli v46 c16_i32
  let v49 : Index := Scalar.indexCast v47
  ![v48.toNat, v49.toNat]
def k0_off20 (k0_t9 : Fin k0_t9_loop.trips) : Fin 1 → Nat :=
  let c8_i32_26 : BitVec 32 := 8#32
  let c1_i32_28 : BitVec 32 := 1#32
  let arg25 : BitVec 32 := Scf.iv c8_i32_26 c1_i32_28 k0_t9
  let c8_i32_42 : BitVec 32 := 8#32
  let v66 : BitVec 32 := Scalar.subi arg25 c8_i32_42
  let c16_i32_43 : BitVec 32 := 16#32
  let v67 : BitVec 32 := Scalar.muli v66 c16_i32_43
  let v68 : Index := Scalar.indexCast v67
  ![v68.toNat]

def k0_chk9 (k0_t1 : Fin k0_t1_loop.trips) (v78 : IVec S16 32) : Prop :=
  (∀ (k0_h5 : k0_cond5 k0_t1 = 1#1), ∀ a x, ((![v78] : Fin 1 → IVec S16 32) a x).toNat < S272.size a) ∧
  (∀ (k0_h5 : k0_cond5 k0_t1 = 1#1), ∀ a x, ((![v78] : Fin 1 → IVec S16 32) a x).toNat < S272.size a)
theorem k0_idx7_inb : ∀ (k0_t1 : Fin k0_t1_loop.trips) (v78 : IVec S16 32) (k0_hw9 : k0_chk9 k0_t1 v78), ∀ (k0_h5 : k0_cond5 k0_t1 = 1#1), ∀ a x, ((![v78] : Fin 1 → IVec S16 32) a x).toNat < S272.size a := fun k0_t1 v78 k0_hw9 k0_h5 => k0_hw9.1 k0_h5
theorem k0_idx8_inb : ∀ (k0_t1 : Fin k0_t1_loop.trips) (v78 : IVec S16 32) (k0_hw9 : k0_chk9 k0_t1 v78), ∀ (k0_h5 : k0_cond5 k0_t1 = 1#1), ∀ a x, ((![v78] : Fin 1 → IVec S16 32) a x).toNat < S272.size a := fun k0_t1 v78 k0_hw9 k0_h5 => k0_hw9.2 k0_h5
def k0_cond6 (k0_t1 : Fin k0_t1_loop.trips) : BitVec 1 :=
  let c0_i32_1 : BitVec 32 := 0#32
  let c1_i32 : BitVec 32 := 1#32
  let arg22 : BitVec 32 := Scf.iv c0_i32_1 c1_i32 k0_t1
  let c2_i32_12 : BitVec 32 := 2#32
  let v21 : BitVec 32 := Scalar.muli arg22 c2_i32_12
  let c1_i32_13 : BitVec 32 := 1#32
  let v22 : BitVec 32 := Scalar.addi v21 c1_i32_13
  let c1_i32_18 : BitVec 32 := 1#32
  let v30 : BitVec 32 := Scalar.subi v22 c1_i32_18
  let c0_i32_19 : BitVec 32 := 0#32
  let v31 : BitVec 1 := Scalar.cmpi .sge v30 c0_i32_19
  let c100_i32_20 : BitVec 32 := 100#32
  let v32 : BitVec 1 := Scalar.cmpi .slt v30 c100_i32_20
  let v33 : BitVec 1 := Scalar.andi v31 v32
  let v34 : BitVec 32 := Scalar.extui v33
  let c0_i32_21 : BitVec 32 := 0#32
  let v35 : BitVec 1 := Scalar.cmpi .ne v34 c0_i32_21
  v35

@[reducible] def k0_t10_loop (v14 : BitVec 32) : Scf.Loop 32 :=
  let c0_i32_29 : BitVec 32 := 0#32
  let v42 : BitVec 32 := Scalar.subi v14 c0_i32_29
  let c1_i32_31 : BitVec 32 := 1#32
  let v44 : BitVec 32 := Scalar.divsi v42 c1_i32_31
  let v45 : BitVec 32 := Scalar.muli v44 c1_i32_31
  let v46 : BitVec 32 := Scalar.addi c0_i32_29 v45
  let c1_i32_32 : BitVec 32 := 1#32
  ⟨c0_i32_29, v46, c1_i32_32⟩

def k0_off21 (v14 : BitVec 32) (k0_t10 : Fin (k0_t10_loop v14).trips) : Fin 1 → Nat :=
  let c0_i32_29 : BitVec 32 := 0#32
  let c1_i32_32 : BitVec 32 := 1#32
  let arg25 : BitVec 32 := Scf.iv c0_i32_29 c1_i32_32 k0_t10
  let v58 : Index := Scalar.indexCast arg25
  ![v58.toNat]
def k0_off22 (v61 : BitVec 32) : Fin 2 → Nat :=
  let c0_i32_41 : BitVec 32 := 0#32
  ![v61.toNat, 0]

def k0_off23 (v65 : BitVec 32) : Fin 2 → Nat :=
  let c0_i32_42 : BitVec 32 := 0#32
  ![v65.toNat, 0]

def k0_chk12 (k0_t1 : Fin k0_t1_loop.trips) (v65 : BitVec 32) : Prop :=
  (∀ (k0_h6 : k0_cond6 k0_t1 = 1#1), ∀ a, (k0_off23 v65) a + S1x128.size a ≤ S1000x128.size a)
theorem k0_off23_inb : ∀ (k0_t1 : Fin k0_t1_loop.trips) (v65 : BitVec 32) (k0_hw12 : k0_chk12 k0_t1 v65), ∀ (k0_h6 : k0_cond6 k0_t1 = 1#1), ∀ a, (k0_off23 v65) a + S1x128.size a ≤ S1000x128.size a := fun k0_t1 v65 k0_hw12 k0_h6 => k0_hw12 k0_h6

def k0_off24 (v61 : BitVec 32) : Fin 2 → Nat :=
  let c0_i32_43 : BitVec 32 := 0#32
  ![v61.toNat, 0]

def k0_chk11 (k0_t1 : Fin k0_t1_loop.trips) (v61 : BitVec 32) : Prop :=
  (∀ (k0_h6 : k0_cond6 k0_t1 = 1#1), ∀ a, (k0_off22 v61) a + S1x128.size a ≤ S256x128.size a) ∧
  (∀ (k0_h6 : k0_cond6 k0_t1 = 1#1), ∀ a, (k0_off24 v61) a + S1x128.size a ≤ S256x128.size a)
theorem k0_off22_inb : ∀ (k0_t1 : Fin k0_t1_loop.trips) (v61 : BitVec 32) (k0_hw11 : k0_chk11 k0_t1 v61), ∀ (k0_h6 : k0_cond6 k0_t1 = 1#1), ∀ a, (k0_off22 v61) a + S1x128.size a ≤ S256x128.size a := fun k0_t1 v61 k0_hw11 k0_h6 => k0_hw11.1 k0_h6
theorem k0_off24_inb : ∀ (k0_t1 : Fin k0_t1_loop.trips) (v61 : BitVec 32) (k0_hw11 : k0_chk11 k0_t1 v61), ∀ (k0_h6 : k0_cond6 k0_t1 = 1#1), ∀ a, (k0_off24 v61) a + S1x128.size a ≤ S256x128.size a := fun k0_t1 v61 k0_hw11 k0_h6 => k0_hw11.2 k0_h6

@[reducible] def k0_t11_loop (v14 : BitVec 32) : Scf.Loop 32 :=
  let c0_i32_29 : BitVec 32 := 0#32
  let v42 : BitVec 32 := Scalar.subi v14 c0_i32_29
  let c1_i32_31 : BitVec 32 := 1#32
  let v44 : BitVec 32 := Scalar.divsi v42 c1_i32_31
  let v45 : BitVec 32 := Scalar.muli v44 c1_i32_31
  let v46 : BitVec 32 := Scalar.addi c0_i32_29 v45
  let v43 : BitVec 32 := Scalar.addi c0_i32_29 v42
  let c1_i32_33 : BitVec 32 := 1#32
  ⟨v46, v43, c1_i32_33⟩
def k0_off25 (v14 : BitVec 32) (k0_t11 : Fin (k0_t11_loop v14).trips) : Fin 1 → Nat :=
  let c0_i32_29 : BitVec 32 := 0#32
  let v42 : BitVec 32 := Scalar.subi v14 c0_i32_29
  let c1_i32_31 : BitVec 32 := 1#32
  let v44 : BitVec 32 := Scalar.divsi v42 c1_i32_31
  let v45 : BitVec 32 := Scalar.muli v44 c1_i32_31
  let v46 : BitVec 32 := Scalar.addi c0_i32_29 v45
  let c1_i32_33 : BitVec 32 := 1#32
  let arg25 : BitVec 32 := Scf.iv v46 c1_i32_33 k0_t11
  let v58 : Index := Scalar.indexCast arg25
  ![v58.toNat]
def k0_off26 (v61 : BitVec 32) : Fin 2 → Nat :=
  let c0_i32_41 : BitVec 32 := 0#32
  ![v61.toNat, 0]

def k0_off27 (v65 : BitVec 32) : Fin 2 → Nat :=
  let c0_i32_42 : BitVec 32 := 0#32
  ![v65.toNat, 0]

def k0_chk14 (k0_t1 : Fin k0_t1_loop.trips) (v65 : BitVec 32) : Prop :=
  (∀ (k0_h6 : k0_cond6 k0_t1 = 1#1), ∀ a, (k0_off27 v65) a + S1x128.size a ≤ S1000x128.size a)
theorem k0_off27_inb : ∀ (k0_t1 : Fin k0_t1_loop.trips) (v65 : BitVec 32) (k0_hw14 : k0_chk14 k0_t1 v65), ∀ (k0_h6 : k0_cond6 k0_t1 = 1#1), ∀ a, (k0_off27 v65) a + S1x128.size a ≤ S1000x128.size a := fun k0_t1 v65 k0_hw14 k0_h6 => k0_hw14 k0_h6

def k0_off28 (v61 : BitVec 32) : Fin 2 → Nat :=
  let c0_i32_43 : BitVec 32 := 0#32
  ![v61.toNat, 0]

def k0_chk13 (k0_t1 : Fin k0_t1_loop.trips) (v61 : BitVec 32) : Prop :=
  (∀ (k0_h6 : k0_cond6 k0_t1 = 1#1), ∀ a, (k0_off26 v61) a + S1x128.size a ≤ S256x128.size a) ∧
  (∀ (k0_h6 : k0_cond6 k0_t1 = 1#1), ∀ a, (k0_off28 v61) a + S1x128.size a ≤ S256x128.size a)
theorem k0_off26_inb : ∀ (k0_t1 : Fin k0_t1_loop.trips) (v61 : BitVec 32) (k0_hw13 : k0_chk13 k0_t1 v61), ∀ (k0_h6 : k0_cond6 k0_t1 = 1#1), ∀ a, (k0_off26 v61) a + S1x128.size a ≤ S256x128.size a := fun k0_t1 v61 k0_hw13 k0_h6 => k0_hw13.1 k0_h6
theorem k0_off28_inb : ∀ (k0_t1 : Fin k0_t1_loop.trips) (v61 : BitVec 32) (k0_hw13 : k0_chk13 k0_t1 v61), ∀ (k0_h6 : k0_cond6 k0_t1 = 1#1), ∀ a, (k0_off28 v61) a + S1x128.size a ≤ S256x128.size a := fun k0_t1 v61 k0_hw13 k0_h6 => k0_hw13.2 k0_h6

@[reducible] def k0_t12_loop (v14 : BitVec 32) : Scf.Loop 32 :=
  let c0_i32_34 : BitVec 32 := 0#32
  let v49 : BitVec 32 := Scalar.subi v14 c0_i32_34
  let c1_i32_36 : BitVec 32 := 1#32
  let v51 : BitVec 32 := Scalar.divsi v49 c1_i32_36
  let v52 : BitVec 32 := Scalar.muli v51 c1_i32_36
  let v53 : BitVec 32 := Scalar.addi c0_i32_34 v52
  let c1_i32_37 : BitVec 32 := 1#32
  ⟨c0_i32_34, v53, c1_i32_37⟩
@[reducible] def k0_t13_loop (v14 : BitVec 32) : Scf.Loop 32 :=
  let c0_i32_34 : BitVec 32 := 0#32
  let v49 : BitVec 32 := Scalar.subi v14 c0_i32_34
  let c1_i32_36 : BitVec 32 := 1#32
  let v51 : BitVec 32 := Scalar.divsi v49 c1_i32_36
  let v52 : BitVec 32 := Scalar.muli v51 c1_i32_36
  let v53 : BitVec 32 := Scalar.addi c0_i32_34 v52
  let v50 : BitVec 32 := Scalar.addi c0_i32_34 v49
  let c1_i32_38 : BitVec 32 := 1#32
  ⟨v53, v50, c1_i32_38⟩

def k0_chk10 (k0_t1 : Fin k0_t1_loop.trips) (v14 : BitVec 32) : Prop :=
  (∀ (k0_h6 : k0_cond6 k0_t1 = 1#1), (k0_t10_loop v14).OK) ∧
  (∀ k0_t10 : Fin (k0_t10_loop v14).trips, ∀ (k0_h6 : k0_cond6 k0_t1 = 1#1), ∀ a, (k0_off21 v14 k0_t10) a + S16.size a ≤ S272.size a) ∧
  (∀ (k0_h6 : k0_cond6 k0_t1 = 1#1), (k0_t11_loop v14).OK) ∧
  (∀ k0_t11 : Fin (k0_t11_loop v14).trips, ∀ (k0_h6 : k0_cond6 k0_t1 = 1#1), ∀ a, (k0_off25 v14 k0_t11) a + S16.size a ≤ S272.size a) ∧
  (∀ (k0_h6 : k0_cond6 k0_t1 = 1#1), (k0_t12_loop v14).OK) ∧
  (∀ (k0_h6 : k0_cond6 k0_t1 = 1#1), (k0_t13_loop v14).OK)
theorem k0_t10_ok : ∀ (k0_t1 : Fin k0_t1_loop.trips) (v14 : BitVec 32) (k0_hw10 : k0_chk10 k0_t1 v14), ∀ (k0_h6 : k0_cond6 k0_t1 = 1#1), (k0_t10_loop v14).OK := fun k0_t1 v14 k0_hw10 k0_h6 => k0_hw10.1 k0_h6
theorem k0_off21_inb : ∀ (k0_t1 : Fin k0_t1_loop.trips) (v14 : BitVec 32) (k0_hw10 : k0_chk10 k0_t1 v14) (k0_t10 : Fin (k0_t10_loop v14).trips), ∀ (k0_h6 : k0_cond6 k0_t1 = 1#1), ∀ a, (k0_off21 v14 k0_t10) a + S16.size a ≤ S272.size a := fun k0_t1 v14 k0_hw10 k0_t10 k0_h6 => k0_hw10.2.1 k0_t10 k0_h6
theorem k0_t11_ok : ∀ (k0_t1 : Fin k0_t1_loop.trips) (v14 : BitVec 32) (k0_hw10 : k0_chk10 k0_t1 v14), ∀ (k0_h6 : k0_cond6 k0_t1 = 1#1), (k0_t11_loop v14).OK := fun k0_t1 v14 k0_hw10 k0_h6 => k0_hw10.2.2.1 k0_h6
theorem k0_off25_inb : ∀ (k0_t1 : Fin k0_t1_loop.trips) (v14 : BitVec 32) (k0_hw10 : k0_chk10 k0_t1 v14) (k0_t11 : Fin (k0_t11_loop v14).trips), ∀ (k0_h6 : k0_cond6 k0_t1 = 1#1), ∀ a, (k0_off25 v14 k0_t11) a + S16.size a ≤ S272.size a := fun k0_t1 v14 k0_hw10 k0_t11 k0_h6 => k0_hw10.2.2.2.1 k0_t11 k0_h6
theorem k0_t12_ok : ∀ (k0_t1 : Fin k0_t1_loop.trips) (v14 : BitVec 32) (k0_hw10 : k0_chk10 k0_t1 v14), ∀ (k0_h6 : k0_cond6 k0_t1 = 1#1), (k0_t12_loop v14).OK := fun k0_t1 v14 k0_hw10 k0_h6 => k0_hw10.2.2.2.2.1 k0_h6
theorem k0_t13_ok : ∀ (k0_t1 : Fin k0_t1_loop.trips) (v14 : BitVec 32) (k0_hw10 : k0_chk10 k0_t1 v14), ∀ (k0_h6 : k0_cond6 k0_t1 = 1#1), (k0_t13_loop v14).OK := fun k0_t1 v14 k0_hw10 k0_h6 => k0_hw10.2.2.2.2.2 k0_h6

def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_1 : BitVec 32 := 0#32
  let c1_i32 : BitVec 32 := 1#32
  let arg22 : BitVec 32 := Scf.iv c0_i32_1 c1_i32 k0_t1
  let c2_i32_12 : BitVec 32 := 2#32
  let v21 : BitVec 32 := Scalar.muli arg22 c2_i32_12
  let c1_i32_13 : BitVec 32 := 1#32
  let v22 : BitVec 32 := Scalar.addi v21 c1_i32_13
  let c1_i32_18 : BitVec 32 := 1#32
  let v30 : BitVec 32 := Scalar.subi v22 c1_i32_18
  let c256_i32 : BitVec 32 := 256#32
  let v36 : BitVec 32 := Scalar.muli v30 c256_i32
  let v37 : BitVec 32 := Scalar.addi v2 v36
  let c0_i32_39 : BitVec 32 := 0#32
  ![v37.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S1000x128 : Shape := ⟨2, ![1000, 128]⟩
abbrev S99000x128 : Shape := ⟨2, ![99000, 128]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000x128, .f32⟩
  | .hbm, ⟨2, _⟩ => ⟨S99000x128, .f32⟩
  | .hbm, ⟨3, _⟩ => ⟨S100000x128, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x128, .f32⟩
  | .hbm, ⟨23, _⟩ => ⟨S4096x200x128, .i1⟩
  | .hbm, ⟨24, _⟩ => ⟨S_, .f32⟩
  | .hbm, ⟨25, _⟩ => ⟨S4096x200x128, .f32⟩
  | .hbm, ⟨26, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Own.lean ====
/-
  Owning part of a buffer through a memref, with the values it holds: the small vocabulary the rest of the proof is
  written in. `part c m S q g` is: thread `c` holds share `q` of the elements of memref `m` at the indices `S`, and
  they read as `g`. It splits and joins along disjoint index sets, and the memory operations of a vector subcore have
  one rule each over it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

/-- The ghost state: the launch handshakes' rounds and the transfers' counters. -/
abbrev UH : Type := URounds (GSem nD τ sig) ℕ
abbrev UU : Type := UH × Counters

variable {F : FTy → Type}

local notation "𝕄" => MT nD τ sig (HIx 1) (Elt F) ℕ UU ℕ

abbrev 𝒱₀ : Variants := Variants.none

variable {c : Thread nD τ} {sp : Space} {s : Shape} {e : EltTy}

/-- Share `q` of the elements of `m` at the indices `S`, reading as `g`. -/
def part (c : Thread nD τ) (m : Memref sig c.2.kind sp s e) (S : Finset s.Idx) (q : PosShare TreeShare) (g : s.Idx → Elt F e) : sProp 𝕄 :=
  iprop(∃ f : Buf (Elt F) (m.view.loc c), ⌜∀ x ∈ S, m.view.read (Elt F) f x = g x⌝ ∗ m.view.loc c ↦[m.view.setOn S]{q} f)

/-- All of `m` at share `q`, reading as `g`. -/
abbrev holds (c : Thread nD τ) (m : Memref sig c.2.kind sp s e) (q : PosShare TreeShare) (g : s.Idx → Elt F e) : sProp 𝕄 :=
  part c m Finset.univ q g

instance part_storable (m : Memref sig c.2.kind sp s e) (S : Finset s.Idx) (q : PosShare TreeShare) (g : s.Idx → Elt F e) :
    BI.Storable (upEmb : UEmb _ 𝕄) (part c m S q g) := by unfold part; infer_instance

variable {m : Memref sig c.2.kind sp s e} {S S' : Finset s.Idx} {q : PosShare TreeShare} {g g' : s.Idx → Elt F e}

theorem part_intro (f : Buf (Elt F) (m.view.loc c)) (h : ∀ x ∈ S, m.view.read (Elt F) f x = g x) :
    (m.view.loc c ↦[m.view.setOn S]{q} f : sProp 𝕄) ⊢ part c m S q g := by
  iintro H; unfold part; iexists f; isplitr; · ipureintro; exact h
  iexact H

theorem part_congr (h : ∀ x ∈ S, g x = g' x) : (part c m S q g : sProp 𝕄) ⊢ part c m S q g' := by
  unfold part; iintro ⟨%f, %hf, H⟩; iexists f; isplitr; · ipureintro; exact fun x hx => (hf x hx).trans (h x hx)
  iexact H

theorem part_set (h : S = S') : (part c m S q g : sProp 𝕄) = part c m S' q g := by rw [h]

theorem part_split (h : Disjoint S S') : (part c m (S ∪ S') q g : sProp 𝕄) ⊢ iprop(part c m S q g ∗ part c m S' q g) := by
  unfold part; iintro ⟨%f, %hf, H⟩
  rw [show m.view.setOn (S ∪ S') = m.view.setOn S ∪ m.view.setOn S' from Finset.map_union ..]
  have hd : Disjoint (m.view.setOn S) (m.view.setOn S') := (Finset.disjoint_map _).mpr h
  ihave H := (pointsTo_union (ℓ := m.view.loc c) (f := f) (q := q) hd).1 $$ H
  icases H with ⟨H, H'⟩
  isplitl [H]
  · iexists f; isplitr; · ipureintro; exact fun x hx => hf x (Finset.mem_union_left _ hx)
    iexact H
  · iexists f; isplitr; · ipureintro; exact fun x hx => hf x (Finset.mem_union_right _ hx)
    iexact H'

theorem part_join (h : Disjoint S S') : iprop(part c m S q g ∗ part c m S' q g) ⊢ (part c m (S ∪ S') q g : sProp 𝕄) := by
  unfold part; iintro ⟨⟨%f, %hf, H⟩, ⟨%f', %hf', H'⟩⟩
  rw [show m.view.setOn (S ∪ S') = m.view.setOn S ∪ m.view.setOn S' from Finset.map_union ..]
  have hd : Disjoint (m.view.setOn S) (m.view.setOn S') := (Finset.disjoint_map _).mpr h
  ihave H := (pointsTo_join (ℓ := m.view.loc c) (f := f) (g := f') (q := q) hd) $$ [H H']
  · isplitl [H] <;> iassumption
  iexists _; isplitr
  swap; · iexact H
  ipureintro; intro x hx
  rcases Finset.mem_union.mp hx with hx | hx
  · rw [← hf x hx]
    refine View.read_congr_at x (Finset.piecewise_eq_of_notMem _ _ _ fun hn => ?_)
    exact Finset.disjoint_left.mp hd (m.view.mem_setOn.mpr hx) hn
  · rw [← hf' x hx]
    exact View.read_congr_at x (Finset.piecewise_eq_of_mem _ _ _ (m.view.mem_setOn.mpr hx))

/-- Along a family of disjoint index sets. -/
theorem part_bigSep {I : Type} [DecidableEq I] (J : Finset I) (hJ : J.Nonempty) (K : I → Finset s.Idx)
    (h : ∀ i ∈ J, ∀ j ∈ J, i ≠ j → Disjoint (K i) (K j)) :
    (part c m (J.biUnion K) q g : sProp 𝕄) = bigSep J fun i => part c m (K i) q g := by
  induction J using Finset.induction_on with
  | empty => exact absurd hJ Finset.not_nonempty_empty
  | insert t J ht ih =>
    rcases J.eq_empty_or_nonempty with rfl | hne
    · rw [show insert t (∅ : Finset I) = {t} from rfl, Finset.singleton_biUnion, bigSep_singleton]
    have hd : Disjoint (K t) (J.biUnion K) := (Finset.disjoint_biUnion_right _ _ _).mpr fun i hi =>
      h t (Finset.mem_insert_self ..) i (Finset.mem_insert_of_mem hi) fun he => ht (he ▸ hi)
    rw [Finset.biUnion_insert, bigSep_insert ht,
      ← ih hne fun i hi j hj => h i (Finset.mem_insert_of_mem hi) j (Finset.mem_insert_of_mem hj)]
    exact BI.Entails.antisymm (part_split hd) (part_join hd)

/-- A slice of `m` is `m` at the slice's indices. -/
theorem part_slice (r : Rect s) (hr : ∀ a, r.stride a = 1) (R : Finset r.shape.Idx) :
    (part c (m.slice r hr) R q (fun x => g (r.emb x)) : sProp 𝕄) = part c m (R.map r.emb) q g := by
  unfold part
  have hs : (m.slice r hr).view.setOn R = m.view.setOn (R.map r.emb) := (Finset.map_map ..).symm
  simp only [hs]
  congr 1; funext f; congr 2
  exact propext ⟨fun h x hx => by obtain ⟨y, hy, rfl⟩ := Finset.mem_map.mp hx; exact h y hy,
    fun h x hx => h _ (Finset.mem_map.mpr ⟨x, hx, rfl⟩)⟩

theorem holds_slice (r : Rect s) (hr : ∀ a, r.stride a = 1) :
    (holds c (m.slice r hr) q (fun x => g (r.emb x)) : sProp 𝕄) = part c m r.set q g := by
  rw [holds, part_slice, Rect.map_emb_univ]

theorem holds_squeeze (s' : Shape) (h : s.Squeezes s') :
    (holds c (m.squeeze s' h) q (fun x => g (Shape.reshapeEquiv h.numel_eq x)) : sProp 𝕄) = holds c m q g := by
  unfold holds part
  have hs : (m.squeeze s' h).view.setOn Finset.univ = m.view.setOn Finset.univ := by
    rw [View.setOn_univ, View.setOn_univ]; exact View.set_reshape ..
  simp only [hs]
  congr 1; funext f; congr 2
  refine propext ⟨fun hh x _ => ?_, fun hh x _ => hh _ (Finset.mem_univ _)⟩
  obtain ⟨y, rfl⟩ := (Shape.reshapeEquiv h.numel_eq).surjective x
  exact hh y (Finset.mem_univ _)

theorem part_share {q₁ q₂ : PosShare TreeShare} (h : q ∈ q₁ ·? q₂) :
    (part c m S q g : sProp 𝕄) ⊢ iprop(part c m S q₁ g ∗ part c m S q₂ g) := by
  unfold part; iintro ⟨%f, %hf, H⟩
  ihave H := (pointsTo_share h).1 $$ H
  icases H with ⟨H, H'⟩
  isplitl [H]
  · iexists f; isplitr; · ipureintro; exact hf
    iexact H
  · iexists f; isplitr; · ipureintro; exact hf
    iexact H'

end Cert.Proof
-- ==== Proof.Rules.lean ====
/-
  The memory operations of a vector subcore over `holds`: one rule for a load, a store, an indexed store, a copy and a
  wait, each at the head of a program. Also the thread's record of what it owes, in the one form every wait gives back.
-/
module

public import proofs.«01_k».proof.Proof.Own

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A program of thread `c` run from here on. -/
abbrev runs [FloatOps F] (c : Thread nD τ) {α : Type} (p : Prog (TpuEff nD τ sig (Elt F) Λ₀ c.2) α) (Q : α → sProp 𝕄) : sProp 𝕄 :=
  wp frame (wpE (defs₀ (F := F)) 𝒱₀ c none) Set.univ p Q

/-- What a thread needs at every wait, and has again after it: the evidence that it may wait, and its record of waits,
    all of them either in `W₀` or of no call. -/
def clock (c : Thread nD τ) (O : CellTallies nD τ sig (HIx 1)) (W₀ : Waits sig (HIx 1)) : sProp 𝕄 :=
  iprop(Transfers.MayWaits c (default : HIx 1) O ∗ ∃ W, ⌜∀ p ∈ W, p ∈ W₀ ∨ p.2 = none⌝ ∗ owes c O W)

theorem clock_intro (c : Thread nD τ) (O : CellTallies nD τ sig (HIx 1)) (W₀ : Waits sig (HIx 1)) :
    iprop(Transfers.MayWaits c (default : HIx 1) O ∗ owes c O W₀) ⊢ (clock c O W₀ : sProp 𝕄) := by
  unfold clock; iintro ⟨HM, HO⟩; isplitl [HM]; · iexact HM
  iexists W₀; isplitr; · ipureintro; exact fun p hp => .inl hp
  iexact HO

variable [FloatOps F] {c : Thread nD τ} {sp sp' : Space} {s : Shape} {e : EltTy} {α : Type}
variable {O : CellTallies nD τ sig (HIx 1)} {W₀ : Waits sig (HIx 1)}

theorem run_pure {Q : α → sProp 𝕄} (a : α) : Q a ⊢ runs c (pure a) Q := le_wp_ret _ _ _ a Q

theorem run_load {Q : α → sProp 𝕄} {cs : CoreSpace} {m : Memref sig c.2.kind cs s e} {r : Rect s} {hl : m.view.LoadsAt r.toLoadRect}
    {q : PosShare TreeShare} {g : s.Idx → Elt F e} {k : (r.shape.Idx → Elt F e) → Prog (TpuEff nD τ sig (Elt F) Λ₀ c.2) α} :
    (holds c m q g : sProp 𝕄)
      ⊢ iprop((holds c m q g -∗ runs c (k (fun y => g (r.emb y))) Q) -∗ runs c (Prog.lift (.load m r.toLoadRect hl) >>= k) Q) := by
  iintro H Hk
  unfold holds part
  icases H with ⟨%f, %hf, H⟩
  have hv : (m.access r).read (Elt F) f = fun y => g (r.emb y) := by
    funext y; exact hf _ (Finset.mem_univ _)
  iapply (wp_load_rect (defs := defs₀ (F := F)) 𝒱₀ c none Set.univ (m := m) (r := r) (hl := hl) (k := k) (q := q) (f := f)
    (S := m.view.setOn Finset.univ) (by rw [View.setOn_univ]; exact View.set_slice_subset ..)) $$ H
  rw [hv]
  iintro H; iapply Hk; iexists f; isplitr; · ipureintro; exact hf
  iexact H

theorem run_store {Q : α → sProp 𝕄} {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {g : s.Idx → Elt F e} {k : PUnit → Prog (TpuEff nD τ sig (Elt F) Λ₀ c.2) α} :
    (holds c m fullShare g : sProp 𝕄)
      ⊢ iprop((∀ g', ⌜(∀ y, g' (r.emb y) = w y) ∧ ∀ x ∉ r.set, g' x = g x⌝ -∗ holds c m fullShare g' -∗ runs c (k ⟨⟩) Q)
        -∗ runs c (Prog.lift (.store m r w Finset.univ hx hm) >>= k) Q) := by
  iintro H Hk
  unfold holds part
  icases H with ⟨%f, %hf, H⟩
  iapply (wp_store (defs := defs₀ (F := F)) 𝒱₀ c none Set.univ (m := m) (r := r) (hx := hx) (hm := hm) (k := k) (w := w) (f := f)
    (S := m.view.setOn Finset.univ) (by rw [View.setOn_univ, View.setOn_univ]; exact View.set_slice_subset ..)) $$ H
  iintro H
  iapply Hk $$ %(m.view.read (Elt F) ((m.access r).write (Elt F) f w Finset.univ)) [] [H]
  · ipureintro
    refine ⟨fun y => ?_, fun x hx => ?_⟩
    · exact congrFun (View.read_write_univ (v := m.access r) ..) y
    · rw [← hf x (Finset.mem_univ _)]
      refine View.read_congr_at x (View.write_of_not_mem _ _ _ fun hn => hx ?_)
      rw [View.setOn_univ, show (m.access r).set = r.set.map _ from View.set_slice ..] at hn
      exact (Finset.mem_map' _).mp hn
  · iexists _; isplitr
    swap; · iexact H
    ipureintro; exact fun x _ => rfl

theorem run_storeIdx {Q : α → sProp 𝕄} {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {g : s.Idx → Elt F e} {k : PUnit → Prog (TpuEff nD τ sig (Elt F) Λ₀ c.2) α} :
    (holds c m fullShare g : sProp 𝕄)
      ⊢ iprop((holds c m fullShare (storeIdx g idxs v mask add h) -∗ runs c (k ⟨⟩) Q)
        -∗ runs c (SparseCore.vectorStoreIdx m idxs v mask add h hs >>= k) Q) := by
  iintro H Hk
  unfold holds part
  icases H with ⟨%f, %hf, H⟩
  have hset : m.view.setOn Finset.univ = (m.access (.whole s)).set := by
    rw [View.setOn_univ]
    refine Eq.trans ?_ (View.set_slice ..).symm
    refine (congrArg (Finset.map _) ?_ : Finset.map m.view.emb Finset.univ = _)
    refine (Finset.eq_univ_iff_forall.mpr fun x => ?_).symm
    rw [← Rect.map_emb_univ]
    exact Finset.mem_map.mpr ⟨x, Finset.mem_univ _, Rect.emb_whole_apply s x⟩
  have hread : (m.access (.whole s)).read (Elt F) f = g := by
    funext x
    exact (congrArg (m.view.read (Elt F) f) (Rect.emb_whole_apply s x)).trans (hf x (Finset.mem_univ _))
  rw [hset]
  iapply (SparseCore.wp_vectorStoreIdx (defs := defs₀ (F := F)) 𝒱₀ c none Set.univ (base := m) (f := f)) $$ H
  iintro H; iapply Hk; iexists _; isplitr
  swap; · iexact H
  ipureintro; intro x _
  rw [hread]
  refine Eq.trans ?_ (congrFun (View.read_write_univ (v := m.access (.whole s)) f (storeIdx g idxs v mask add h)) x)
  exact (congrArg (m.view.read (Elt F) _) (Rect.emb_whole_apply s x)).symm

theorem run_assume {Q : α → sProp 𝕄} {P : Prop} {dec : Decidable P} {k : PLift P → Prog (TpuEff nD τ sig (Elt F) Λ₀ c.2) α} (h : P) :
    (runs c (k ⟨h⟩) Q : sProp 𝕄) ⊢ runs c (Prog.lift (.assume P dec) >>= k) Q :=
  wp_assume (defs := defs₀ (F := F)) 𝒱₀ c none Set.univ h

/-- A copy between two buffers of the chip: in flight, delivering the source and the destination reading as the source. -/
theorem run_dma {Q : α → sProp 𝕄} {src : Memref sig c.2.kind sp s e} {dst : Memref sig c.2.kind sp' s e} {sm : SemLoc sig}
    {hsrc : src.view.WordExact} {hdst : dst.view.WordExact} {hsem : DmaTarget.Typed (nD := nD) sp sm (.here dst)}
    {q : PosShare TreeShare} {g g₀ : s.Idx → Elt F e} {k : PUnit → Prog (TpuEff nD τ sig (Elt F) Λ₀ c.2) α}
    (N : ℕ) (hN : dst.view.amount sm = N) (hN0 : 0 < N) :
    iprop(holds c src q g ∗ holds c dst fullShare g₀ ∗ semVal (c, sm) 0)
      ⊢ iprop((Transfers.Flight countersEmb c sm (default : HIx 1) N iprop(holds c dst fullShare g ∗ holds c src q g) -∗ runs c (k ⟨⟩) Q)
        -∗ runs c (Prog.lift (.enqueueDma src (.here dst) sm hsrc hdst hsem) >>= k) Q) := by
  unfold holds part
  iintro ⟨⟨%f, %hf, Hs⟩, ⟨%f', %hf', Hd⟩, Hv⟩ Hk
  simp only [View.setOn_univ]
  iapply (Transfers.wp_dmaLocal (defs := defs₀ (F := F)) countersEmb 𝒱₀ c none (src := src) (dst := dst) (via := .same) (sm := sm) (k := k)
    (q := q) (fs := f) (Sd := dst.view.set) (fd := f') (default : HIx 1) N hN hN0 subset_rfl) $$ [Hs Hd Hv]
  · isplitl [Hs]; · iexact Hs
    isplitl [Hd] <;> iassumption
  iintro HF; iapply Hk
  iapply (Transfers.Flight_mono countersEmb c ?_) $$ HF
  iintro ⟨Hd, Hs⟩
  isplitl [Hd]
  · iexists _; isplitr
    swap; · iexact Hd
    ipureintro; intro x _
    exact (congrFun (View.read_write_univ (v := dst.view) ..) x).trans (hf x (Finset.mem_univ _))
  · iexists f; isplitr; · ipureintro; exact hf
    iexact Hs

/-- The wait for a copy in flight. -/
theorem run_wait {Q : α → sProp 𝕄} {s' : Shape} {e' : EltTy} {sem : DmaSem sig} {κ' : Kind}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (hN : dstw.view.dmaCredit = N) {D : sProp 𝕄} :
    iprop(Transfers.Flight countersEmb c (.dma sem) (default : HIx 1) N D ∗ clock c O W₀)
      ⊢ iprop((D -∗ semVal (c, .dma sem) 0 -∗ clock c O W₀ -∗ runs c (k ⟨⟩) Q)
        -∗ runs c (Prog.lift (.waitDma2 sem srcw dstw hsrc hdst) >>= k) Q) := by
  unfold clock
  iintro ⟨HF, ⟨#HM, ⟨%W, %hW, HO⟩⟩⟩ Hk
  ihave HM1 := (Transfers.MayWaits.elim (SemLoc.dma sem)) $$ HM
  iapply (Transfers.wp_waitLocalO (defs := defs₀ (F := F)) countersEmb 𝒱₀ c none (default : HIx 1) hN (k := k) (D := D) (O := O) (W := W)) $$ [HF HO HM1]
  · isplitl [HF]; · iexact HF
    isplitl [HO] <;> iassumption
  iintro ⟨HD, Hv, HO⟩
  iapply Hk $$ HD Hv
  isplitr; · iexact HM
  iexists _; isplitr
  swap; · iexact HO
  ipureintro; intro p hp
  rcases Finset.mem_insert.mp hp with rfl | hp
  · exact .inr rfl
  · exact hW p hp

/-- A wait for some of a batch's units, handing back nothing yet. -/
theorem run_waitSome {Q : α → sProp 𝕄} {s' : Shape} {e' : EltTy} {sem : DmaSem sig} {κ' : Kind} {n : ℕ}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (q : ℕ) (hJ : dstw.view.dmaCredit = q * N) {D : Fin n → sProp 𝕄}
    {j u : ℕ} (hu : u + q * N ≤ N * j) :
    iprop(Transfers.Batch countersEmb c (.dma sem) (default : HIx 1) N D j u ∗ clock c O W₀)
      ⊢ iprop((Transfers.Batch countersEmb c (.dma sem) (default : HIx 1) N D j (u + q * N) -∗ clock c O W₀ -∗ runs c (k ⟨⟩) Q)
        -∗ runs c (Prog.lift (.waitDma2 sem srcw dstw hsrc hdst) >>= k) Q) := by
  unfold clock
  iintro ⟨HF, ⟨#HM, ⟨%W, %hW, HO⟩⟩⟩ Hk
  ihave HM1 := (Transfers.MayWaits.elim (SemLoc.dma sem)) $$ HM
  iapply (Transfers.wp_waitBatchMulO (defs := defs₀ (F := F)) countersEmb 𝒱₀ c none (default : HIx 1) q hJ hu (k := k) (D := D) (O := O) (W := W)) $$ [HF HO HM1]
  · isplitl [HF]; · iexact HF
    isplitl [HO] <;> iassumption
  iintro ⟨HD, HO⟩
  iapply Hk $$ HD
  isplitr; · iexact HM
  iexists _; isplitr
  swap; · iexact HO
  ipureintro; intro p hp
  rcases Finset.mem_insert.mp hp with rfl | hp
  · exact .inr rfl
  · exact hW p hp

end Cert.Proof

end
-- ==== Proof.Words.lean ====
/-
  The arithmetic of one group of sixteen words: which are small (below 1000), the running number of small words, the
  compacted lists of their positions and of their values, and the list of rows to fetch.
-/
module

public import proofs.«01_k».proof.Proof.Own
public import Mathlib.Data.Nat.Count

@[expose] public section

noncomputable section

namespace Cert.Proof

open Cert.KernelIdeal Cert.KernelIdeal.Gen
open Idealize.ShloMosaic

variable {F : FTy → Type} [FloatOps F]

/-- Word `j` is a row of the small table. -/
abbrev tr (wd : ℕ → BitVec 32) (j : ℕ) : Prop := (wd j).toNat < 1000

/-- How many of the first `n` words are. -/
abbrev cnt (wd : ℕ → BitVec 32) (n : ℕ) : ℕ := Nat.count (tr wd) n

/-- The lists after `n` words: entry `cnt j` of the first names `j`, of the second holds word `j`, for each small word `j`. -/
def Lists (wd : ℕ → BitVec 32) (n : ℕ) (jl tl : S272.Idx → BitVec 32) : Prop :=
  ∀ (x : S272.Idx) (j : ℕ), j < n → tr wd j → (x 0).val = cnt wd j → jl x = BitVec.ofNat 32 j ∧ tl x = wd j

/-! ## A masked scatter whose set lanes name distinct indices -/

section Scatter

variable {s : Shape} {e : EltTy} {d : Fin 1 → Nat} (idxs : Fin s.rank → IVec ⟨1, d⟩ 32) (v : Vec F ⟨1, d⟩ e) (mask : IVec ⟨1, d⟩ 1)
  (h : ∀ a x, (idxs a x).toNat < s.size a)

/-- One lane's write. -/
def lane (g : Vec F s e) (k : Fin (d 0)) : Vec F s e :=
  if mask (Shape.ofLane k) = 1 then fun j => if (∀ a, (j a).val = (idxAt idxs h (Shape.ofLane k) a).val) then v (Shape.ofLane k) else g j else g

theorem storeIdx_eq (f : Vec F s e) : storeIdx f idxs v mask false h = (List.finRange (d 0)).foldl (lane idxs v mask h) f := by
  unfold storeIdx
  congr 1; funext g k; unfold lane
  simp only [Bool.false_eq_true, if_false]

theorem foldl_lane_miss (l : List (Fin (d 0))) (f : Vec F s e) (i : s.Idx)
    (hm : ∀ k ∈ l, mask (Shape.ofLane k) = 1 → i ≠ idxAt idxs h (Shape.ofLane k)) : l.foldl (lane idxs v mask h) f i = f i := by
  induction l generalizing f with
  | nil => rfl
  | cons a l ih =>
    rw [List.foldl_cons, ih _ fun k hk => hm k (List.mem_cons_of_mem _ hk)]
    unfold lane
    split_ifs with h1
    · refine if_neg fun h2 => hm a List.mem_cons_self h1 (funext fun b => Fin.ext (h2 b))
    · rfl

theorem foldl_lane_hit (l : List (Fin (d 0))) (hl : l.Nodup) (f : Vec F s e) (k : Fin (d 0)) (hk : k ∈ l)
    (hs : mask (Shape.ofLane k) = 1)
    (hinj : ∀ k', mask (Shape.ofLane k') = 1 → idxAt idxs h (Shape.ofLane k) = idxAt idxs h (Shape.ofLane k') → k = k') :
    l.foldl (lane idxs v mask h) f (idxAt idxs h (Shape.ofLane k)) = v (Shape.ofLane k) := by
  induction l generalizing f with
  | nil => exact absurd hk List.not_mem_nil
  | cons a l ih =>
    rw [List.foldl_cons]
    by_cases hka : k = a
    · subst hka
      rw [foldl_lane_miss]
      · unfold lane; rw [if_pos hs]; exact if_pos fun _ => rfl
      · intro k' hk' hs' he
        exact (List.nodup_cons.mp hl).1 (hinj k' hs' he ▸ hk')
    · exact ih (List.nodup_cons.mp hl).2 _ ((List.mem_cons.mp hk).resolve_left hka)

end Scatter

/-! ## The running number within a group -/

theorem scan_zero (v : IVec S16 32) : scan .sum v (Shape.ofLane (0 : Fin 16)) = v (Shape.ofLane (0 : Fin 16)) := rfl

theorem scan_succ (v : IVec S16 32) : ∀ k : Fin 15, scan .sum v (Shape.ofLane k.succ)
    = scan .sum v (Shape.ofLane k.castSucc) + v (Shape.ofLane k.succ) := by
  intro k; fin_cases k <;> rfl

section Group

variable {wd : ℕ → BitVec 32} {G : ℕ} {v50 : Vec F S1x16 .i32}

theorem slt_iff (x : BitVec 32) (hx : x.toNat < 100000) : x.slt 1000#32 = true ↔ x.toNat < 1000 := by
  rw [BitVec.slt_iff_toInt_lt, BitVec.toInt_eq_toNat_of_lt (by omega)]
  simp

theorem mask_iff (hw : ∀ k : Fin 16, k0_pay1 v50 (Shape.ofLane k) = wd (G + k)) (hr : ∀ k : Fin 16, (wd (G + k)).toNat < 100000) (k : Fin 16) :
    k0_pay2 v50 (Shape.ofLane k) = (if tr wd (G + k) then 1#1 else 0#1) := by
  have : k0_pay2 v50 (Shape.ofLane k) = BitVec.ofBool ((wd (G + k)).slt 1000#32) := by rw [← hw k]; rfl
  rw [this]
  by_cases h : tr wd (G + k)
  · rw [if_pos h, (slt_iff _ (hr k)).mpr h]; rfl
  · rw [if_neg h, Bool.eq_false_iff.mpr (mt (slt_iff _ (hr k)).mp h)]; rfl

theorem scan_cnt (hw : ∀ k : Fin 16, k0_pay1 v50 (Shape.ofLane k) = wd (G + k)) (hr : ∀ k : Fin 16, (wd (G + k)).toNat < 100000) (k : Fin 16) :
    BitVec.ofNat 32 (cnt wd G) + k0_pay5 v50 (Shape.ofLane k) = BitVec.ofNat 32 (cnt wd (G + k + 1)) := by
  have hb : ∀ k : Fin 16, BitVec.ofNat 32 (cnt wd (G + k)) + (extui 32 (k0_pay2 v50) natLt_1_32) (Shape.ofLane k) = BitVec.ofNat 32 (cnt wd (G + k + 1)) := by
    intro k
    have : (extui 32 (k0_pay2 v50) natLt_1_32) (Shape.ofLane k) = BitVec.ofNat 32 (if tr wd (G + k) then 1 else 0) := by
      show (k0_pay2 v50 (Shape.ofLane k)).setWidth 32 = _
      rw [mask_iff hw hr k]; split_ifs <;> rfl
    rw [this, cnt, cnt, Nat.count_succ, BitVec.ofNat_add]
  show BitVec.ofNat 32 (cnt wd G) + scan .sum (extui 32 (k0_pay2 v50) natLt_1_32) (Shape.ofLane k) = _
  obtain ⟨n, hn⟩ := k
  induction n with
  | zero => exact hb 0
  | succ n ih =>
    have hs := scan_succ (extui 32 (k0_pay2 v50) natLt_1_32) ⟨n, by omega⟩
    have e : (Fin.succ (⟨n, by omega⟩ : Fin 15) : Fin 16) = ⟨n + 1, hn⟩ := rfl
    rw [e] at hs
    rw [hs, ← BitVec.add_assoc]
    have := ih (by omega)
    rw [show (Fin.castSucc (⟨n, by omega⟩ : Fin 15) : Fin 16) = ⟨n, by omega⟩ from rfl, this]
    exact hb ⟨n + 1, hn⟩

theorem clip : ∀ n : Fin 257, IntOp.maxsi (BitVec.ofNat 32 n.val - 1#32) 0#32 = BitVec.ofNat 32 (n.val - 1) := by decide

/-- The list index of lane `k`. -/
theorem index_eq (hw : ∀ k : Fin 16, k0_pay1 v50 (Shape.ofLane k) = wd (G + k)) (hr : ∀ k : Fin 16, (wd (G + k)).toNat < 100000) (hG : G + 16 ≤ 256) (k : Fin 16) :
    k0_pay6 (BitVec.ofNat 32 (cnt wd G)) v50 (Shape.ofLane k) = BitVec.ofNat 32 (cnt wd (G + k + 1) - 1) := by
  have hc : cnt wd (G + k + 1) ≤ G + k + 1 := Nat.count_le (tr wd)
  have := clip ⟨cnt wd (G + k + 1), by omega⟩
  rw [← this, ← scan_cnt hw hr k]; rfl

theorem index_lt (hw : ∀ k : Fin 16, k0_pay1 v50 (Shape.ofLane k) = wd (G + k)) (hr : ∀ k : Fin 16, (wd (G + k)).toNat < 100000) (hG : G + 16 ≤ 256) (a : Fin S272.rank) (x : S16.Idx) :
    ((![k0_pay6 (BitVec.ofNat 32 (cnt wd G)) v50] : Fin 1 → IVec S16 32) a x).toNat < S272.size a := by
  have hx : x = Shape.ofLane (x 0) := funext fun b => by have := Fin.eq_zero b; subst this; rfl
  have ha := Fin.eq_zero a; subst ha
  show (k0_pay6 (BitVec.ofNat 32 (cnt wd G)) v50 x).toNat < 272
  rw [hx, index_eq hw hr hG (x 0)]
  have hc : cnt wd (G + (x 0).val + 1) ≤ G + (x 0).val + 1 := Nat.count_le (tr wd)
  have h16 : (x 0).val < 16 := (x 0).isLt
  rw [BitVec.toNat_ofNat, Nat.mod_eq_of_lt (by omega)]; omega

theorem total_eq (hw : ∀ k : Fin 16, k0_pay1 v50 (Shape.ofLane k) = wd (G + k)) (hr : ∀ k : Fin 16, (wd (G + k)).toNat < 100000) :
    Scalar.addi (BitVec.ofNat 32 (cnt wd G)) (extractAt ![0] (k0_pay7 v50) inpos_S1_p0) = BitVec.ofNat 32 (cnt wd (G + 16)) :=
  scan_cnt hw hr 15

/-- The lists take in one more group. -/
theorem lists_step (hw : ∀ k : Fin 16, k0_pay1 v50 (Shape.ofLane k) = wd (G + k)) (hr : ∀ k : Fin 16, (wd (G + k)).toNat < 100000) (hG : G + 16 ≤ 256)
    {jl tl : S272.Idx → BitVec 32} (hl : Lists wd G jl tl) (jv : IVec S16 32) (hj : ∀ k : Fin 16, jv (Shape.ofLane k) = BitVec.ofNat 32 (G + k))
    (h h' : ∀ a x, ((![k0_pay6 (BitVec.ofNat 32 (cnt wd G)) v50] : Fin 1 → IVec S16 32) a x).toNat < S272.size a) :
    Lists wd (G + 16) (storeIdx (F := F) (s := S272) (e := .i32) jl ![k0_pay6 (BitVec.ofNat 32 (cnt wd G)) v50] jv (k0_pay2 v50) false h)
      (storeIdx (F := F) (s := S272) (e := .i32) tl ![k0_pay6 (BitVec.ofNat 32 (cnt wd G)) v50] (k0_pay1 v50) (k0_pay2 v50) false h') := by
  have hset : ∀ k : Fin 16, k0_pay2 v50 (Shape.ofLane k) = 1 ↔ tr wd (G + k) := fun k => by
    rw [mask_iff hw hr k]; split_ifs with h1
    · exact ⟨fun _ => h1, fun _ => rfl⟩
    · exact ⟨fun h2 => absurd h2 (by decide), fun h2 => absurd h2 h1⟩
  have hix : ∀ k : Fin 16, tr wd (G + k) → (idxAt (s := S272) ![k0_pay6 (BitVec.ofNat 32 (cnt wd G)) v50] h (Shape.ofLane k) 0).val = cnt wd (G + k) := fun k hk => by
    show (k0_pay6 (BitVec.ofNat 32 (cnt wd G)) v50 (Shape.ofLane k)).toNat = _
    rw [index_eq hw hr hG k]
    have hc : cnt wd (G + k) ≤ G + k := Nat.count_le (tr wd)
    have hs : cnt wd (G + k + 1) = cnt wd (G + k) + 1 := by rw [cnt, Nat.count_succ, if_pos hk]
    rw [hs, BitVec.toNat_ofNat, Nat.mod_eq_of_lt (by omega)]; omega
  have hinj : ∀ k k' : Fin 16, tr wd (G + k) → tr wd (G + k') → cnt wd (G + k) = cnt wd (G + k') → k = k' := fun k k' hk hk' he =>
    Fin.ext (by have := Nat.count_injective hk hk' he; omega)
  intro x j hj16 htr hx
  rw [storeIdx_eq, storeIdx_eq]
  by_cases hlt : j < G
  · have hmiss : ∀ k : Fin 16, k0_pay2 v50 (Shape.ofLane k) = 1 → x ≠ idxAt (s := S272) ![k0_pay6 (BitVec.ofNat 32 (cnt wd G)) v50] h (Shape.ofLane k) := by
      intro k hk he
      have hk := (hset k).mp hk
      have := hix k hk
      rw [← he, hx] at this
      have := Nat.count_injective htr hk this
      omega
    rw [foldl_lane_miss _ _ _ _ _ _ _ fun k _ => hmiss k, foldl_lane_miss _ _ _ _ _ _ _ fun k _ => hmiss k]
    exact hl x j hlt htr hx
  · obtain ⟨k, rfl⟩ : ∃ k : Fin 16, j = G + k := ⟨⟨j - G, by omega⟩, by simp only []; omega⟩
    have hxe : x = idxAt (s := S272) ![k0_pay6 (BitVec.ofNat 32 (cnt wd G)) v50] h (Shape.ofLane k) := by
      funext a; have ha := Fin.eq_zero a; subst ha
      exact Fin.ext (by rw [hix k htr]; exact hx)
    have hi : ∀ k' : Fin 16, k0_pay2 v50 (Shape.ofLane k') = 1 →
        idxAt (s := S272) ![k0_pay6 (BitVec.ofNat 32 (cnt wd G)) v50] h (Shape.ofLane k) = idxAt (s := S272) ![k0_pay6 (BitVec.ofNat 32 (cnt wd G)) v50] h (Shape.ofLane k') → k = k' :=
      fun k' hk' he => by
        have hk' := (hset k').mp hk'
        exact hinj k k' htr hk' (by rw [← hix k htr, ← hix k' hk', he])
    rw [hxe]
    refine ⟨?_, ?_⟩
    · exact (foldl_lane_hit (F := F) (e := .i32) _ jv _ h _ (List.nodup_finRange _) jl k (List.mem_finRange _) ((hset k).mpr htr) hi).trans (hj k)
    · exact (foldl_lane_hit (F := F) (e := .i32) _ (k0_pay1 v50) _ h' _ (List.nodup_finRange _) tl k (List.mem_finRange _) ((hset k).mpr htr) hi).trans (hw k)

end Group

/-- What an entry of the fetch list is, for the word `w`: a row of the large table, `w`'s own if `w` is one of its rows. -/
def Fetch (w x : BitVec 32) : Prop := x.toNat < 99000 ∧ (1000 ≤ w.toNat → x.toNat = w.toNat - 1000)

theorem fetch_select (w y : BitVec 32) (hw : w.toNat < 100000) :
    Fetch w (Scalar.select (IntOp.cmpi .slt w 1000#32) (IntOp.andi y 65535#32) (IntOp.subi w 1000#32)) := by
  have hs := slt_iff w hw
  unfold Fetch
  by_cases h : w.toNat < 1000
  · rw [show IntOp.cmpi .slt w 1000#32 = 1#1 by show BitVec.ofBool (w.slt 1000#32) = _; rw [hs.mpr h]; rfl]
    refine ⟨?_, fun h' => by omega⟩
    show (y &&& 65535#32).toNat < _
    rw [BitVec.toNat_and]
    have : y.toNat &&& (65535#32).toNat ≤ 65535 := Nat.and_le_right
    omega
  · rw [show IntOp.cmpi .slt w 1000#32 = 0#1 by show BitVec.ofBool (w.slt 1000#32) = _; rw [Bool.eq_false_iff.mpr (mt hs.mp h)]; rfl]
    have : (w - 1000#32).toNat = w.toNat - 1000 := by rw [BitVec.toNat_sub_of_le (by rw [BitVec.le_def]; simp; omega)]; rfl
    exact ⟨by show (w - 1000#32).toNat < _; omega, fun _ => this⟩

end Cert.Proof
-- ==== Proof.Front.lean ====
/-
  The front half of a chunk: sixteen words at a time, the kernel reads words of its index block, stores where to fetch each
  one from, and appends the small ones to the two patch lists. One statement, `runs_half`, of eight such trips; the four
  loops of the kernel that do this are its instances.
-/
module

public import proofs.«01_k».proof.Proof.Rules
public import proofs.«01_k».proof.Proof.Words

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tile a grid point runs on. -/
abbrev core (i : grid0.Coords) : Proc τ := .scVector ((i 0).castLE hcore0) ((i 1).castLE hsub0)

abbrev me (d : Dev nD) (i : grid0.Coords) : Thread nD τ := (d, core i)

/-- The programs of that tile. -/
abbrev TP (F : FTy → Type) [FloatOps F] (i : grid0.Coords) : Type → Type 1 := Prog (TpuEff nD τ sig (Elt F) Λ₀ (core i))

variable [FloatOps F]

/-- One trip: sixteen words at `o` of the index block, their fetch rows stored at `p`, the small ones appended. -/
def group (i : grid0.Coords) (idx : Memref sig .scVector .vmem S200x128 .i32) (fl : Memref sig .scVector .vmem S128 .i32)
    (jl tl : Memref sig .scVector .vmem S272 .i32)
    (o : Fin 2 → Nat) (ho : ∀ a, o a + S1x16.size a ≤ S200x128.size a) (p : Fin 1 → Nat) (hp : ∀ a, p a + S16.size a ≤ S128.size a)
    (C : IVec S16 32 → Prop) (dC : ∀ v, Decidable (C v))
    (h1 h2 : ∀ v, C v → ∀ a x, ((![v] : Fin 1 → IVec S16 32) a x).toNat < S272.size a)
    (jv : IVec S16 32) (pay : Vec F S1x16 .i32 → IVec S16 32) (acc : BitVec 32) : TP F i (BitVec 32) := do
  let w : Vec F S1x16 .i32 ← Prog.lift (.load idx (Rect.unit (s := S200x128) o S1x16.size ho).toLoadRect (View.loadsAt_vmem h_S1x16))
  let _z : Vec F S16 .i32 ← Prog.lift (.load fl (Rect.unit (s := S128) p S16.size hp).toLoadRect (View.loadsAt_vmem h_S16))
  Prog.lift (.store fl (Rect.unit (s := S128) p S16.size hp) (pay w) Finset.univ (View.stores_vmem_bits_univ h_S16 rfl) (.inl rfl))
  have v : IVec S16 32 := k0_pay6 acc w
  have hv : C v := (← Prog.lift (TpuEff.assume (C v) (dC v))).down
  SparseCore.vectorStoreIdx jl ![v] jv (k0_pay2 w) false (h1 v hv) (View.stores_vmem_bits_univ h_S272 rfl)
  SparseCore.vectorStoreIdx tl ![v] (k0_pay1 w) (k0_pay2 w) false (h2 v hv) (View.stores_vmem_bits_univ h_S272 rfl)
  pure (Scalar.addi acc (extractAt ![0] (k0_pay7 w) inpos_S1_p0))

/-- Lane `k` of a loaded row of sixteen. -/
def rowLane (k : Fin 16) : S1x16.Idx := fun a => ⟨(![0, k.val] : Fin 2 → ℕ) a, by revert a; rw [Fin.forall_fin_two]; exact ⟨Nat.one_pos, k.isLt⟩⟩

theorem pay1_lane (w : Vec F S1x16 .i32) (k : Fin 16) : k0_pay1 w (Shape.ofLane k) = w (rowLane k) := by
  have : ∀ k : Fin 16, Shape.reshapeEquiv (s := S1x16) (s' := S16) shapeCasts_S1x16_S16 (Shape.ofLane k) = rowLane k := by decide +kernel
  exact congrArg w (this k)

/-- The state of a chunk's lists after `n` of its 256 words, of which half `h` (from word `h`) is being listed. -/
def listing (d : Dev nD) (i : grid0.Coords) (q : PosShare TreeShare) (idx : Memref sig .scVector .vmem S200x128 .i32) (fl : Memref sig .scVector .vmem S128 .i32)
    (jl tl : Memref sig .scVector .vmem S272 .i32) (g : S200x128.Idx → BitVec 32) (wd : ℕ → BitVec 32) (h t : ℕ) (acc : BitVec 32) : sProp 𝕄 :=
  iprop(∃ (fg : S128.Idx → BitVec 32) (jg tg : S272.Idx → BitVec 32),
    ⌜acc = BitVec.ofNat 32 (cnt wd (h + 16 * t)) ∧ (∀ x : S128.Idx, (x 0).val < 16 * t → Fetch (wd (h + (x 0).val)) (fg x)) ∧ Lists wd (h + 16 * t) jg tg⌝
    ∗ holds (F := F) (e := .i32) (me d i) idx q g ∗ holds (F := F) (e := .i32) (me d i) fl fullShare fg
    ∗ holds (F := F) (e := .i32) (me d i) jl fullShare jg ∗ holds (F := F) (e := .i32) (me d i) tl fullShare tg)

section Trip

variable {d : Dev nD} {i : grid0.Coords} {q : PosShare TreeShare} {idx : Memref sig .scVector .vmem S200x128 .i32} {fl : Memref sig .scVector .vmem S128 .i32}
  {jl tl : Memref sig .scVector .vmem S272 .i32} {g : S200x128.Idx → BitVec 32} {wd : ℕ → BitVec 32} {h R t : ℕ}

theorem runs_group
    (hg : ∀ x : S200x128.Idx, (x 0).val = R → g x = wd (h + (x 1).val)) (hr : ∀ j, (wd j).toNat < 100000) (hh : h + 128 ≤ 256) (ht : t < 8)
    (o : Fin 2 → Nat) (ho : ∀ a, o a + S1x16.size a ≤ S200x128.size a) (p : Fin 1 → Nat) (hp : ∀ a, p a + S16.size a ≤ S128.size a)
    (eo : o = ![R, 16 * t]) (ep : p = ![16 * t])
    (C : IVec S16 32 → Prop) (dC : ∀ v, Decidable (C v))
    (h1 h2 : ∀ v, C v → ∀ a x, ((![v] : Fin 1 → IVec S16 32) a x).toNat < S272.size a)
    (hC : ∀ v : IVec S16 32, (∀ a x, ((![v] : Fin 1 → IVec S16 32) a x).toNat < S272.size a) → C v)
    (jv : IVec S16 32) (hj : ∀ k : Fin 16, jv (Shape.ofLane k) = BitVec.ofNat 32 (h + 16 * t + k))
    (pay : Vec F S1x16 .i32 → IVec S16 32)
    (hpay : ∀ w x, ∃ y, pay w x = Scalar.select (IntOp.cmpi .slt (k0_pay1 w x) 1000#32) (IntOp.andi y 65535#32) (IntOp.subi (k0_pay1 w x) 1000#32))
    (acc : BitVec 32) :
    (listing d i q idx fl jl tl g wd h t acc : sProp 𝕄)
      ⊢ runs (me d i) (group i idx fl jl tl o ho p hp C dC h1 h2 jv pay acc) (fun acc' => listing d i q idx fl jl tl g wd h (t + 1) acc') := by
  unfold listing group
  iintro ⟨%fg, %jg, %tg, %hI, Hi, Hf, Hj, Ht⟩
  obtain ⟨rfl, hf, hl⟩ := hI
  let w : Vec F S1x16 .i32 := fun y => g ((Rect.unit (s := S200x128) o S1x16.size ho).emb y)
  have hw : ∀ k : Fin 16, k0_pay1 w (Shape.ofLane k) = wd (h + 16 * t + k) := fun k => by
    rw [pay1_lane]
    show g _ = _
    have e0 : ((Rect.unit (s := S200x128) o S1x16.size ho).emb (rowLane k) 0).val = R := by
      rw [Rect.emb_apply]; subst eo; show R + 1 * 0 = R; omega
    have e1 : ((Rect.unit (s := S200x128) o S1x16.size ho).emb (rowLane k) 1).val = 16 * t + k.val := by
      rw [Rect.emb_apply]; subst eo; show 16 * t + 1 * k.val = _; omega
    rw [hg _ e0, e1, Nat.add_assoc]
  have hr' : ∀ k : Fin 16, (wd (h + 16 * t + k)).toNat < 100000 := fun k => hr _
  iapply (run_load (c := me d i) (q := q) (g := g)) $$ Hi
  iintro Hi
  iapply (run_load (c := me d i) (q := fullShare) (g := fg)) $$ Hf
  iintro Hf
  iapply (run_store (c := me d i) (g := fg)) $$ Hf
  iintro %fg' %hfg Hf
  have hv : C (k0_pay6 (BitVec.ofNat 32 (cnt wd (h + 16 * t))) w) := hC _ (index_lt hw hr' (by omega))
  iapply (run_assume (c := me d i) hv)
  iapply (run_storeIdx (c := me d i) (e := .i32) (g := jg)) $$ Hj
  iintro Hj
  iapply (run_storeIdx (c := me d i) (e := .i32) (g := tg)) $$ Ht
  iintro Ht
  iapply (run_pure (c := me d i))
  iexists fg', _, _
  isplitr
  swap
  · isplitl [Hi]; · iexact Hi
    isplitl [Hf]; · iexact Hf
    isplitl [Hj]; · iexact Hj
    iexact Ht
  ipureintro
  refine ⟨?_, ?_, ?_⟩
  · rw [Nat.mul_succ, ← Nat.add_assoc]; exact total_eq hw hr'
  · intro x hx
    obtain ⟨hin, hout⟩ := hfg
    by_cases hlt : (x 0).val < 16 * t
    · rw [hout x fun hm => by
        have := (Rect.mem_set_unit.mp hm 0).1
        subst ep; exact absurd this (by show ¬ 16 * t ≤ _; omega)]
      exact hf x hlt
    · obtain ⟨k, hk⟩ : ∃ k : Fin 16, (x 0).val = 16 * t + k.val := ⟨⟨(x 0).val - 16 * t, by omega⟩, by simp only []; omega⟩
      have hx' : x = (Rect.unit (s := S128) p S16.size hp).emb (Shape.ofLane k) := by
        funext a; have ha := Fin.eq_zero a; subst ha
        refine Fin.ext ?_
        rw [Rect.emb_apply, hk]; subst ep; show _ = 16 * t + 1 * k.val; omega
      have hw' := hw k
      rw [hk, ← Nat.add_assoc, ← hw', hx', hin]
      obtain ⟨y, hy⟩ := hpay w (Shape.ofLane k)
      have hs := fetch_select (k0_pay1 w (Shape.ofLane k)) y (by rw [hw']; exact hr _)
      exact hy ▸ hs
  · rw [Nat.mul_succ, ← Nat.add_assoc]
    exact lists_step hw hr' (by omega) hl jv hj _ _

/-- Eight trips of it. -/
theorem runs_half {β : Type} {Q : β → sProp 𝕄} (lp : Scf.Loop 32) (hok : lp.OK) (h8 : lp.trips = 8)
    (body : Fin lp.trips → BitVec 32 → TP F i (BitVec 32)) (k : BitVec 32 → TP F i β)
    (hbody : ∀ (t : Fin lp.trips) acc, (listing d i q idx fl jl tl g wd h t acc : sProp 𝕄)
      ⊢ runs (me d i) (body t acc) (fun acc' => listing d i q idx fl jl tl g wd h (t + 1) acc')) (acc : BitVec 32) :
    (listing d i q idx fl jl tl g wd h 0 acc : sProp 𝕄)
      ⊢ iprop((∀ acc', listing d i q idx fl jl tl g wd h 8 acc' -∗ runs (me d i) (k acc') Q)
        -∗ runs (me d i) (Scf.Loop.for lp hok acc body >>= k) Q) := by
  rw [← h8]
  exact Scf.wp_for_bind _ _ _ lp.lb lp.ub lp.st hok acc body (fun t acc => listing d i q idx fl jl tl g wd h t acc) hbody

end Trip

end Cert.Proof

end
-- ==== Proof.Gather.lean ====
/-
  Two row gathers counted on one semaphore. Each gather is a stream of row transfers; all the rows of both are one batch of
  equal transfers, so either wait counts units of the batch and the second one closes it.
-/
module

public import proofs.«01_k».proof.Proof.Front

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Blocks of a batch -/

/-- The place of item `j` of a block that starts at `k`. -/
def at' {n m : ℕ} (k : ℕ) (h : k + m ≤ n) : Fin m ↪ Fin n := ⟨fun j => ⟨k + j, by omega⟩, fun a b he => Fin.ext (by have := Fin.mk.inj he; omega)⟩

theorem pending_block {n m : ℕ} (k : ℕ) (h : k + m ≤ n) (P : Fin n → sProp 𝕄) :
    bigSep (Transfers.pending k) P = iprop(bigSep Finset.univ (fun j : Fin m => P (at' k h j)) ∗ bigSep (Transfers.pending (k + m)) P) := by
  have hu : (Transfers.pending k : Finset (Fin n)) = Finset.univ.map (at' k h) ∪ Transfers.pending (k + m) := by
    ext t
    simp only [Transfers.pending, Finset.mem_filter, Finset.mem_univ, true_and, Finset.mem_union, Finset.mem_map]
    constructor
    · intro ht
      by_cases hm : k + m ≤ t.val
      · exact .inr hm
      · exact .inl ⟨⟨t.val - k, by omega⟩, Fin.ext (by show k + (t.val - k) = t.val; omega)⟩
    · rintro (⟨j, rfl⟩ | ht)
      · show k ≤ k + j.val; omega
      · omega
  have hd : Disjoint (Finset.univ.map (at' k h)) (Transfers.pending (k + m) : Finset (Fin n)) := by
    rw [Finset.disjoint_left]; intro t ht ht'
    obtain ⟨j, -, rfl⟩ := Finset.mem_map.mp ht
    simp only [Transfers.pending, Finset.mem_filter, Finset.mem_univ, true_and] at ht'
    have : k + m ≤ k + j.val := ht'
    omega
  rw [hu, bigSep_union hd, bigSep_map]; rfl

theorem pending_none {n k : ℕ} (h : n ≤ k) (P : Fin n → sProp 𝕄) : bigSep (Transfers.pending k) P = (BI.emp : sProp 𝕄) := by
  rw [show (Transfers.pending k : Finset (Fin n)) = ∅ from Finset.filter_eq_empty_iff.mpr fun t _ => by omega, bigSep_empty]

/-! ## One gather's rows -/

section Rows

variable {c : Thread nD τ} {sp : Space} {s₀ s si : Shape} {e : EltTy} {a : ℕ}
variable (src : Memref sig c.2.kind sp s₀ e) (dst : Memref sig c.2.kind .vmem s e) (hg : s₀.Gathers a s)
variable (offs : Memref sig c.2.kind .vmem si .i32) (hn : si.numel = s.size hg.axis')
variable (qk : Fin (s.size hg.axis') → PosShare TreeShare) (fs : Buf (Elt F) (src.view.loc c)) (fd : Buf (Elt F) (dst.view.loc c))
variable (fo : Buf (Elt F) (offs.view.loc c)) (hin : ∀ x, (offs.view.read (Elt F) fo x).toNat < s₀.size hg.axis)

/-- Where the list keeps entry `j`. -/
def entryAt (j : Fin (s.size hg.axis')) : si.Idx := si.rowMajor.symm (j.cast hn.symm)

/-- What row `j` of the gather delivers: the row written, its entry of the list and its piece of the source back. -/
def rowGot (j : Fin (s.size hg.axis')) : sProp 𝕄 :=
  iprop(((dst.view.loc c ↦[(dst.view.slice (s.rowRect hg.axis' j)).set]{fullShare}
      ((dst.view.slice (s.rowRect hg.axis' j)).write (Elt F) fd
        (fun i => src.view.read (Elt F) fs (hg.rowIdx (SparseCore.rows (offs.view.read (Elt F) fo) hn hin j) i)) Finset.univ))
    ∗ (offs.view.loc c ↦[{offs.view.emb (entryAt hg hn j)}]{fullShare} fo)) ∗ (src.view.loc c ↦[src.view.set]{qk j} fs))

instance rowGot_storable (j : Fin (s.size hg.axis')) : BI.Storable (upEmb : UEmb _ 𝕄) (rowGot src dst hg offs hn qk fs fd fo hin j) := by
  unfold rowGot; infer_instance

/-- All the rows delivered: the destination gathered, the list back, the source's pieces back. -/
theorem rowGot_join : (bigSep Finset.univ (rowGot src dst hg offs hn qk fs fd fo hin) : sProp 𝕄)
    ⊢ iprop((dst.view.loc c ↦[dst.view.set]{fullShare}
        (dst.view.write (Elt F) fd (SparseCore.gatherPayload hg (src.view.read (Elt F) fs) (SparseCore.rows (offs.view.read (Elt F) fo) hn hin)) Finset.univ))
      ∗ (offs.view.loc c ↦[offs.view.set]{fullShare} fo) ∗ bigSep Finset.univ fun j => (src.view.loc c ↦[src.view.set]{qk j} fs)) := by
  have hW : ∀ (j : Fin (s.size hg.axis')) i, src.view.read (Elt F) fs (hg.rowIdx (SparseCore.rows (offs.view.read (Elt F) fo) hn hin j) i)
      = SparseCore.gatherPayload hg (src.view.read (Elt F) fs) (SparseCore.rows (offs.view.read (Elt F) fo) hn hin) ((s.rowRect hg.axis' j).emb i) := fun j i => by
    unfold SparseCore.gatherPayload; rw [Shape.Gathers.idx_rowRect_emb]
  have hR : (bigSep Finset.univ (fun j : Fin (s.size hg.axis') => (dst.view.loc c ↦[(dst.view.slice (s.rowRect hg.axis' j)).set]{fullShare}
        ((dst.view.slice (s.rowRect hg.axis' j)).write (Elt F) fd
          (fun i => src.view.read (Elt F) fs (hg.rowIdx (SparseCore.rows (offs.view.read (Elt F) fo) hn hin j) i)) Finset.univ))) : sProp 𝕄)
      ⊢ (dst.view.loc c ↦[dst.view.set]{fullShare}
        (dst.view.write (Elt F) fd (SparseCore.gatherPayload hg (src.view.read (Elt F) fs) (SparseCore.rows (offs.view.read (Elt F) fo) hn hin)) Finset.univ)) :=
    pointsTo_rows_write c dst.view hg.axis' fd _ _ hW
  unfold rowGot
  iintro H
  ihave H := Transfers.bigSep_sep_out _ _ _ $$ H
  icases H with ⟨H, Hs⟩
  ihave H := Transfers.bigSep_sep_out _ _ _ $$ H
  icases H with ⟨Hd, Ho⟩
  isplitl [Hd]
  · iapply hR $$ Hd
  isplitl [Ho]
  · iapply (Entails.of_eq (pointsTo_entries c offs.view (entryAt hg hn) (si.rowMajor.symm.bijective.comp (finCongr hn.symm).bijective) fullShare fo).symm) $$ Ho
  iexact Hs

variable [FloatOps F] {α : Type}

/-- Issuing the gather: its rows are the next transfers of the batch. -/
theorem run_gather {Q : α → sProp 𝕄} {sem : DmaSem sig} {hp : c.2.kind = .scVector} {hsrc : src.view.WordExact} {he : e.bits = 32} {hsp : sp = .hbm ∨ sp = .shared}
    {hr : s₀.StreamRows a} {k : PUnit → Prog (TpuEff nD τ sig (Elt F) Λ₀ c.2) α} (hs : 0 < s.numel)
    {n : ℕ} {D : Fin n → sProp 𝕄} (N k₀ u : ℕ) (hk : k₀ + s.size hg.axis' ≤ n) (hu : u ≤ k₀ * N)
    (hN : ∀ j, (dst.slice (s.rowRect hg.axis' j) (s.stride_rowRect hg.axis' j)).view.dmaCredit = N)
    (hD : ∀ j, D (at' k₀ hk j) = rowGot src dst hg offs hn qk fs fd fo hin j) :
    iprop((bigSep Finset.univ fun j => (src.view.loc c ↦[src.view.set]{qk j} fs)) ∗ (dst.view.loc c ↦[dst.view.set]{fullShare} fd)
        ∗ (offs.view.loc c ↦[offs.view.set]{fullShare} fo) ∗ Transfers.Batch countersEmb c (.dma sem) (default : HIx 1) N D k₀ u)
      ⊢ iprop((Transfers.Batch countersEmb c (.dma sem) (default : HIx 1) N D (k₀ + s.size hg.axis') u -∗ runs c (k ⟨⟩) Q)
        -∗ runs c (SparseCore.enqueueIndirectGather hp src dst hg offs hn sem hsrc he hsp hr >>= k) Q) := by
  rw [SparseCore.enqueueIndirectGather_bind]
  let S : Stream nD τ sig (Elt F) :=
    Stream.issued c offs.view hn sem (fun j w => (SparseCore.rowOf (s₀.size hg.axis) w).map (SparseCore.gatherRow c src dst hg sem hsrc he hsp hr j)) 0
  let rd : Fin (s.size hg.axis') → RowDma τ sig (Elt F) c.2 sem := fun j =>
    SparseCore.gatherRow c src dst hg sem hsrc he hsp hr j (SparseCore.rows (offs.view.read (Elt F) fo) hn hin j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (s₀.size hg.axis) (offs.view.read (Elt F) fo (S.entry j))).map _ = _
    rw [SparseCore.rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  unfold Transfers.Batch
  iintro ⟨Hs, Hd, Ho, ⟨%γ, %γ₀, %κ, #Hinv, HI, H0, Hcred⟩⟩ Hk
  ihave HI := (Entails.of_eq (pending_block k₀ hk _)) $$ HI
  icases HI with ⟨Hγ, HI⟩
  ihave Hd := (Entails.of_eq (pointsTo_rows c dst.view hg.axis' fullShare fd)) $$ Hd
  ihave Ho := (Entails.of_eq (pointsTo_entries c offs.view (entryAt hg hn) (si.rowMajor.symm.bijective.comp (finCongr hn.symm).bijective) fullShare fo)) $$ Ho
  iapply (wp_enqueueIndirectDma (defs := defs₀ (F := F)) 𝒱₀ c none Set.univ (qo := fullShare) (fo := fo) (rd := rd) (default : HIx 1)
    (s.size hg.axis' * N) hA hrd hsum) $$ [Hd Ho Hs Hγ]
  · have hrow : ∀ j : Fin (s.size hg.axis'), iprop(inv κ (Transfers.batchBody countersEmb (c, SemLoc.dma sem) N D γ γ₀)
          ∗ ((((dst.view.loc c ↦[(dst.view.slice (s.rowRect hg.axis' j)).set]{fullShare} fd) ∗ S.heldEntry fullShare fo j)
          ∗ (src.view.loc c ↦[src.view.set]{qk j} fs)) ∗ count countersEmb (γ (at' k₀ hk j)) 0))
        ⊢ iprop(S.heldEntry fullShare fo j ∗ (S.heldEntry fullShare fo j -∗ rowRes c (rd j))) := fun j => by
      iintro ⟨#Hinv, ⟨⟨Hr, He⟩, Hsq⟩, Hγj⟩
      isplitl [He]; · iexact He
      iintro He
      unfold rowRes
      iexists qk j, fs, iprop((dst.view.loc c ↦[(dst.view.slice (s.rowRect hg.axis' j)).set]{fullShare}
        ((dst.view.slice (s.rowRect hg.axis' j)).write (Elt F) fd
          (fun i => src.view.read (Elt F) fs (hg.rowIdx (SparseCore.rows (offs.view.read (Elt F) fo) hn hin j) i)) Finset.univ)) ∗ S.heldEntry fullShare fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hc : (rd j).dst.view.amount (SemLoc.dma sem) = N := hN j
        rw [hc]
        iapply (Transfers.batch_creditUpdate countersEmb (D := D) (γ₀ := γ₀) (at' k₀ hk j) (Entails.of_eq (hD j).symm))
        isplitr; · iexact Hinv
        iexact Hγj
    unfold Stream.res
    ihave H1 := Transfers.bigSep_sep_in _ _ _ $$ [Hd Ho]; · isplitl [Hd] <;> iassumption
    ihave H2 := Transfers.bigSep_sep_in _ _ _ $$ [H1 Hs]; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hc
    iapply Hk
    iexists γ, γ₀, κ
    isplitr; · iexact Hinv
    isplitl [HI]; · iexact HI
    isplitl [H0]; · iexact H0
    rw [show (k₀ + s.size hg.axis') * N - u = (k₀ * N - u) + s.size hg.axis' * N by rw [Nat.add_mul]; omega, ← tallyAt_add]
    icombine Hcred Hc as H
    iexact H

end Rows

/-! ## The two gathers of one chunk -/

/-- The whole of the fixed table, as a gather names it. -/
abbrev tblAll (tbl : Memref sig .scVector .hbm S99000x128 .f32) : Memref sig .scVector .hbm S99000x128 .f32 :=
  tbl.slice (Rect.unit (s := S99000x128) ![0, 0] S99000x128.size inb_S99000x128_S99000x128_0_0) (fun _ => rfl)

/-- The upper half of a chunk's buffer. -/
abbrev upper (buf : Memref sig .scVector .vmem S256x128 .f32) : Memref sig .scVector .vmem S128x128 .f32 :=
  buf.slice (Rect.unit (s := S256x128) ![0, 0] S128x128.size inb_S256x128_S128x128_0_0) (fun _ => rfl)

/-- The lower half of a chunk's buffer. -/
abbrev lower (buf : Memref sig .scVector .vmem S256x128 .f32) : Memref sig .scVector .vmem S128x128 .f32 :=
  buf.slice (Rect.unit (s := S256x128) ![128, 0] S128x128.size inb_S256x128_S128x128_128_0) (fun _ => rfl)

/-- What the two gathers leave in the buffer: under each row, the row of the table that its list entry names. -/
def Looked (gt : S99000x128.Idx → Elt F .f32) (a b : S128.Idx → BitVec 32) (g : S256x128.Idx → Elt F .f32) : Prop :=
  ∀ (x : S256x128.Idx) (z : S99000x128.Idx) (y : S128.Idx), (z 1).val = (x 1).val →
    ((x 0).val = (y 0).val → (z 0).val = (a y).toNat → g x = gt z) ∧ ((x 0).val = 128 + (y 0).val → (z 0).val = (b y).toNat → g x = gt z)

theorem blocks_all (P : Fin 256 → sProp 𝕄) :
    bigSep Finset.univ P = iprop((bigSep Finset.univ fun j : Fin 128 => P (at' 0 (by decide) j)) ∗ bigSep Finset.univ fun j : Fin 128 => P (at' 128 (by decide) j)) := by
  have h : (Finset.univ : Finset (Fin 256)) = Transfers.pending 0 := (Transfers.pending_zero).symm
  rw [h, pending_block (m := 128) 0 (by decide), pending_block (m := 128) (0 + 128) (by decide), pending_none (by decide)]
  have he : iprop((bigSep Finset.univ fun j : Fin 128 => P (at' (0 + 128) (by decide) j)) ∗ (BI.emp : sProp 𝕄)) = (bigSep Finset.univ fun j : Fin 128 => P (at' 128 (by decide) j)) :=
    equiv_iff.mp sep_emp
  rw [he]

/-- A pair of gathers under way: all 256 rows issued, none of them waited for, and what they will have delivered. -/
def gathering (c : Thread nD τ) (sem : DmaSem sig) (Post : sProp 𝕄) : sProp 𝕄 :=
  iprop(∃ D : Fin 256 → sProp 𝕄, ⌜bigSep Finset.univ D ⊢ Post⌝ ∗ Transfers.Batch countersEmb c (.dma sem) (default : HIx 1) 4096 D 256 0)

/-- A row counts its 128 words' bits. -/
theorem row_units : RefSig.bitCredit (S128x128.rowShape gathers_S99000x128_S128x128.axis') .f32 = 4096 := by decide +kernel

/-- Half a buffer counts its 128 rows'. -/
theorem half_units : RefSig.bitCredit S128x128 .f32 = 128 * 4096 := by decide +kernel

section Pair

variable [FloatOps F] {α : Type} {d : Dev nD} {i : grid0.Coords}
variable {tbl : Memref sig .scVector .hbm S99000x128 .f32} {buf : Memref sig .scVector .vmem S256x128 .f32}
variable {fA fB : Memref sig .scVector .vmem S128 .i32} {q : PosShare TreeShare}
variable {gt : S99000x128.Idx → Elt F .f32} {g₀ : S256x128.Idx → Elt F .f32} {a b : S128.Idx → BitVec 32}

omit [FloatOps F] in
theorem tblAll_eq : (holds (me d i) (tblAll tbl) q gt : sProp 𝕄) = holds (me d i) tbl q gt := by
  have he : ∀ x : S99000x128.Idx, (Rect.unit (s := S99000x128) ![0, 0] S99000x128.size inb_S99000x128_S99000x128_0_0).emb x = x := fun x => by
    funext k; apply Fin.ext; rw [Rect.emb_apply]; fin_cases k <;> simp [Rect.unit]
  have h := holds_slice (c := me d i) (m := tbl) (q := q) (g := gt) (Rect.unit (s := S99000x128) ![0, 0] S99000x128.size inb_S99000x128_S99000x128_0_0) (fun _ => rfl)
  have hs : (Rect.unit (s := S99000x128) ![0, 0] S99000x128.size inb_S99000x128_S99000x128_0_0).set = Finset.univ :=
    Finset.eq_univ_iff_forall.mpr fun x => by rw [← Rect.map_emb_univ]; exact Finset.mem_map.mpr ⟨x, Finset.mem_univ _, he x⟩
  rw [show (fun x => gt ((Rect.unit (s := S99000x128) ![0, 0] S99000x128.size inb_S99000x128_S99000x128_0_0).emb x)) = gt from funext fun x => congrArg gt (he x)] at h
  exact h.trans (part_set hs)

abbrev rectA : Rect S256x128 := Rect.unit (s := S256x128) ![0, 0] S128x128.size inb_S256x128_S128x128_0_0
abbrev rectB : Rect S256x128 := Rect.unit (s := S256x128) ![128, 0] S128x128.size inb_S256x128_S128x128_128_0

theorem rect_disjoint : Disjoint rectA.set rectB.set := by
  rw [Finset.disjoint_left]; intro x hx hy
  have h1 := (Rect.mem_set_unit.mp hx 0).2
  have h2 := (Rect.mem_set_unit.mp hy 0).1
  simp at h1 h2; omega

theorem rect_union : rectA.set ∪ rectB.set = Finset.univ := by
  refine Finset.eq_univ_iff_forall.mpr fun x => Finset.mem_union.mpr ?_
  by_cases h : (x 0).val < 128
  · left; refine Rect.mem_set_unit.mpr fun k => ?_
    have := (x k).isLt
    fin_cases k <;> simp at * <;> omega
  · right; refine Rect.mem_set_unit.mpr fun k => ?_
    have := (x k).isLt
    fin_cases k <;> simp at * <;> omega

omit [FloatOps F] in
/-- A chunk's buffer is its two halves. -/
theorem halves (g : S256x128.Idx → Elt F .f32) :
    (holds (me d i) buf fullShare g : sProp 𝕄)
      ⊢ iprop(holds (me d i) (upper buf) fullShare (fun x => g (rectA.emb x)) ∗ holds (me d i) (lower buf) fullShare (fun x => g (rectB.emb x))) := by
  have hA := holds_slice (c := me d i) (m := buf) (q := fullShare) (g := g) rectA (fun _ => rfl)
  have hB := holds_slice (c := me d i) (m := buf) (q := fullShare) (g := g) rectB (fun _ => rfl)
  refine BIBase.Entails.trans ?_ (BIClass.sep_mono (Entails.of_eq hA.symm) (Entails.of_eq hB.symm))
  exact (Entails.of_eq (part_set rect_union.symm)).trans (part_split rect_disjoint)

omit [FloatOps F] in
/-- The two halves make a chunk's buffer. -/
theorem halves_join (gA gB : S128x128.Idx → Elt F .f32) :
    iprop(holds (me d i) (upper buf) fullShare gA ∗ holds (me d i) (lower buf) fullShare gB)
      ⊢ (iprop(∃ g, ⌜(∀ x, g (rectA.emb x) = gA x) ∧ ∀ x, g (rectB.emb x) = gB x⌝ ∗ holds (me d i) buf fullShare g) : sProp 𝕄) := by
  classical
  iintro ⟨HA, HB⟩
  have hne : ∀ x y, rectA.emb x ≠ rectB.emb y := fun x y h => by
    have h1 : rectA.emb x ∈ rectA.set := by rw [← Rect.map_emb_univ]; exact Finset.mem_map_of_mem _ (Finset.mem_univ _)
    have h2 : rectB.emb y ∈ rectB.set := by rw [← Rect.map_emb_univ]; exact Finset.mem_map_of_mem _ (Finset.mem_univ _)
    exact Finset.disjoint_left.mp rect_disjoint h1 (by rw [h]; exact h2)
  obtain ⟨g, hgA, hgB⟩ : ∃ g : S256x128.Idx → Elt F .f32, (∀ x, g (rectA.emb x) = gA x) ∧ ∀ x, g (rectB.emb x) = gB x := by
    have hx : ∀ x : S256x128.Idx, ∃ v : Elt F .f32, (∀ y, rectA.emb y = x → v = gA y) ∧ ∀ y, rectB.emb y = x → v = gB y := fun x => by
      rcases Finset.mem_union.mp (rect_union ▸ Finset.mem_univ x : x ∈ rectA.set ∪ rectB.set) with h | h
      · rw [← Rect.map_emb_univ] at h
        obtain ⟨y, -, rfl⟩ := Finset.mem_map.mp h
        exact ⟨gA y, fun z hz => by rw [rectA.emb.injective hz], fun z hz => absurd hz.symm (hne _ _)⟩
      · rw [← Rect.map_emb_univ] at h
        obtain ⟨y, -, rfl⟩ := Finset.mem_map.mp h
        exact ⟨gB y, fun z hz => absurd hz (hne _ _), fun z hz => by rw [rectB.emb.injective hz]⟩
    choose g hg using hx
    exact ⟨g, fun x => (hg _).1 x rfl, fun x => (hg _).2 x rfl⟩
  iexists g
  isplitr; · ipureintro; exact ⟨hgA, hgB⟩
  have hA := holds_slice (c := me d i) (m := buf) (q := fullShare) (g := g) rectA (fun _ => rfl)
  have hB := holds_slice (c := me d i) (m := buf) (q := fullShare) (g := g) rectB (fun _ => rfl)
  rw [show (fun x => g (rectA.emb x)) = gA from funext hgA] at hA
  rw [show (fun x => g (rectB.emb x)) = gB from funext hgB] at hB
  iapply ((part_join rect_disjoint).trans (Entails.of_eq (part_set rect_union)))
  isplitl [HA]
  · iapply (Entails.of_eq hA) $$ HA
  · iapply (Entails.of_eq hB) $$ HB

omit [FloatOps F] in
/-- What one half's gather delivers, row by row, makes the half. -/
theorem half_got {dst : Memref sig .scVector .vmem S128x128 .f32} {offs : Memref sig .scVector .vmem S128 .i32} (qk : Fin 128 → PosShare TreeShare)
    (fs : Buf (Elt F) ((tblAll tbl).view.loc (me d i))) (fd : Buf (Elt F) (dst.view.loc (me d i))) (fo : Buf (Elt F) (offs.view.loc (me d i)))
    (hin : ∀ x, (offs.view.read (Elt F) fo x).toNat < S99000x128.size gathers_S99000x128_S128x128.axis)
    (hs : ∀ x ∈ Finset.univ, (tblAll tbl).view.read (Elt F) fs x = gt x) (ho : ∀ x ∈ Finset.univ, offs.view.read (Elt F) fo x = a x) :
    (bigSep Finset.univ (rowGot (c := me d i) (tblAll tbl) dst gathers_S99000x128_S128x128 offs rfl qk fs fd fo hin) : sProp 𝕄)
      ⊢ iprop((∃ g, ⌜∀ (x : S128x128.Idx) (z : S99000x128.Idx) (y : S128.Idx), (z 1).val = (x 1).val → (x 0).val = (y 0).val → (z 0).val = (a y).toNat → g x = gt z⌝
            ∗ holds (me d i) dst fullShare g)
        ∗ holds (me d i) offs fullShare a ∗ bigSep Finset.univ fun j => ((tblAll tbl).view.loc (me d i) ↦[(tblAll tbl).view.set]{qk j} fs)) := by
  iintro H
  ihave H := (rowGot_join (c := me d i) (tblAll tbl) dst gathers_S99000x128_S128x128 offs rfl qk fs fd fo hin) $$ H
  icases H with ⟨Hd, Ho, Hs⟩
  isplitl [Hd]
  · iexists _
    isplitr
    swap
    · unfold holds part
      iexists _
      isplitr
      swap
      · rw [View.setOn_univ]; iexact Hd
      · ipureintro; exact fun x _ => congrFun (View.read_write_univ ..) x
    ipureintro
    intro x z y h1 h0 hz
    unfold SparseCore.gatherPayload
    rw [hs _ (Finset.mem_univ _)]
    congr 1
    funext k
    apply Fin.ext
    match k with
    | ⟨0, hk⟩ =>
      refine (congrArg Fin.val (Shape.Gathers.idx_axis gathers_S99000x128_S128x128 _ x)).trans ?_
      refine Eq.trans ?_ hz.symm
      rw [← ho y (Finset.mem_univ _)]
      show (offs.view.read (Elt F) fo (S128.rowMajor.symm _)).toNat = _
      congr 2
      refine (Equiv.symm_apply_eq _).mpr (Fin.ext ?_)
      exact h0.trans (Shape.rowMajor_val_one y).symm
    | ⟨1, hk⟩ =>
      refine (Shape.Gathers.idx_of_ne gathers_S99000x128_S128x128 _ x ⟨1, hk⟩ Nat.one_ne_zero).trans ?_
      exact h1.symm
  isplitl [Ho]
  · unfold holds part
    iexists fo
    rw [View.setOn_univ]
    isplitr; · ipureintro; exact ho
    iexact Ho
  iexact Hs

omit [FloatOps F] in
/-- The halves hold what was looked up, so the buffer does. -/
theorem looked_of_halves {g : S256x128.Idx → Elt F .f32} {gA gB : S128x128.Idx → Elt F .f32} (hg : (∀ x, g (rectA.emb x) = gA x) ∧ ∀ x, g (rectB.emb x) = gB x)
    (hgA : ∀ (x : S128x128.Idx) (z : S99000x128.Idx) (y : S128.Idx), (z 1).val = (x 1).val → (x 0).val = (y 0).val → (z 0).val = (a y).toNat → gA x = gt z)
    (hgB : ∀ (x : S128x128.Idx) (z : S99000x128.Idx) (y : S128.Idx), (z 1).val = (x 1).val → (x 0).val = (y 0).val → (z 0).val = (b y).toNat → gB x = gt z) :
    Looked gt a b g := by
  intro x z y h1
  have hy : (y 0).val < 128 := (y 0).isLt
  have hx1 : (x 1).val < 128 := (x 1).isLt
  refine ⟨fun h0 hz => ?_, fun h0 hz => ?_⟩
  · have hx : x ∈ rectA.set := Rect.mem_set_unit.mpr fun k => by
      match k with
      | ⟨0, _⟩ => exact ⟨Nat.zero_le _, show (x 0).val < 0 + 128 by omega⟩
      | ⟨1, _⟩ => exact ⟨Nat.zero_le _, show (x 1).val < 0 + 128 by omega⟩
    rw [← Rect.map_emb_univ] at hx
    obtain ⟨x', -, rfl⟩ := Finset.mem_map.mp hx
    have e0 : ((rectA.emb x') 0).val = 0 + 1 * (x' 0).val := Rect.emb_apply ..
    have e1 : ((rectA.emb x') 1).val = 0 + 1 * (x' 1).val := Rect.emb_apply ..
    rw [hg.1]
    exact hgA x' z y (by omega) (by omega) hz
  · have hx : x ∈ rectB.set := Rect.mem_set_unit.mpr fun k => by
      match k with
      | ⟨0, _⟩ => exact ⟨show 128 ≤ (x 0).val by omega, show (x 0).val < 128 + 128 by omega⟩
      | ⟨1, _⟩ => exact ⟨Nat.zero_le _, show (x 1).val < 0 + 128 by omega⟩
    rw [← Rect.map_emb_univ] at hx
    obtain ⟨x', -, rfl⟩ := Finset.mem_map.mp hx
    have e0 : ((rectB.emb x') 0).val = 128 + 1 * (x' 0).val := Rect.emb_apply ..
    have e1 : ((rectB.emb x') 1).val = 0 + 1 * (x' 1).val := Rect.emb_apply ..
    rw [hg.2]
    exact hgB x' z y (by omega) (by omega) hz

/-- What a pair of gathers gives back. -/
abbrev lookedUp (d : Dev nD) (i : grid0.Coords) (tbl : Memref sig .scVector .hbm S99000x128 .f32) (buf : Memref sig .scVector .vmem S256x128 .f32)
    (fA fB : Memref sig .scVector .vmem S128 .i32) (q : PosShare TreeShare) (gt : S99000x128.Idx → Elt F .f32) (a b : S128.Idx → BitVec 32) : sProp 𝕄 :=
  iprop(holds (me d i) tbl q gt ∗ (∃ g, ⌜Looked gt a b g⌝ ∗ holds (me d i) buf fullShare g)
    ∗ (∃ a', holds (me d i) fA fullShare a') ∗ (∃ b', holds (me d i) fB fullShare b'))

/-- Issuing both gathers of a chunk. -/
theorem run_gathers {Q : α → sProp 𝕄} {sem : DmaSem sig} (ha : ∀ y, (a y).toNat < 99000) (hb : ∀ y, (b y).toNat < 99000)
    {hp : (me d i).2.kind = .scVector} {hsrc : (tblAll tbl).view.WordExact} {he : EltTy.f32.bits = 32} {hsp : Space.hbm = .hbm ∨ Space.hbm = .shared}
    {hr : S99000x128.StreamRows 0} {k : PUnit → TP F i α} :
    iprop(holds (me d i) tbl q gt ∗ holds (me d i) buf fullShare g₀ ∗ holds (me d i) fA fullShare a ∗ holds (me d i) fB fullShare b
        ∗ semVal (me d i, .dma sem) 0)
      ⊢ iprop((gathering (me d i) sem (lookedUp d i tbl buf fA fB q gt a b) -∗ runs (me d i) (k ⟨⟩) Q)
        -∗ runs (me d i) (SparseCore.enqueueIndirectGather hp (tblAll tbl) (upper buf) gathers_S99000x128_S128x128 fA rfl sem hsrc he hsp hr >>= fun _ =>
            SparseCore.enqueueIndirectGather hp (tblAll tbl) (lower buf) gathers_S99000x128_S128x128 fB rfl sem hsrc he hsp hr >>= k) Q) := by
  iintro ⟨Ht, Hb, HA, HB, Hv⟩ Hk
  ihave Ht := (Entails.of_eq tblAll_eq.symm) $$ Ht
  ihave Hb := (halves g₀) $$ Hb
  icases Hb with ⟨Hu, Hl⟩
  unfold holds part
  icases Ht with ⟨%fs, %hs, Ht⟩
  icases Hu with ⟨%fu, %hu, Hu⟩
  icases Hl with ⟨%fl, %hl, Hl⟩
  icases HA with ⟨%fa, %hfa, HA⟩
  icases HB with ⟨%fb, %hfb, HB⟩
  have hinA : ∀ x, (fA.view.read (Elt F) fa x).toNat < S99000x128.size gathers_S99000x128_S128x128.axis := fun x => by rw [hfa x (Finset.mem_univ _)]; exact ha x
  have hinB : ∀ x, (fB.view.read (Elt F) fb x).toNat < S99000x128.size gathers_S99000x128_S128x128.axis := fun x => by rw [hfb x (Finset.mem_univ _)]; exact hb x
  let qA : Fin 128 → PosShare TreeShare := fun j => pieceOf q 256 (by decide) (at' 0 (by decide) j)
  let qB : Fin 128 → PosShare TreeShare := fun j => pieceOf q 256 (by decide) (at' 128 (by decide) j)
  let DA : Fin 128 → sProp 𝕄 := rowGot (c := me d i) (tblAll tbl) (upper buf) gathers_S99000x128_S128x128 fA rfl qA fs fu fa hinA
  let DB : Fin 128 → sProp 𝕄 := rowGot (c := me d i) (tblAll tbl) (lower buf) gathers_S99000x128_S128x128 fB rfl qB fs fl fb hinB
  let D : Fin 256 → sProp 𝕄 := fun t => if h : t.val < 128 then DA ⟨t.val, h⟩ else DB ⟨t.val - 128, by omega⟩
  have hDA : ∀ j : Fin 128, D (at' 0 (by decide) j) = DA j := fun j => by
    have h : ((at' 0 (by decide) j : Fin 256)).val = j.val := Nat.zero_add _
    show (if h : _ then _ else _) = _
    rw [dif_pos (by rw [h]; exact j.isLt)]; congr 1; exact Fin.ext h
  have hDB : ∀ j : Fin 128, D (at' 128 (by decide) j) = DB j := fun j => by
    have h : ((at' 128 (by decide) j : Fin 256)).val = 128 + j.val := rfl
    show (if h : _ then _ else _) = _
    rw [dif_neg (by rw [h]; omega)]; congr 1; exact Fin.ext (by show _ - 128 = j.val; rw [h]; omega)
  have hst : ∀ t, BI.Storable (upEmb : UEmb _ 𝕄) (D t) := fun t => by
    show BI.Storable _ (if h : _ then _ else _)
    split
    · exact rowGot_storable ..
    · exact rowGot_storable ..
  rw [View.setOn_univ, View.setOn_univ, View.setOn_univ, View.setOn_univ, View.setOn_univ]
  imod (Transfers.batch_alloc' countersEmb (c := me d i) (default : HIx 1) 4096 D (E := Set.univ)) $$ Hv with HB0
  ihave Ht := (Entails.of_eq ((pointsTo_piecesOf (ℓ := (tblAll tbl).view.loc (me d i)) (tblAll tbl).view.set fs (o := 256) (by decide) q).trans (blocks_all _))) $$ Ht
  icases Ht with ⟨HtA, HtB⟩
  iapply (run_gather (c := me d i) (tblAll tbl) (upper buf) gathers_S99000x128_S128x128 fA rfl qA fs fu fa hinA (D := D)
    (by decide) 4096 0 0 (by decide) (by decide) (fun _ => row_units) hDA) $$ [HtA Hu HA HB0]
  · isplitl [HtA]; · iexact HtA
    isplitl [Hu]; · iexact Hu
    isplitl [HA] <;> iassumption
  iintro HB1
  iapply (run_gather (c := me d i) (tblAll tbl) (lower buf) gathers_S99000x128_S128x128 fB rfl qB fs fl fb hinB (D := D)
    (by decide) 4096 128 0 (by decide) (by decide) (fun _ => row_units) hDB) $$ [HtB Hl HB HB1]
  · isplitl [HtB]; · iexact HtB
    isplitl [Hl]; · iexact Hl
    isplitl [HB]; · iexact HB
    iexact HB1
  iintro HB2
  iapply Hk
  unfold gathering
  iexists D
  isplitr; swap; · iexact HB2
  ipureintro
  rw [blocks_all D, bigSep_congr fun j _ => hDA j, bigSep_congr fun j _ => hDB j]
  refine BIBase.Entails.trans (BIClass.sep_mono (half_got (a := a) (gt := gt) qA fs fu fa hinA hs hfa) (half_got (a := b) (gt := gt) qB fs fl fb hinB hs hfb)) ?_
  iintro ⟨HA, HB⟩
  icases HA with ⟨⟨%gA, %hgA, HdA⟩, HoA, HtA⟩
  icases HB with ⟨⟨%gB, %hgB, HdB⟩, HoB, HtB⟩
  unfold lookedUp
  isplitl [HtA HtB]
  · iapply (Entails.of_eq tblAll_eq)
    unfold holds part
    iexists fs
    isplitr; · ipureintro; exact hs
    rw [View.setOn_univ]
    iapply (Entails.of_eq ((pointsTo_piecesOf (ℓ := (tblAll tbl).view.loc (me d i)) (tblAll tbl).view.set fs (o := 256) (by decide) q).trans (blocks_all _)).symm)
    isplitl [HtA] <;> iassumption
  isplitl [HdA HdB]
  · ihave H := (halves_join gA gB) $$ [HdA HdB]
    · isplitl [HdA] <;> iassumption
    icases H with ⟨%g, %hg, H⟩
    iexists g
    isplitr; swap; · iexact H
    ipureintro
    exact looked_of_halves hg hgA hgB
  isplitl [HoA]
  · iexists a; iexact HoA
  · iexists b; iexact HoB

/-- Waiting for both gathers of a chunk. -/
theorem run_gathered {Q : α → sProp 𝕄} {sem : DmaSem sig} {Post : sProp 𝕄} {O : CellTallies nD τ sig (HIx 1)} {W₀ : Waits sig (HIx 1)}
    {s₁ s₂ : Memref sig .scVector .hbm S99000x128 .f32} {h₁ : s₁.view.WordExact} {h₂ : s₂.view.WordExact}
    {h₃ : (upper buf).view.WordExact} {h₄ : (lower buf).view.WordExact} {k : PUnit → TP F i α} :
    iprop(gathering (me d i) sem Post ∗ clock (me d i) O W₀)
      ⊢ iprop((Post -∗ semVal (me d i, .dma sem) 0 -∗ clock (me d i) O W₀ -∗ runs (me d i) (k ⟨⟩) Q)
        -∗ runs (me d i) (SparseCore.waitIndirectGather sem s₁ (upper buf) h₁ h₃ >>= fun _ =>
            SparseCore.waitIndirectGather sem s₂ (lower buf) h₂ h₄ >>= k) Q) := by
  unfold gathering
  iintro ⟨⟨%D, %hD, HB⟩, HC⟩ Hk
  iapply (run_waitSome (c := me d i) (sem := sem) (srcw := s₁) (dstw := upper buf) (N := 4096) 128 half_units (D := D) (j := 256) (u := 0) (by decide)) $$ [HB HC]
  · isplitl [HB] <;> iassumption
  iintro HB HC
  iapply (run_waitSome (c := me d i) (sem := sem) (srcw := s₂) (dstw := lower buf) (N := 4096) 128 half_units (D := D) (j := 256) (u := 0 + 128 * 4096) (by decide)) $$ [HB HC]
  · isplitl [HB] <;> iassumption
  iintro HB HC
  imod (Transfers.batch_collect' countersEmb (c := me d i) (n := 256) (N := 4096) (by decide) (D := D)) $$ HB with ⟨HD, Hv⟩
  ihave HP := hD $$ HD
  iapply Hk $$ HP Hv HC

end Pair

end Cert.Proof

end
-- ==== Proof.Patch.lean ====
/-
  The rows of a chunk that come from the small table: one copy of a row for each entry of the lists, all counted on one
  semaphore, then one wait for each.
-/
module

public import proofs.«01_k».proof.Proof.Gather

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Places of the small words -/

/-- Each count below the total is the count at some small word. -/
theorem place (wd : ℕ → BitVec 32) (n p : ℕ) (h : p < cnt wd n) : ∃ j, j < n ∧ tr wd j ∧ cnt wd j = p := by
  induction n with
  | zero => simp [cnt] at h
  | succ n ih =>
    rw [show cnt wd (n + 1) = cnt wd n + if tr wd n then 1 else 0 from Nat.count_succ ..] at h
    by_cases h1 : p < cnt wd n
    · obtain ⟨j, hj, h2⟩ := ih h1; exact ⟨j, by omega, h2⟩
    · by_cases h2 : tr wd n
      · rw [if_pos h2] at h; exact ⟨n, by omega, h2, by omega⟩
      · rw [if_neg h2] at h; omega

theorem cnt_inj (wd : ℕ → BitVec 32) {j k : ℕ} (hj : tr wd j) (hk : tr wd k) (h : cnt wd j = cnt wd k) : j = k :=
  Nat.count_injective hj hk h

theorem cnt_lt (wd : ℕ → BitVec 32) {j n : ℕ} (hj : tr wd j) (h : j < n) : cnt wd j < cnt wd n := Nat.count_strict_mono hj h

/-- The place of small word number `p` among the first 256. -/
def pos (wd : ℕ → BitVec 32) (p : Fin (cnt wd 256)) : ℕ := (place wd 256 p p.isLt).choose

theorem pos_lt (wd : ℕ → BitVec 32) (p : Fin (cnt wd 256)) : pos wd p < 256 := (place wd 256 p p.isLt).choose_spec.1
theorem pos_tr (wd : ℕ → BitVec 32) (p : Fin (cnt wd 256)) : tr wd (pos wd p) := (place wd 256 p p.isLt).choose_spec.2.1
theorem cnt_pos (wd : ℕ → BitVec 32) (p : Fin (cnt wd 256)) : cnt wd (pos wd p) = p := (place wd 256 p p.isLt).choose_spec.2.2

theorem pos_inj (wd : ℕ → BitVec 32) {p p' : Fin (cnt wd 256)} (h : pos wd p = pos wd p') : p = p' :=
  Fin.ext (by rw [← cnt_pos wd p, ← cnt_pos wd p', h])

/-! ## Rows -/

/-- Row `j` of a chunk's buffer. -/
def brow (j : ℕ) : Finset S256x128.Idx := Finset.univ.filter fun x => (x 0).val = j

/-- Row `j` of the small table. -/
def trow (j : ℕ) : Finset S1000x128.Idx := Finset.univ.filter fun x => (x 0).val = j

/-- The rows of a chunk's buffer that the small table has no part in. -/
def kept (wd : ℕ → BitVec 32) : Finset S256x128.Idx := Finset.univ.filter fun x => ¬ tr wd (x 0).val

theorem brow_rect (v : BitVec 32) (h : ∀ a, (![v.toNat, 0] : Fin 2 → ℕ) a + S1x128.size a ≤ S256x128.size a) :
    (Rect.unit (s := S256x128) ![v.toNat, 0] S1x128.size h).set = brow v.toNat := by
  ext x
  rw [Rect.mem_set_unit, brow, Finset.mem_filter]
  have h1 : (x 1).val < 128 := (x 1).isLt
  constructor
  · intro hx
    have h0 : v.toNat ≤ (x 0).val ∧ (x 0).val < v.toNat + 1 := hx 0
    exact ⟨Finset.mem_univ _, by omega⟩
  · rintro ⟨-, hx⟩ a
    match a with
    | ⟨0, _⟩ => exact ⟨show v.toNat ≤ (x 0).val by omega, show (x 0).val < v.toNat + 1 by omega⟩
    | ⟨1, _⟩ => exact ⟨Nat.zero_le _, show (x 1).val < 0 + 128 by omega⟩

theorem trow_rect (v : BitVec 32) (h : ∀ a, (![v.toNat, 0] : Fin 2 → ℕ) a + S1x128.size a ≤ S1000x128.size a) :
    (Rect.unit (s := S1000x128) ![v.toNat, 0] S1x128.size h).set = trow v.toNat := by
  ext x
  rw [Rect.mem_set_unit, trow, Finset.mem_filter]
  have h1 : (x 1).val < 128 := (x 1).isLt
  constructor
  · intro hx
    have h0 : v.toNat ≤ (x 0).val ∧ (x 0).val < v.toNat + 1 := hx 0
    exact ⟨Finset.mem_univ _, by omega⟩
  · rintro ⟨-, hx⟩ a
    match a with
    | ⟨0, _⟩ => exact ⟨show v.toNat ≤ (x 0).val by omega, show (x 0).val < v.toNat + 1 by omega⟩
    | ⟨1, _⟩ => exact ⟨Nat.zero_le _, show (x 1).val < 0 + 128 by omega⟩

theorem all_rows (wd : ℕ → BitVec 32) : kept wd ∪ (Finset.univ : Finset (Fin (cnt wd 256))).biUnion (fun p => brow (pos wd p)) = Finset.univ := by
  refine Finset.eq_univ_iff_forall.mpr fun x => Finset.mem_union.mpr ?_
  by_cases h : tr wd (x 0).val
  · right
    have hx : (x 0).val < 256 := (x 0).isLt
    refine Finset.mem_biUnion.mpr ⟨⟨cnt wd (x 0).val, cnt_lt wd h hx⟩, Finset.mem_univ _, Finset.mem_filter.mpr ⟨Finset.mem_univ _, ?_⟩⟩
    exact cnt_inj wd h (pos_tr ..) (cnt_pos wd ⟨cnt wd (x 0).val, cnt_lt wd h hx⟩).symm
  · left; exact Finset.mem_filter.mpr ⟨Finset.mem_univ _, h⟩

theorem kept_brow (wd : ℕ → BitVec 32) (p) : Disjoint (kept wd) (brow (pos wd p)) := by
  rw [Finset.disjoint_left]; intro x hx hy
  rw [kept, Finset.mem_filter] at hx; rw [brow, Finset.mem_filter] at hy
  exact hx.2 (hy.2 ▸ pos_tr wd p)

theorem brow_brow (wd : ℕ → BitVec 32) {p p'} (h : p ≠ p') : Disjoint (brow (pos wd p)) (brow (pos wd p')) := by
  rw [Finset.disjoint_left]; intro x hx hy
  rw [brow, Finset.mem_filter] at hx hy
  exact h (pos_inj wd (hx.2.symm.trans hy.2))

section Parts

variable {c : Thread nD τ} {sp : Space} {s : Shape} {e : EltTy} {m : Memref sig c.2.kind sp s e} {q : PosShare TreeShare} {g : s.Idx → Elt F e}

omit c sp s e m q g in
theorem family_insert {I : Type} [DecidableEq I] {J : Finset I} {t : I} (h : t ∉ J) {P : I → sProp 𝕄} :
    bigSep (insert t J) P = iprop(P t ∗ bigSep J P) := BI.bigSep_insert h

/-- A part beside a family of parts. -/
theorem part_split_family {I : Type} [DecidableEq I] (R : Finset s.Idx) (K : I → Finset s.Idx) (J : Finset I)
    (hR : ∀ t ∈ J, Disjoint R (K t)) (hK : ∀ t ∈ J, ∀ t' ∈ J, t ≠ t' → Disjoint (K t) (K t')) :
    (part c m (R ∪ J.biUnion K) q g : sProp 𝕄) ⊢ iprop(part c m R q g ∗ bigSep J fun t => part c m (K t) q g) := by
  induction J using Finset.induction_on with
  | empty =>
    rw [Finset.biUnion_empty, Finset.union_empty, bigSep_empty]
    iintro H; isplitl [H]; · iexact H
    iempintro
  | insert t J ht ih =>
    have hd : Disjoint (K t) (R ∪ J.biUnion K) := by
      refine Finset.disjoint_union_right.mpr ⟨(hR t (Finset.mem_insert_self ..)).symm, (Finset.disjoint_biUnion_right ..).mpr fun t' h' => ?_⟩
      exact hK t (Finset.mem_insert_self ..) t' (Finset.mem_insert_of_mem h') fun he => ht (he ▸ h')
    rw [part_set (show R ∪ (insert t J).biUnion K = K t ∪ (R ∪ J.biUnion K) by rw [Finset.biUnion_insert, Finset.union_left_comm]), family_insert ht]
    iintro H
    ihave H := (part_split hd) $$ H
    icases H with ⟨H1, H2⟩
    ihave H2 := (ih (fun t' h' => hR t' (Finset.mem_insert_of_mem h')) fun a ha b hb => hK a (Finset.mem_insert_of_mem ha) b (Finset.mem_insert_of_mem hb)) $$ H2
    icases H2 with ⟨H2, H3⟩
    isplitl [H2]; · iexact H2
    isplitl [H1] <;> iassumption

theorem part_join_family {I : Type} [DecidableEq I] (R : Finset s.Idx) (K : I → Finset s.Idx) (J : Finset I)
    (hR : ∀ t ∈ J, Disjoint R (K t)) (hK : ∀ t ∈ J, ∀ t' ∈ J, t ≠ t' → Disjoint (K t) (K t')) :
    iprop(part c m R q g ∗ bigSep J fun t => part c m (K t) q g) ⊢ (part c m (R ∪ J.biUnion K) q g : sProp 𝕄) := by
  induction J using Finset.induction_on with
  | empty =>
    rw [Finset.biUnion_empty, Finset.union_empty, bigSep_empty]
    iintro ⟨H, -⟩; iexact H
  | insert t J ht ih =>
    have hd : Disjoint (K t) (R ∪ J.biUnion K) := by
      refine Finset.disjoint_union_right.mpr ⟨(hR t (Finset.mem_insert_self ..)).symm, (Finset.disjoint_biUnion_right ..).mpr fun t' h' => ?_⟩
      exact hK t (Finset.mem_insert_self ..) t' (Finset.mem_insert_of_mem h') fun he => ht (he ▸ h')
    rw [part_set (show R ∪ (insert t J).biUnion K = K t ∪ (R ∪ J.biUnion K) by rw [Finset.biUnion_insert, Finset.union_left_comm]), family_insert ht]
    iintro ⟨H2, H1, H3⟩
    iapply (part_join hd)
    isplitl [H1]; · iexact H1
    iapply (ih (fun t' h' => hR t' (Finset.mem_insert_of_mem h')) fun a ha b hb => hK a (Finset.mem_insert_of_mem ha) b (Finset.mem_insert_of_mem hb))
    isplitl [H2] <;> iassumption

end Parts

/-! ## One row's copy in a batch -/

section Copy

variable [FloatOps F] {c : Thread nD τ} {α : Type}

/-- Issuing the next copy of a batch, out of words of the source held raw. -/
theorem run_dmaBatch {Q : α → sProp 𝕄} {sp sp' : Space} {s : Shape} {e : EltTy} {src : Memref sig c.2.kind sp s e} {dst : Memref sig c.2.kind sp' s e} {sm : SemLoc sig}
    {hsrc : src.view.WordExact} {hdst : dst.view.WordExact} {hsem : DmaTarget.Typed (nD := nD) sp sm (.here dst)}
    {q : PosShare TreeShare} {fs : Buf (Elt F) (src.view.loc c)} {g g₀ : s.Idx → Elt F e} {k : PUnit → Prog (TpuEff nD τ sig (Elt F) Λ₀ c.2) α}
    {n : ℕ} {D : Fin n → sProp 𝕄} {j u : ℕ} (hg : ∀ x, src.view.read (Elt F) fs x = g x)
    (N : ℕ) (hN : dst.view.amount sm = N) (hj : j < n) (hu : u ≤ j * N)
    (hD : iprop(holds c dst fullShare g ∗ (src.view.loc c ↦[src.view.set]{q} fs)) ⊢ D ⟨j, hj⟩) :
    iprop((src.view.loc c ↦[src.view.set]{q} fs) ∗ holds c dst fullShare g₀ ∗ Transfers.Batch countersEmb c sm (default : HIx 1) N D j u)
      ⊢ iprop((Transfers.Batch countersEmb c sm (default : HIx 1) N D (j + 1) u -∗ runs c (k ⟨⟩) Q)
        -∗ runs c (Prog.lift (.enqueueDma src (.here dst) sm hsrc hdst hsem) >>= k) Q) := by
  unfold holds part at *
  iintro ⟨Hs, ⟨%f', %hf', Hd⟩, HB⟩ Hk
  simp only [View.setOn_univ] at *
  iapply (Transfers.wp_dmaBatch (defs := defs₀ (F := F)) countersEmb 𝒱₀ c none (src := src) (dst := dst) (via := .same) (sm := sm) (k := k)
    (q := q) (fs := fs) (Sd := dst.view.set) (fd := f') (D := D) (default : HIx 1) N hN subset_rfl hj hu ?_) $$ [Hs Hd HB]
  · refine BIBase.Entails.trans ?_ hD
    iintro ⟨Hd, Hs⟩
    isplitl [Hd]
    · iexists _; isplitr
      swap; · iexact Hd
      ipureintro; intro x _
      exact (congrFun (View.read_write_univ (v := dst.view) ..) x).trans (hg x)
    · iexact Hs
  · isplitl [Hs]; · iexact Hs
    isplitl [Hd] <;> iassumption
  iexact Hk

end Copy

/-! ## The loop of copies -/

section Loop

variable [FloatOps F] {d : Dev nD} {i : grid0.Coords}

/-- The copy of row `w` of the small table over row `v` of the buffer. -/
def copyTo (i : grid0.Coords) (train : Memref sig .scVector .hbm S1000x128 .f32) (buf : Memref sig .scVector .vmem S256x128 .f32)
    (jl tl : Memref sig .scVector .vmem S272 .i32) (psem : DmaSem sig) (o : Fin 1 → ℕ) (ho : ∀ a, o a + S16.size a ≤ S272.size a)
    (CB CT : BitVec 32 → Prop) (dB : ∀ v, Decidable (CB v)) (dT : ∀ v, Decidable (CT v))
    (hB : ∀ v, CB v → ∀ a, (![v.toNat, 0] : Fin 2 → ℕ) a + S1x128.size a ≤ S256x128.size a)
    (hT : ∀ v, CT v → ∀ a, (![v.toNat, 0] : Fin 2 → ℕ) a + S1x128.size a ≤ S1000x128.size a)
    (v : BitVec 32) (hv : CB v) (w : BitVec 32) : TP F i (BitVec 32) := do
  have hw : CT w := (← Prog.lift (TpuEff.assume (CT w) (dT w))).down
  Prog.lift (.enqueueDma ((train.slice (Rect.unit (s := S1000x128) ![w.toNat, 0] S1x128.size (hT w hw)) (fun _ => rfl)).squeeze S128 squeezes_S1x128_S128)
    (.here ((buf.slice (Rect.unit (s := S256x128) ![v.toNat, 0] S1x128.size (hB v hv)) (fun _ => rfl)).squeeze S128 squeezes_S1x128_S128))
    (.dma psem) ((View.wordExact_bits rfl).reshape _ _) ((View.wordExact_bits rfl).reshape _ _) ⟨Or.inl rfl, trivial⟩)
  pure 0#32

/-- The copy over row `v`: the row to copy is read off the second list. -/
def copyFrom (i : grid0.Coords) (train : Memref sig .scVector .hbm S1000x128 .f32) (buf : Memref sig .scVector .vmem S256x128 .f32)
    (jl tl : Memref sig .scVector .vmem S272 .i32) (psem : DmaSem sig) (o : Fin 1 → ℕ) (ho : ∀ a, o a + S16.size a ≤ S272.size a)
    (CB CT : BitVec 32 → Prop) (dB : ∀ v, Decidable (CB v)) (dT : ∀ v, Decidable (CT v))
    (hB : ∀ v, CB v → ∀ a, (![v.toNat, 0] : Fin 2 → ℕ) a + S1x128.size a ≤ S256x128.size a)
    (hT : ∀ v, CT v → ∀ a, (![v.toNat, 0] : Fin 2 → ℕ) a + S1x128.size a ≤ S1000x128.size a)
    (v : BitVec 32) : TP F i (BitVec 32) := do
  have hv : CB v := (← Prog.lift (TpuEff.assume (CB v) (dB v))).down
  let b ← Prog.lift (.load tl (Rect.unit (s := S272) o S16.size ho).toLoadRect (View.loadsAt_vmem h_S16))
  copyTo i train buf jl tl psem o ho CB CT dB dT hB hT v hv (extractAt ![0] (k0_pay16 b) inpos_S1_p0)

/-- One trip of the loop of copies: the row to overwrite is read off the first list. -/
def copyRow (i : grid0.Coords) (train : Memref sig .scVector .hbm S1000x128 .f32) (buf : Memref sig .scVector .vmem S256x128 .f32)
    (jl tl : Memref sig .scVector .vmem S272 .i32) (psem : DmaSem sig) (o : Fin 1 → ℕ) (ho : ∀ a, o a + S16.size a ≤ S272.size a)
    (CB CT : BitVec 32 → Prop) (dB : ∀ v, Decidable (CB v)) (dT : ∀ v, Decidable (CT v))
    (hB : ∀ v, CB v → ∀ a, (![v.toNat, 0] : Fin 2 → ℕ) a + S1x128.size a ≤ S256x128.size a)
    (hT : ∀ v, CT v → ∀ a, (![v.toNat, 0] : Fin 2 → ℕ) a + S1x128.size a ≤ S1000x128.size a) : TP F i (BitVec 32) := do
  let a ← Prog.lift (.load jl (Rect.unit (s := S272) o S16.size ho).toLoadRect (View.loadsAt_vmem h_S16))
  copyFrom i train buf jl tl psem o ho CB CT dB dT hB hT (extractAt ![0] (k0_pay15 a) inpos_S1_p0)

variable {train : Memref sig .scVector .hbm S1000x128 .f32} {buf : Memref sig .scVector .vmem S256x128 .f32}
variable {jl tl : Memref sig .scVector .vmem S272 .i32} {psem : DmaSem sig} {wd : ℕ → BitVec 32}
variable {g G : S256x128.Idx → Elt F .f32} {gt : S1000x128.Idx → Elt F .f32} {jg tg : S272.Idx → BitVec 32}
variable {pc : Fin (cnt wd 256) → PosShare TreeShare} {ft : Buf (Elt F) (train.view.loc (me d i))}

/-- Copy `p`'s row of the small table, at the copy's own share. -/
def srcRow (d : Dev nD) (i : grid0.Coords) (train : Memref sig .scVector .hbm S1000x128 .f32) (wd : ℕ → BitVec 32) (pc : Fin (cnt wd 256) → PosShare TreeShare)
    (ft : Buf (Elt F) (train.view.loc (me d i))) (p : Fin (cnt wd 256)) : sProp 𝕄 :=
  (train.view.loc (me d i) ↦[train.view.setOn (trow (wd (pos wd p)).toNat)]{pc p} ft)

/-- What copy `p` delivers: its row of the buffer as it should be, and its row of the small table back. -/
def delivered (d : Dev nD) (i : grid0.Coords) (train : Memref sig .scVector .hbm S1000x128 .f32) (buf : Memref sig .scVector .vmem S256x128 .f32)
    (wd : ℕ → BitVec 32) (pc : Fin (cnt wd 256) → PosShare TreeShare)
    (ft : Buf (Elt F) (train.view.loc (me d i))) (G : S256x128.Idx → Elt F .f32) (p : Fin (cnt wd 256)) : sProp 𝕄 :=
  iprop(part (me d i) buf (brow (pos wd p)) fullShare G ∗ srcRow d i train wd pc ft p)

instance delivered_storable (p : Fin (cnt wd 256)) : BI.Storable (upEmb : UEmb _ 𝕄) (delivered d i train buf wd pc ft G p) := by
  unfold delivered srcRow; infer_instance

/-- The loop of copies at trip `t`. -/
def copying (d : Dev nD) (i : grid0.Coords) (train : Memref sig .scVector .hbm S1000x128 .f32) (buf : Memref sig .scVector .vmem S256x128 .f32)
    (jl tl : Memref sig .scVector .vmem S272 .i32) (psem : DmaSem sig) (wd : ℕ → BitVec 32) (pc : Fin (cnt wd 256) → PosShare TreeShare)
    (ft : Buf (Elt F) (train.view.loc (me d i))) (g G : S256x128.Idx → Elt F .f32) (jg tg : S272.Idx → BitVec 32) (t : ℕ) : sProp 𝕄 :=
  iprop(holds (me d i) jl fullShare jg ∗ holds (me d i) tl fullShare tg
    ∗ (bigSep (Transfers.pending t) fun p : Fin (cnt wd 256) => iprop(part (me d i) buf (brow (pos wd p)) fullShare g ∗ srcRow d i train wd pc ft p))
    ∗ Transfers.Batch countersEmb (me d i) (.dma psem) (default : HIx 1) 4096 (delivered d i train buf wd pc ft G) t 0)

/-- A row of 128 floats counts 4096. -/
theorem vec_units : RefSig.bitCredit S128 .f32 = 4096 := by decide +kernel

/-- Entry `t` of a list of 272, through a load of sixteen. -/
theorem entry_emb (t : ℕ) (ho : ∀ a, (![t] : Fin 1 → ℕ) a + S16.size a ≤ S272.size a) (y : S16.Idx) (hy : (y 0).val = 0) :
    (((Rect.unit (s := S272) ![t] S16.size ho).emb y) 0).val = t := by
  have h : (((Rect.unit (s := S272) ![t] S16.size ho).emb y) 0).val = t + 1 * (y 0).val := Rect.emb_apply ..
  omega

theorem first15 (a : Vec F S16 .i32) : ∃ y : S16.Idx, (y 0).val = 0 ∧ extractAt ![0] (k0_pay15 a) inpos_S1_p0 = a y := ⟨_, rfl, rfl⟩
theorem first16 (a : Vec F S16 .i32) : ∃ y : S16.Idx, (y 0).val = 0 ∧ extractAt ![0] (k0_pay16 a) inpos_S1_p0 = a y := ⟨_, rfl, rfl⟩

variable (t : ℕ) (ht : t < cnt wd 256) (o : Fin 1 → ℕ) (ho : ∀ a, o a + S16.size a ≤ S272.size a)
variable (CB CT : BitVec 32 → Prop) (dB : ∀ v, Decidable (CB v)) (dT : ∀ v, Decidable (CT v))
variable (hB : ∀ v, CB v → ∀ a, (![v.toNat, 0] : Fin 2 → ℕ) a + S1x128.size a ≤ S256x128.size a)
variable (hT : ∀ v, CT v → ∀ a, (![v.toNat, 0] : Fin 2 → ℕ) a + S1x128.size a ≤ S1000x128.size a)

theorem row_squeezed (v : BitVec 32) (h : ∀ a, (![v.toNat, 0] : Fin 2 → ℕ) a + S1x128.size a ≤ S256x128.size a) (g : S256x128.Idx → Elt F .f32) :
    (holds (me d i) ((buf.slice (Rect.unit (s := S256x128) ![v.toNat, 0] S1x128.size h) (fun _ => rfl)).squeeze S128 squeezes_S1x128_S128) fullShare
      (fun y => g ((Rect.unit (s := S256x128) ![v.toNat, 0] S1x128.size h).emb (Shape.reshapeEquiv squeezes_S1x128_S128.numel_eq y))) : sProp 𝕄)
      = part (me d i) buf (brow v.toNat) fullShare g := by
  rw [part_set (brow_rect v h).symm]
  refine Eq.trans ?_ (holds_slice (c := me d i) (m := buf) (q := fullShare) (g := g) (Rect.unit (s := S256x128) ![v.toNat, 0] S1x128.size h) (fun _ => rfl))
  exact holds_squeeze (c := me d i) (m := buf.slice (Rect.unit (s := S256x128) ![v.toNat, 0] S1x128.size h) (fun _ => rfl)) (q := fullShare)
    (g := fun x => g ((Rect.unit (s := S256x128) ![v.toNat, 0] S1x128.size h).emb x)) S128 squeezes_S1x128_S128

theorem set_squeezed (w : BitVec 32) (h : ∀ a, (![w.toNat, 0] : Fin 2 → ℕ) a + S1x128.size a ≤ S1000x128.size a) :
    ((train.slice (Rect.unit (s := S1000x128) ![w.toNat, 0] S1x128.size h) (fun _ => rfl)).squeeze S128 squeezes_S1x128_S128).view.set
      = train.view.setOn (trow w.toNat) := by
  rw [← trow_rect w h]
  exact (View.set_reshape ..).trans (View.set_slice ..)

theorem runs_copyTo {Q : BitVec 32 → sProp 𝕄} (hf : ∀ x, train.view.read (Elt F) ft x = gt x)
    (hG : ∀ (x : S256x128.Idx) (z : S1000x128.Idx), tr wd (x 0).val → (z 0).val = (wd (x 0).val).toNat → (z 1).val = (x 1).val → G x = gt z)
    (v : BitVec 32) (hv : CB v) (w : BitVec 32) (hCT : CT w) (hvn : pos wd ⟨t, ht⟩ = v.toNat) (hw : wd (pos wd ⟨t, ht⟩) = w) :
    iprop(part (me d i) buf (brow (pos wd ⟨t, ht⟩)) fullShare g ∗ srcRow d i train wd pc ft ⟨t, ht⟩
        ∗ Transfers.Batch countersEmb (me d i) (.dma psem) (default : HIx 1) 4096 (delivered d i train buf wd pc ft G) t 0)
      ⊢ iprop((Transfers.Batch countersEmb (me d i) (.dma psem) (default : HIx 1) 4096 (delivered d i train buf wd pc ft G) (t + 1) 0 -∗ Q 0#32)
        -∗ runs (me d i) (copyTo i train buf jl tl psem o ho CB CT dB dT hB hT v hv w) Q) := by
  have hD : iprop(part (me d i) buf (brow v.toNat) fullShare G ∗ (train.view.loc (me d i) ↦[train.view.setOn (trow w.toNat)]{pc ⟨t, ht⟩} ft))
      ⊢ (delivered d i train buf wd pc ft G ⟨t, ht⟩ : sProp 𝕄) := by
    unfold delivered srcRow; rw [hw, hvn]
  have hS : (srcRow d i train wd pc ft ⟨t, ht⟩ : sProp 𝕄) ⊢ (train.view.loc (me d i) ↦[train.view.setOn (trow w.toNat)]{pc ⟨t, ht⟩} ft) := by
    unfold srcRow; rw [hw]
  have hrd : ∀ y, ((train.slice (Rect.unit (s := S1000x128) ![w.toNat, 0] S1x128.size (hT w hCT)) (fun _ => rfl)).squeeze S128 squeezes_S1x128_S128).view.read (Elt F) ft y
      = G ((Rect.unit (s := S256x128) ![v.toNat, 0] S1x128.size (hB v hv)).emb (Shape.reshapeEquiv squeezes_S1x128_S128.numel_eq y)) := fun y => by
    suffices hz : ∀ z : S1x128.Idx, train.view.read (Elt F) ft ((Rect.unit (s := S1000x128) ![w.toNat, 0] S1x128.size (hT w hCT)).emb z)
        = G ((Rect.unit (s := S256x128) ![v.toNat, 0] S1x128.size (hB v hv)).emb z) from hz (Shape.reshapeEquiv squeezes_S1x128_S128.numel_eq y)
    intro z
    have hz : (z 0).val < 1 := (z 0).isLt
    have e0 : (((Rect.unit (s := S256x128) ![v.toNat, 0] S1x128.size (hB v hv)).emb z) 0).val = v.toNat + 1 * (z 0).val := Rect.emb_apply ..
    have e1 : (((Rect.unit (s := S256x128) ![v.toNat, 0] S1x128.size (hB v hv)).emb z) 1).val = 0 + 1 * (z 1).val := Rect.emb_apply ..
    have f0 : (((Rect.unit (s := S1000x128) ![w.toNat, 0] S1x128.size (hT w hCT)).emb z) 0).val = w.toNat + 1 * (z 0).val := Rect.emb_apply ..
    have f1 : (((Rect.unit (s := S1000x128) ![w.toNat, 0] S1x128.size (hT w hCT)).emb z) 1).val = 0 + 1 * (z 1).val := Rect.emb_apply ..
    have e0' : (((Rect.unit (s := S256x128) ![v.toNat, 0] S1x128.size (hB v hv)).emb z) 0).val = pos wd ⟨t, ht⟩ := by omega
    refine (hf ((Rect.unit (s := S1000x128) ![w.toNat, 0] S1x128.size (hT w hCT)).emb z)).trans (hG _ _ ?_ ?_ ?_).symm
    · rw [e0']; exact pos_tr ..
    · rw [e0', hw]; omega
    · omega
  unfold copyTo
  iintro ⟨Hb, Hs, HB⟩ Hk
  iapply (run_assume hCT)
  ihave Hs := hS $$ Hs
  rw [hvn]
  ihave Hb := (Entails.of_eq (row_squeezed v (hB v hv) g).symm) $$ Hb
  iapply (run_dmaBatch (c := me d i) (src := (train.slice (Rect.unit (s := S1000x128) ![w.toNat, 0] S1x128.size (hT w hCT)) (fun _ => rfl)).squeeze S128 squeezes_S1x128_S128) (D := delivered d i train buf wd pc ft G) (j := t) (u := 0) (q := pc ⟨t, ht⟩) (fs := ft) (hdst := (View.wordExact_bits rfl).reshape _ _) (hsrc := (View.wordExact_bits rfl).reshape _ _) hrd 4096 (by exact vec_units) ht (Nat.zero_le _) ?_) $$ [Hs Hb HB]
  · refine BIBase.Entails.trans ?_ hD
    rw [set_squeezed w (hT w hCT)]
    iintro ⟨Hb, Hs⟩
    isplitl [Hb]
    · iapply (Entails.of_eq (row_squeezed v (hB v hv) G)) $$ Hb
    · iexact Hs
  · rw [set_squeezed w (hT w hCT)]
    isplitl [Hs]; · iexact Hs
    isplitl [Hb]; · iexact Hb
    iexact HB
  iintro HB
  iapply run_pure
  iapply Hk $$ HB

include ht in
theorem runs_copy (hl : Lists wd 256 jg tg) (hf : ∀ x, train.view.read (Elt F) ft x = gt x)
    (hG : ∀ (x : S256x128.Idx) (z : S1000x128.Idx), tr wd (x 0).val → (z 0).val = (wd (x 0).val).toNat → (z 1).val = (x 1).val → G x = gt z)
    (eo : o = ![t]) (hCB : ∀ v, v.toNat < 256 → CB v) (hCT : ∀ v, v.toNat < 1000 → CT v) :
    (copying d i train buf jl tl psem wd pc ft g G jg tg t : sProp 𝕄)
      ⊢ runs (me d i) (copyRow i train buf jl tl psem o ho CB CT dB dT hB hT) (fun _ => copying d i train buf jl tl psem wd pc ft g G jg tg (t + 1)) := by
  subst eo
  have hp : ∀ x : S272.Idx, (x 0).val = t → jg x = BitVec.ofNat 32 (pos wd ⟨t, ht⟩) ∧ tg x = wd (pos wd ⟨t, ht⟩) := fun x hx =>
    hl x (pos wd ⟨t, ht⟩) (pos_lt wd _) (pos_tr wd _) (hx.trans (cnt_pos wd ⟨t, ht⟩).symm)
  have hlt := pos_lt wd ⟨t, ht⟩
  have htr : (wd (pos wd ⟨t, ht⟩)).toNat < 1000 := pos_tr wd _
  have hrow : bigSep (Transfers.pending t) (fun p : Fin (cnt wd 256) => iprop(part (me d i) buf (brow (pos wd p)) fullShare g ∗ srcRow d i train wd pc ft p))
      = iprop((part (me d i) buf (brow (pos wd ⟨t, ht⟩)) fullShare g ∗ srcRow d i train wd pc ft ⟨t, ht⟩)
        ∗ bigSep (Transfers.pending (t + 1)) (fun p : Fin (cnt wd 256) => iprop(part (me d i) buf (brow (pos wd p)) fullShare g ∗ srcRow d i train wd pc ft p))) := by
    rw [Transfers.pending_succ ht, BI.bigSep_insert (Transfers.not_mem_pending_succ ht)]; rfl
  unfold copying copyRow
  iintro ⟨Hj, Ht, HP, HB⟩
  iapply (run_load (c := me d i) (m := jl) (q := fullShare) (g := jg)) $$ Hj
  iintro Hj
  obtain ⟨y, hy, hv⟩ := first15 (F := F) (fun y => jg ((Rect.unit (s := S272) ![t] S16.size ho).emb y))
  have hv := hv.trans (hp _ (entry_emb t ho y hy)).1
  have hvn := (congrArg BitVec.toNat hv).trans (BitVec.toNat_ofNat ..)
  rw [Nat.mod_eq_of_lt (by omega)] at hvn
  unfold copyFrom
  iapply (run_assume (hCB _ (hvn ▸ hlt)))
  iapply (run_load (c := me d i) (m := tl) (q := fullShare) (g := tg)) $$ Ht
  iintro Ht
  obtain ⟨y', hy', hw⟩ := first16 (F := F) (fun y => tg ((Rect.unit (s := S272) ![t] S16.size ho).emb y))
  have hw := hw.trans (hp _ (entry_emb t ho y' hy')).2
  ihave HP := (Entails.of_eq hrow) $$ HP
  icases HP with ⟨⟨Hb, Hs⟩, HP⟩
  iapply (runs_copyTo (d := d) t ht ![t] ho CB CT dB dT hB hT hf hG _ _ _ (hCT _ (by rw [hw]; exact htr)) hvn.symm hw.symm) $$ [Hb Hs HB]
  · isplitl [Hb]; · iexact Hb
    isplitl [Hs] <;> iassumption
  iintro HB
  isplitl [Hj]; · iexact Hj
  isplitl [Ht]; · iexact Ht
  isplitl [HP] <;> iassumption

end Loop

end Cert.Proof

end
-- ==== Proof.Rows.lean ====
/-
  A whole patch of a buffer: every small word's row is copied over what the gather left there. Copies are issued one per trip of
  a first loop, all counted on one semaphore, and waited for one per trip of another; two further loops make no trips.
-/
module

public import proofs.«01_k».proof.Proof.Patch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The counted loops of a patch -/

theorem loop_facts : ∀ n : Fin 257, (k0_t4_loop (BitVec.ofNat 32 n.val)).OK ∧ (k0_t4_loop (BitVec.ofNat 32 n.val)).trips = n.val
    ∧ (k0_t5_loop (BitVec.ofNat 32 n.val)).OK ∧ (k0_t5_loop (BitVec.ofNat 32 n.val)).trips = 0 := by decide +kernel

theorem iv_nat : ∀ t : Fin 256, (Scalar.indexCast (Scf.iv 0#32 1#32 t.val)).toNat = t.val := by decide +kernel

theorem entry_off {n : ℕ} (hn : n ≤ 256) (t : Fin (k0_t4_loop (BitVec.ofNat 32 n)).trips) : k0_off7 (BitVec.ofNat 32 n) t = ![t.val] := by
  have ht : t.val < 256 := by
    have h1 := t.isLt
    have h2 := (loop_facts ⟨n, by omega⟩).2.1
    have h2' : (k0_t4_loop (BitVec.ofNat 32 n)).trips = n := h2
    omega
  exact congrArg (fun v => ![v]) (iv_nat ⟨t.val, ht⟩)

theorem count_checks (t1 : Fin k0_t1_loop.trips) {n : ℕ} (hn : n ≤ 256) : k0_chk3 t1 (BitVec.ofNat 32 n) ∧ k0_chk10 t1 (BitVec.ofNat 32 n) := by
  have hf := loop_facts ⟨n, by omega⟩
  have h4 : (k0_t4_loop (BitVec.ofNat 32 n)).trips = n := hf.2.1
  have h5 : (k0_t5_loop (BitVec.ofNat 32 n)).trips = 0 := hf.2.2.2
  have ho : ∀ t : Fin (k0_t4_loop (BitVec.ofNat 32 n)).trips, ∀ a, (k0_off7 (BitVec.ofNat 32 n) t) a + S16.size a ≤ S272.size a := fun t a => by
    rw [entry_off hn t]
    have := t.isLt
    match a with
    | ⟨0, _⟩ => exact (show t.val + 16 ≤ 272 by omega)
  refine ⟨⟨fun _ => hf.1, fun t _ => ho t, fun _ => hf.2.2.1, fun t => absurd t.isLt (by omega), fun _ => hf.1, fun _ => hf.2.2.1⟩,
    ⟨fun _ => hf.1, fun t _ => ho t, fun _ => hf.2.2.1, fun t => absurd t.isLt ?_, fun _ => hf.1, fun _ => hf.2.2.1⟩⟩
  exact fun h => Nat.not_lt_zero t.val (lt_of_lt_of_eq h h5)

theorem row_in_buf (v : BitVec 32) (h : v.toNat < 256) : ∀ a, (![v.toNat, 0] : Fin 2 → ℕ) a + S1x128.size a ≤ S256x128.size a := fun a =>
  match a with
  | ⟨0, _⟩ => (show v.toNat + 1 ≤ 256 by omega)
  | ⟨1, _⟩ => (show 0 + 128 ≤ 128 by omega)

theorem row_in_train (v : BitVec 32) (h : v.toNat < 1000) : ∀ a, (![v.toNat, 0] : Fin 2 → ℕ) a + S1x128.size a ≤ S1000x128.size a := fun a =>
  match a with
  | ⟨0, _⟩ => (show v.toNat + 1 ≤ 1000 by omega)
  | ⟨1, _⟩ => (show 0 + 128 ≤ 128 by omega)

/-- A loop that makes no trips hands its start on. -/
theorem runs_none {i : grid0.Coords} {d : Dev nD} {β : Type} {Q : β → sProp 𝕄} (lp : Scf.Loop 32) (hok : lp.OK) (h0 : lp.trips = 0)
    (body : Fin lp.trips → BitVec 32 → TP F i (BitVec 32)) (k : BitVec 32 → TP F i β) (acc : BitVec 32) :
    iprop(∀ v, runs (me d i) (k v) Q) ⊢ (runs (me d i) (Scf.Loop.for lp hok acc body >>= k) Q : sProp 𝕄) := by
  have h := Scf.wp_for_bind (kk := k) (Q := Q) frame (wpE (defs₀ (F := F)) 𝒱₀ (me d i) none) Set.univ lp.lb lp.ub lp.st hok acc body (fun _ _ => (BI.emp : sProp 𝕄))
    (fun t => absurd t.isLt (fun h => Nat.not_lt_zero _ (lt_of_lt_of_eq h h0)))
  iintro H
  iapply h
  · iempintro
  iintro %v -
  iapply H

section Whole

variable {d : Dev nD} {i : grid0.Coords} {α : Type}
variable {train : Memref sig .scVector .hbm S1000x128 .f32} {buf : Memref sig .scVector .vmem S256x128 .f32}
variable {jl tl : Memref sig .scVector .vmem S272 .i32} {psem : DmaSem sig} {wd : ℕ → BitVec 32}
variable {g G : S256x128.Idx → Elt F .f32} {gt : S1000x128.Idx → Elt F .f32} {jg tg : S272.Idx → BitVec 32}
variable {O : CellTallies nD τ sig (HIx 1)} {W₀ : Waits sig (HIx 1)}

/-- One wait for one row. -/
def dropRow (i : grid0.Coords) (train : Memref sig .scVector .hbm S1000x128 .f32) (buf : Memref sig .scVector .vmem S256x128 .f32) (psem : DmaSem sig) :
    TP F i (BitVec 32) := do
  Prog.lift (.waitDma2 psem
    ((train.slice (Rect.unit (s := S1000x128) ![0, 0] S1x128.size inb_S1000x128_S1x128_0_0) (fun _ => rfl)).squeeze S128 squeezes_S1x128_S128)
    ((buf.slice (Rect.unit (s := S256x128) ![0, 0] S1x128.size inb_S256x128_S1x128_0_0) (fun _ => rfl)).squeeze S128 squeezes_S1x128_S128)
    ((View.wordExact_bits rfl).reshape _ _) ((View.wordExact_bits rfl).reshape _ _))
  pure 0#32

/-- The small table, split so that each copy has its row at a share of its own; the family of rows gives the table back. -/
theorem train_rows (q : PosShare TreeShare) :
    (holds (me d i) train q gt : sProp 𝕄) ⊢ iprop(∃ (pc : Fin (cnt wd 256) → PosShare TreeShare) (ft : Buf (Elt F) (train.view.loc (me d i))),
      ⌜∀ x, train.view.read (Elt F) ft x = gt x⌝ ∗ bigSep Finset.univ (fun p => srcRow d i train wd pc ft p)
      ∗ (bigSep Finset.univ (fun p => srcRow d i train wd pc ft p) -∗ holds (me d i) train q gt)) := by
  have hsub : ∀ p : Fin (cnt wd 256), train.view.setOn (trow (wd (pos wd p)).toNat) ⊆ train.view.setOn Finset.univ := fun p =>
    Finset.map_subset_map.mpr (Finset.subset_univ _)
  unfold holds part
  iintro ⟨%ft, %hf, H⟩
  iexists fun p => pieceOf q (cnt wd 256 + 1) (Nat.succ_pos _) p.succ
  iexists ft
  isplitr; · ipureintro; exact fun x => hf x (Finset.mem_univ _)
  have hpair : ∀ p : Fin (cnt wd 256), (train.view.loc (me d i) ↦[train.view.setOn Finset.univ]{pieceOf q (cnt wd 256 + 1) (Nat.succ_pos _) p.succ} ft : sProp 𝕄)
      = iprop((train.view.loc (me d i) ↦[train.view.setOn (trow (wd (pos wd p)).toNat)]{pieceOf q (cnt wd 256 + 1) (Nat.succ_pos _) p.succ} ft)
        ∗ (train.view.loc (me d i) ↦[train.view.setOn Finset.univ \ train.view.setOn (trow (wd (pos wd p)).toNat)]{pieceOf q (cnt wd 256 + 1) (Nat.succ_pos _) p.succ} ft)) := fun p =>
    Idealize.SL.BI.Entails.antisymm (pointsTo_split_subset (hsub p)).1 (pointsTo_split_subset (hsub p)).2
  have hsplit : (train.view.loc (me d i) ↦[train.view.setOn Finset.univ]{q} ft : sProp 𝕄)
      = iprop((train.view.loc (me d i) ↦[train.view.setOn Finset.univ]{pieceOf q (cnt wd 256 + 1) (Nat.succ_pos _) 0} ft)
        ∗ bigSep Finset.univ (fun p : Fin (cnt wd 256) => srcRow d i train wd (fun p => pieceOf q (cnt wd 256 + 1) (Nat.succ_pos _) p.succ) ft p)
        ∗ bigSep Finset.univ (fun p : Fin (cnt wd 256) => (train.view.loc (me d i)
            ↦[train.view.setOn Finset.univ \ train.view.setOn (trow (wd (pos wd p)).toNat)]{pieceOf q (cnt wd 256 + 1) (Nat.succ_pos _) p.succ} ft : sProp 𝕄))) := by
    rw [pointsTo_piecesOf (train.view.setOn Finset.univ) ft (Nat.succ_pos (cnt wd 256)) q, bigSep_univ_succ, ← bigSep_sep']
    refine congrArg (fun X => iprop(_ ∗ X)) (congrArg (bigSep Finset.univ) (funext fun p => ?_))
    exact hpair p
  ihave H := (Entails.of_eq hsplit) $$ H
  icases H with ⟨H0, HR, HX⟩
  isplitl [HR]; · iexact HR
  iintro HR
  iexists ft
  isplitr; · ipureintro; exact hf
  iapply (Entails.of_eq hsplit.symm)
  isplitl [H0]; · iexact H0
  isplitl [HR] <;> iassumption

/-- The buffer, split into the rows to overwrite; those rows, rewritten, give the whole buffer as it should be. -/
theorem buf_rows (hG' : ∀ x : S256x128.Idx, ¬ tr wd (x 0).val → G x = g x) :
    (holds (me d i) buf fullShare g : sProp 𝕄) ⊢ iprop(bigSep Finset.univ (fun p : Fin (cnt wd 256) => part (me d i) buf (brow (pos wd p)) fullShare g)
      ∗ (bigSep Finset.univ (fun p : Fin (cnt wd 256) => part (me d i) buf (brow (pos wd p)) fullShare G) -∗ holds (me d i) buf fullShare G)) := by
  have hk : (part (me d i) buf (kept wd) fullShare g : sProp 𝕄) ⊢ part (me d i) buf (kept wd) fullShare G :=
    part_congr fun x hx => (hG' x (Finset.mem_filter.mp hx).2).symm
  have hs := part_split_family (F := F) (c := me d i) (m := buf) (q := fullShare) (g := g) (kept wd) (fun p : Fin (cnt wd 256) => brow (pos wd p)) Finset.univ
    (fun p _ => kept_brow wd p) (fun p _ p' _ h => brow_brow wd h)
  have hj := part_join_family (F := F) (c := me d i) (m := buf) (q := fullShare) (g := G) (kept wd) (fun p : Fin (cnt wd 256) => brow (pos wd p)) Finset.univ
    (fun p _ => kept_brow wd p) (fun p _ p' _ h => brow_brow wd h)
  rw [all_rows] at hs hj
  iintro H
  ihave H := hs $$ H
  icases H with ⟨HK, HR⟩
  isplitl [HR]; · iexact HR
  iintro HR
  ihave HK := hk $$ HK
  iapply hj
  isplitl [HK] <;> iassumption

/-- The loop of waits at trip `t`. -/
theorem runs_drop {n : ℕ} {D : Fin n → sProp 𝕄} (t : ℕ) (ht : t < n) :
    iprop(Transfers.Batch countersEmb (me d i) (.dma psem) (default : HIx 1) 4096 D n (4096 * t) ∗ clock (me d i) O W₀)
      ⊢ (runs (me d i) (dropRow i train buf psem) (fun _ => iprop(Transfers.Batch countersEmb (me d i) (.dma psem) (default : HIx 1) 4096 D n (4096 * (t + 1))
        ∗ clock (me d i) O W₀)) : sProp 𝕄) := by
  unfold dropRow
  iintro ⟨HB, HC⟩
  iapply (run_waitSome (c := me d i) (N := 4096) (dstw := (buf.slice (Rect.unit (s := S256x128) ![0, 0] S1x128.size inb_S256x128_S1x128_0_0) (fun _ => rfl)).squeeze S128 squeezes_S1x128_S128) 1 (by exact vec_units) (D := D) (j := n) (u := 4096 * t) (by omega)) $$ [HB HC]
  · isplitl [HB] <;> iassumption
  iintro HB HC
  iapply run_pure
  isplitl [HB]
  · rw [show 4096 * (t + 1) = 4096 * t + 1 * 4096 by omega]; iexact HB
  iexact HC

/-- The four loops of a patch, run. -/
theorem runs_patch {Q : α → sProp 𝕄} {q : PosShare TreeShare} {l4 l5 l6 l7 : Scf.Loop 32} {ok4 : l4.OK} {ok5 : l5.OK} {ok6 : l6.OK} {ok7 : l7.OK}
    (n4 : l4.trips = cnt wd 256) (n5 : l5.trips = 0) (n6 : l6.trips = cnt wd 256) (n7 : l7.trips = 0)
    {b4 : Fin l4.trips → BitVec 32 → TP F i (BitVec 32)} {b5 : Fin l5.trips → BitVec 32 → TP F i (BitVec 32)}
    {b6 : Fin l6.trips → BitVec 32 → TP F i (BitVec 32)} {b7 : Fin l7.trips → BitVec 32 → TP F i (BitVec 32)} {k : BitVec 32 → TP F i α}
    (o : Fin l4.trips → Fin 1 → ℕ) (ho : ∀ t a, o t a + S16.size a ≤ S272.size a) (eo : ∀ t, o t = ![t.val])
    (CB CT : BitVec 32 → Prop) (dB : ∀ v, Decidable (CB v)) (dT : ∀ v, Decidable (CT v))
    (hB : ∀ v, CB v → ∀ a, (![v.toNat, 0] : Fin 2 → ℕ) a + S1x128.size a ≤ S256x128.size a)
    (hT : ∀ v, CT v → ∀ a, (![v.toNat, 0] : Fin 2 → ℕ) a + S1x128.size a ≤ S1000x128.size a)
    (hCB : ∀ v, v.toNat < 256 → CB v) (hCT : ∀ v, v.toNat < 1000 → CT v)
    (e4 : ∀ t acc, b4 t acc = copyRow i train buf jl tl psem (o t) (ho t) CB CT dB dT hB hT)
    (e6 : ∀ t acc, b6 t acc = dropRow i train buf psem)
    (hl : Lists wd 256 jg tg)
    (hG : ∀ (x : S256x128.Idx) (z : S1000x128.Idx), tr wd (x 0).val → (z 0).val = (wd (x 0).val).toNat → (z 1).val = (x 1).val → G x = gt z)
    (hG' : ∀ x : S256x128.Idx, ¬ tr wd (x 0).val → G x = g x) :
    iprop(holds (me d i) train q gt ∗ holds (me d i) buf fullShare g ∗ holds (me d i) jl fullShare jg ∗ holds (me d i) tl fullShare tg
        ∗ semVal (me d i, .dma psem) 0 ∗ clock (me d i) O W₀)
      ⊢ iprop((holds (me d i) train q gt -∗ holds (me d i) buf fullShare G -∗ (∃ jg', holds (me d i) jl fullShare jg') -∗ (∃ tg', holds (me d i) tl fullShare tg')
            -∗ semVal (me d i, .dma psem) 0 -∗ clock (me d i) O W₀ -∗ ∀ v, runs (me d i) (k v) Q)
        -∗ runs (me d i) (Scf.Loop.for l4 ok4 0#32 b4 >>= fun a => Scf.Loop.for l5 ok5 a b5 >>= fun _ =>
            Scf.Loop.for l6 ok6 0#32 b6 >>= fun b => Scf.Loop.for l7 ok7 b b7 >>= k) Q) := by
  iintro ⟨Ht, Hb, Hj, Hl, HV, HC⟩ Hk
  ihave Ht := (train_rows (wd := wd) q) $$ Ht
  icases Ht with ⟨%pc, %ft, %hf, Ht, Htw⟩
  ihave Hb := (buf_rows hG') $$ Hb
  icases Hb with ⟨Hb, Hbw⟩
  imod (Transfers.batch_alloc' countersEmb (c := me d i) (sm := .dma psem) (default : HIx 1) 4096 (delivered d i train buf wd pc ft G) (E := Set.univ)) $$ HV with HB
  have h4 := Scf.wp_for_bind (Q := Q) (kk := fun a => Scf.Loop.for l5 ok5 a b5 >>= fun _ => Scf.Loop.for l6 ok6 0#32 b6 >>= fun b => Scf.Loop.for l7 ok7 b b7 >>= k)
    frame (wpE (defs₀ (F := F)) 𝒱₀ (me d i) none) Set.univ l4.lb l4.ub l4.st ok4 0#32 b4
    (fun t _ => copying d i train buf jl tl psem wd pc ft g G jg tg t) (fun t acc => by
      rw [e4]
      exact runs_copy t.val (lt_of_lt_of_eq t.isLt n4) (o t) (ho t) CB CT dB dT hB hT hl hf hG (eo t) hCB hCT)
  rw [show Scf.trips l4.lb l4.ub l4.st = cnt wd 256 from n4] at h4
  iapply h4 $$ [Ht Hb Hj Hl HB]
  · unfold copying
    isplitl [Hj]; · iexact Hj
    isplitl [Hl]; · iexact Hl
    isplitl [Ht Hb]
    · rw [Transfers.pending_zero]
      iapply (Entails.of_eq (bigSep_sep' ..).symm)
      isplitl [Hb] <;> iassumption
    iexact HB
  iintro %a H4
  iapply (runs_none l5 ok5 n5)
  iintro %a'
  unfold copying
  icases H4 with ⟨Hj, Hl, -, HB⟩
  have h6 := Scf.wp_for_bind (Q := Q) (kk := fun b => Scf.Loop.for l7 ok7 b b7 >>= k)
    frame (wpE (defs₀ (F := F)) 𝒱₀ (me d i) none) Set.univ l6.lb l6.ub l6.st ok6 0#32 b6
    (fun t _ => iprop(Transfers.Batch countersEmb (me d i) (.dma psem) (default : HIx 1) 4096 (delivered d i train buf wd pc ft G) (cnt wd 256) (4096 * t) ∗ clock (me d i) O W₀))
    (fun t acc => by
      rw [e6]
      exact runs_drop t.val (lt_of_lt_of_eq t.isLt n6))
  rw [show Scf.trips l6.lb l6.ub l6.st = cnt wd 256 from n6] at h6
  iapply h6 $$ [HB HC]
  · isplitl [HB]
    · iexact HB
    iexact HC
  iintro %b ⟨HB, HC⟩
  iapply (runs_none l7 ok7 n7)
  iintro %v
  imod (Transfers.batch_collect' countersEmb (c := me d i) (sm := .dma psem) (N := 4096) (n := cnt wd 256) (by omega) (D := delivered d i train buf wd pc ft G)) $$ HB with ⟨HD, HV⟩
  unfold delivered
  ihave HD := (Entails.of_eq (bigSep_sep' ..)) $$ HD
  icases HD with ⟨Hb, Ht⟩
  ihave Hb := Hbw $$ Hb
  ihave Ht := Htw $$ Ht
  iapply Hk $$ Ht Hb [Hj] [Hl] HV HC
  · iexists jg; iexact Hj
  · iexists tg; iexact Hl

end Whole

end Cert.Proof

end
-- ==== Proof.Slots.lean ====
/-
  One of the two slots of a tile, through one chunk: the front lists a chunk's 256 words and starts its gathers, the back waits
  for them, patches the small words' rows and starts the copy out.
-/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}
variable {idx : Memref sig .scVector .vmem S200x128 .i32} {train : Memref sig .scVector .hbm S1000x128 .f32} {tbl : Memref sig .scVector .hbm S99000x128 .f32}
variable {buf : Memref sig .scVector .vmem S256x128 .f32} {fA fB : Memref sig .scVector .vmem S128 .i32}
variable {jl tl : Memref sig .scVector .vmem S272 .i32} {gsem psem wsem : DmaSem sig} {wd : ℕ → BitVec 32}
variable {q qi qt : PosShare TreeShare} {gi : S200x128.Idx → BitVec 32} {gt : S1000x128.Idx → Elt F .f32} {gf : S99000x128.Idx → Elt F .f32}
variable {O : CellTallies nD τ sig (HIx 1)} {W₀ : Waits sig (HIx 1)}

/-- What a slot keeps besides its buffer while it has no gather under way. -/
def rest (d : Dev nD) (i : grid0.Coords) (tbl : Memref sig .scVector .hbm S99000x128 .f32) (fA fB : Memref sig .scVector .vmem S128 .i32)
    (jl tl : Memref sig .scVector .vmem S272 .i32) (gsem : DmaSem sig) (q : PosShare TreeShare) (gf : S99000x128.Idx → Elt F .f32) : sProp 𝕄 :=
  iprop(holds (me d i) tbl q gf ∗ (∃ a, holds (F := F) (e := .i32) (me d i) fA fullShare a) ∗ (∃ b, holds (F := F) (e := .i32) (me d i) fB fullShare b)
    ∗ (∃ j, holds (F := F) (e := .i32) (me d i) jl fullShare j) ∗ (∃ t, holds (F := F) (e := .i32) (me d i) tl fullShare t) ∗ semVal (me d i, .dma gsem) 0)

/-- A slot whose gathers are under way for the words `wd`. -/
def fronted (d : Dev nD) (i : grid0.Coords) (tbl : Memref sig .scVector .hbm S99000x128 .f32) (buf : Memref sig .scVector .vmem S256x128 .f32)
    (fA fB : Memref sig .scVector .vmem S128 .i32) (jl tl : Memref sig .scVector .vmem S272 .i32) (gsem : DmaSem sig)
    (q : PosShare TreeShare) (gf : S99000x128.Idx → Elt F .f32) (wd : ℕ → BitVec 32) : sProp 𝕄 :=
  iprop((∃ jg tg, ⌜Lists wd 256 jg tg⌝ ∗ holds (F := F) (e := .i32) (me d i) jl fullShare jg ∗ holds (F := F) (e := .i32) (me d i) tl fullShare tg)
    ∗ ∃ a b, ⌜(∀ y : S128.Idx, Fetch (wd (y 0).val) (a y)) ∧ ∀ y : S128.Idx, Fetch (wd (128 + (y 0).val)) (b y)⌝
      ∗ gathering (me d i) gsem (lookedUp d i tbl buf fA fB q gf a b))

/-- What a chunk's buffer should read as: each word's row, of the small table or of the large one. -/
def Right (wd : ℕ → BitVec 32) (gt : S1000x128.Idx → Elt F .f32) (gf : S99000x128.Idx → Elt F .f32) (G : S256x128.Idx → Elt F .f32) : Prop :=
  ∀ x : S256x128.Idx, (∀ z : S1000x128.Idx, (z 0).val = (wd (x 0).val).toNat → (z 1).val = (x 1).val → G x = gt z)
    ∧ ∀ z : S99000x128.Idx, (wd (x 0).val).toNat = (z 0).val + 1000 → (z 1).val = (x 1).val → G x = gf z

theorem lists_none (jg tg : S272.Idx → BitVec 32) : Lists wd (0 + 16 * 0) jg tg := fun _ _ h => absurd h (Nat.not_lt_zero _)

/-- The front of a slot. -/
theorem runs_front {Q : α → sProp 𝕄} {l2 l3 : Scf.Loop 32} {ok2 : l2.OK} {ok3 : l3.OK} (n2 : l2.trips = 8) (n3 : l3.trips = 8)
    {b2 : Fin l2.trips → BitVec 32 → TP F i (BitVec 32)} {b3 : Fin l3.trips → BitVec 32 → TP F i (BitVec 32)}
    (h2 : ∀ (t : Fin l2.trips) acc, (listing d i qi idx fA jl tl gi wd 0 t.val acc : sProp 𝕄) ⊢ runs (me d i) (b2 t acc) (fun acc' => listing d i qi idx fA jl tl gi wd 0 (t.val + 1) acc'))
    (h3 : ∀ (t : Fin l3.trips) acc, (listing d i qi idx fB jl tl gi wd 128 t.val acc : sProp 𝕄) ⊢ runs (me d i) (b3 t acc) (fun acc' => listing d i qi idx fB jl tl gi wd 128 (t.val + 1) acc'))
    {hp : (me d i).2.kind = .scVector} {hsrc : (tblAll tbl).view.WordExact} {he : EltTy.f32.bits = 32} {hsp : Space.hbm = .hbm ∨ Space.hbm = .shared}
    {hr : S99000x128.StreamRows 0} {k : BitVec 32 → TP F i α} :
    iprop(rest d i tbl fA fB jl tl gsem q gf ∗ (∃ g, holds (me d i) buf fullShare g) ∗ holds (F := F) (e := .i32) (me d i) idx qi gi)
      ⊢ iprop((fronted d i tbl buf fA fB jl tl gsem q gf wd -∗ holds (F := F) (e := .i32) (me d i) idx qi gi -∗ runs (me d i) (k (BitVec.ofNat 32 (cnt wd 256))) Q)
        -∗ runs (me d i) (Scf.Loop.for l2 ok2 0#32 b2 >>= fun v => Scf.Loop.for l3 ok3 v b3 >>= fun w =>
            SparseCore.enqueueIndirectGather hp (tblAll tbl) (upper buf) gathers_S99000x128_S128x128 fA rfl gsem hsrc he hsp hr >>= fun _ =>
            SparseCore.enqueueIndirectGather hp (tblAll tbl) (lower buf) gathers_S99000x128_S128x128 fB rfl gsem hsrc he hsp hr >>= fun _ => k w) Q) := by
  unfold rest
  iintro ⟨⟨Ht, ⟨%a₀, HA⟩, ⟨%b₀, HB⟩, ⟨%j₀, Hj⟩, ⟨%t₀, Hl⟩, HV⟩, ⟨%g₀, Hb⟩, Hi⟩ Hk
  iapply (runs_half l2 ok2 n2 b2 _ h2 0#32) $$ [HA Hj Hl Hi]
  · unfold listing
    iexists a₀, j₀, t₀
    isplitr
    · ipureintro
      refine ⟨?_, fun x hx => absurd hx (Nat.not_lt_zero _), lists_none _ _⟩
      show _ = BitVec.ofNat 32 (cnt wd 0)
      rw [cnt, Nat.count_zero]
    isplitl [Hi]; · iexact Hi
    isplitl [HA]; · iexact HA
    isplitl [Hj] <;> iassumption
  iintro %v HL
  unfold listing
  icases HL with ⟨%a, %jg, %tg, %h, Hi, HA, Hj, Hl⟩
  obtain ⟨rfl, hfa, hl⟩ := h
  have hfa' : ∀ y : S128.Idx, Fetch (wd (y 0).val) (a y) := fun y => by
    have hy : (y 0).val < 128 := (y 0).isLt
    have := hfa y (by omega)
    rwa [Nat.zero_add] at this
  have h3' := runs_half l3 ok3 n3 b3 (fun w =>
            SparseCore.enqueueIndirectGather hp (tblAll tbl) (upper buf) gathers_S99000x128_S128x128 fA rfl gsem hsrc he hsp hr >>= fun _ =>
            SparseCore.enqueueIndirectGather hp (tblAll tbl) (lower buf) gathers_S99000x128_S128x128 fB rfl gsem hsrc he hsp hr >>= fun _ => k w) h3 (Q := Q) (BitVec.ofNat 32 (cnt wd (0 + 16 * 8)))
  iapply h3' $$ [HB Hj Hl Hi]
  · unfold listing
    iexists b₀, jg, tg
    isplitr
    · ipureintro
      exact ⟨rfl, fun x hx => absurd hx (Nat.not_lt_zero _), hl⟩
    isplitl [Hi]; · iexact Hi
    isplitl [HB]; · iexact HB
    isplitl [Hj] <;> iassumption
  iintro %w HL
  unfold listing
  icases HL with ⟨%b, %jg', %tg', %h, Hi, HB, Hj, Hl⟩
  obtain ⟨rfl, hfb, hl'⟩ := h
  have hfb' : ∀ y : S128.Idx, Fetch (wd (128 + (y 0).val)) (b y) := fun y => by
    have hy : (y 0).val < 128 := (y 0).isLt
    exact hfb y (by omega)
  iapply (run_gathers (fun y => (hfa' y).1) (fun y => (hfb' y).1)) $$ [Ht Hb HA HB HV]
  · isplitl [Ht]; · iexact Ht
    isplitl [Hb]; · iexact Hb
    isplitl [HA]; · iexact HA
    isplitl [HB] <;> iassumption
  iintro HG
  iapply Hk $$ [HG Hj Hl] Hi
  unfold fronted
  isplitl [Hj Hl]
  · iexists jg', tg'
    isplitr; · ipureintro; exact hl'
    isplitl [Hj] <;> iassumption
  iexists a, b
  isplitr; · ipureintro; exact ⟨hfa', hfb'⟩
  iexact HG

/-- A chunk's 256 rows count the bits of their words. -/
theorem slab_units : RefSig.bitCredit S256x128 .f32 = 1048576 := by decide +kernel

/-- Where a word is not small, the gathered row is already the right one. -/
theorem looked_right {G g : S256x128.Idx → Elt F .f32} {a b : S128.Idx → BitVec 32} (hG : Right wd gt gf G) (hr : ∀ j, (wd j).toNat < 100000)
    (ha : ∀ y : S128.Idx, Fetch (wd (y 0).val) (a y)) (hb : ∀ y : S128.Idx, Fetch (wd (128 + (y 0).val)) (b y)) (hL : Looked gf a b g)
    (x : S256x128.Idx) (hx : ¬ tr wd (x 0).val) : G x = g x := by
  have hw : 1000 ≤ (wd (x 0).val).toNat := Nat.le_of_not_lt hx
  have hlt := hr (x 0).val
  have hx0 : (x 0).val < 256 := (x 0).isLt
  have hx1 : (x 1).val < 128 := (x 1).isLt
  let z : S99000x128.Idx := fun ax => match ax with
    | ⟨0, _⟩ => ⟨(wd (x 0).val).toNat - 1000, show (wd (x 0).val).toNat - 1000 < 99000 by omega⟩
    | ⟨1, _⟩ => ⟨(x 1).val, hx1⟩
  have hz0 : (z 0).val = (wd (x 0).val).toNat - 1000 := rfl
  have hz1 : (z 1).val = (x 1).val := rfl
  rw [(hG x).2 z (by omega) hz1]
  by_cases hh : (x 0).val < 128
  · let y : S128.Idx := fun ax => match ax with
      | ⟨0, _⟩ => ⟨(x 0).val, hh⟩
    have hy : (y 0).val = (x 0).val := rfl
    have hay := ha y
    rw [hy] at hay
    exact ((hL x z y hz1).1 hy.symm (by rw [hay.2 hw])).symm
  · let y : S128.Idx := fun ax => match ax with
      | ⟨0, _⟩ => ⟨(x 0).val - 128, show (x 0).val - 128 < 128 by omega⟩
    have hy : (x 0).val = 128 + (y 0).val := by show (x 0).val = 128 + ((x 0).val - 128); omega
    have hby := hb y
    rw [← hy] at hby
    exact ((hL x z y hz1).2 hy (by rw [hby.2 hw])).symm

/-- The back of a slot. -/
theorem runs_back {Q : α → sProp 𝕄} {G : S256x128.Idx → Elt F .f32} {l4 l5 l6 l7 : Scf.Loop 32} {ok4 : l4.OK} {ok5 : l5.OK} {ok6 : l6.OK} {ok7 : l7.OK}
    (n4 : l4.trips = cnt wd 256) (n5 : l5.trips = 0) (n6 : l6.trips = cnt wd 256) (n7 : l7.trips = 0)
    {b4 : Fin l4.trips → BitVec 32 → TP F i (BitVec 32)} {b5 : Fin l5.trips → BitVec 32 → TP F i (BitVec 32)}
    {b6 : Fin l6.trips → BitVec 32 → TP F i (BitVec 32)} {b7 : Fin l7.trips → BitVec 32 → TP F i (BitVec 32)}
    (o : Fin l4.trips → Fin 1 → ℕ) (ho : ∀ t a, o t a + S16.size a ≤ S272.size a) (eo : ∀ t, o t = ![t.val])
    (CB CT : BitVec 32 → Prop) (dB : ∀ v, Decidable (CB v)) (dT : ∀ v, Decidable (CT v))
    (hB : ∀ v, CB v → ∀ a, (![v.toNat, 0] : Fin 2 → ℕ) a + S1x128.size a ≤ S256x128.size a)
    (hT : ∀ v, CT v → ∀ a, (![v.toNat, 0] : Fin 2 → ℕ) a + S1x128.size a ≤ S1000x128.size a)
    (hCB : ∀ v, v.toNat < 256 → CB v) (hCT : ∀ v, v.toNat < 1000 → CT v)
    (e4 : ∀ t acc, b4 t acc = copyRow i train buf jl tl psem (o t) (ho t) CB CT dB dT hB hT)
    (e6 : ∀ t acc, b6 t acc = dropRow i train buf psem)
    (hG : Right wd gt gf G) (hr : ∀ j, (wd j).toNat < 100000)
    {s₁ s₂ : Memref sig .scVector .hbm S99000x128 .f32} {h₁ : s₁.view.WordExact} {h₂ : s₂.view.WordExact}
    {h₃ : (upper buf).view.WordExact} {h₄ : (lower buf).view.WordExact}
    {dst : Memref sig .scVector .hbm S256x128 .f32} {w₁ : buf.view.WordExact} {w₂ : dst.view.WordExact} {w₃ : DmaTarget.Typed (nD := nD) .vmem (.dma wsem) (.here (p := core i) dst)}
    {k : PUnit → TP F i α} :
    iprop(fronted d i tbl buf fA fB jl tl gsem q gf wd ∗ holds (me d i) train qt gt ∗ semVal (me d i, .dma psem) 0 ∗ clock (me d i) O W₀
        ∗ (∃ g₀, holds (me d i) dst fullShare g₀) ∗ semVal (me d i, .dma wsem) 0)
      ⊢ iprop((rest d i tbl fA fB jl tl gsem q gf -∗ holds (me d i) train qt gt -∗ semVal (me d i, .dma psem) 0 -∗ clock (me d i) O W₀
            -∗ Transfers.Flight countersEmb (me d i) (.dma wsem) (default : HIx 1) 1048576 iprop(holds (me d i) dst fullShare G ∗ holds (me d i) buf fullShare G)
            -∗ runs (me d i) (k ⟨⟩) Q)
        -∗ runs (me d i) (SparseCore.waitIndirectGather gsem s₁ (upper buf) h₁ h₃ >>= fun _ =>
            SparseCore.waitIndirectGather gsem s₂ (lower buf) h₂ h₄ >>= fun _ =>
            Scf.Loop.for l4 ok4 0#32 b4 >>= fun a => Scf.Loop.for l5 ok5 a b5 >>= fun _ =>
            Scf.Loop.for l6 ok6 0#32 b6 >>= fun b => Scf.Loop.for l7 ok7 b b7 >>= fun _ =>
            Prog.lift (.enqueueDma buf (.here dst) (.dma wsem) w₁ w₂ w₃) >>= k) Q) := by
  unfold fronted
  iintro ⟨⟨⟨%jg, %tg, %hl, Hj, Hl⟩, ⟨%a, %b, %hab, HG⟩⟩, Ht, HP, HC, ⟨%g₀, Hd⟩, HW⟩ Hk
  iapply (run_gathered (d := d) (i := i) (buf := buf)) $$ [HG HC]
  · isplitl [HG] <;> iassumption
  iintro ⟨Hf, ⟨%g, %hL, Hb⟩, HA, HB⟩ HV HC
  iapply (runs_patch (d := d) (train := train) (buf := buf) (jl := jl) (tl := tl) (psem := psem) (G := G) n4 n5 n6 n7 o ho eo CB CT dB dT hB hT hCB hCT e4 e6 hl
    (fun x z _ h0 h1 => (hG x).1 z h0 h1) (looked_right hG hr hab.1 hab.2 hL)) $$ [Ht Hb Hj Hl HP HC]
  · isplitl [Ht]; · iexact Ht
    isplitl [Hb]; · iexact Hb
    isplitl [Hj]; · iexact Hj
    isplitl [Hl]; · iexact Hl
    isplitl [HP] <;> iassumption
  iintro Ht Hb Hj Hl HP HC %v
  iapply (run_dma (c := me d i) (src := buf) (dst := dst) (sm := .dma wsem) 1048576 slab_units (by omega)) $$ [Hb Hd HW]
  · isplitl [Hb]; · iexact Hb
    isplitl [Hd] <;> iassumption
  iintro HF
  iapply Hk $$ [Hf HA HB Hj Hl HV] Ht HP HC HF
  unfold rest
  isplitl [Hf]; · iexact Hf
  isplitl [HA]; · iexact HA
  isplitl [HB]; · iexact HB
  isplitl [Hj]; · iexact Hj
  isplitl [Hl] <;> iassumption

end Cert.Proof

end
-- ==== Proof.Bodies.lean ====
/-
  The loops of the printed tile program as instances of a slot's front and back: which words a chunk has, which offsets and
  payloads each loop uses.
-/
module

public import proofs.«01_k».proof.Proof.Slots

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The words of a tile -/

/-- Word `n` of a tile's block of 25600. -/
def tileWord (gi : S200x128.Idx → BitVec 32) (n : ℕ) : BitVec 32 :=
  if h : n < 25600 then gi fun a => match a with
    | ⟨0, _⟩ => ⟨n / 128, show n / 128 < 200 by omega⟩
    | ⟨1, _⟩ => ⟨n % 128, show n % 128 < 128 by omega⟩
  else 0#32

/-- Word `j` of chunk `c`. -/
def chunk (gi : S200x128.Idx → BitVec 32) (c j : ℕ) : BitVec 32 := tileWord gi (256 * c + j)

theorem tileWord_at (gi : S200x128.Idx → BitVec 32) (x : S200x128.Idx) : gi x = tileWord gi (128 * (x 0).val + (x 1).val) := by
  have h0 : (x 0).val < 200 := (x 0).isLt
  have h1 : (x 1).val < 128 := (x 1).isLt
  rw [tileWord, dif_pos (by omega)]
  refine congrArg gi (funext fun a => ?_)
  match a with
  | ⟨0, _⟩ => exact Fin.ext (by show (x 0).val = (128 * (x 0).val + (x 1).val) / 128; omega)
  | ⟨1, _⟩ => exact Fin.ext (by show (x 1).val = (128 * (x 0).val + (x 1).val) % 128; omega)

theorem chunk_row0 (gi : S200x128.Idx → BitVec 32) (c : ℕ) (_hc : c < 100) (x : S200x128.Idx) (hx : (x 0).val = 2 * c) : gi x = chunk gi c (0 + (x 1).val) := by
  rw [tileWord_at gi x, chunk, hx]; congr 1; omega

theorem chunk_row128 (gi : S200x128.Idx → BitVec 32) (c : ℕ) (_hc : c < 100) (x : S200x128.Idx) (hx : (x 0).val = 2 * c + 1) : gi x = chunk gi c (128 + (x 1).val) := by
  rw [tileWord_at gi x, chunk, hx]; congr 1; omega

theorem chunk_lt {gi : S200x128.Idx → BitVec 32} (h : ∀ x, (gi x).toNat < 100000) (c j : ℕ) : (chunk gi c j).toNat < 100000 := by
  unfold chunk tileWord
  split
  · exact h _
  · exact (by decide : (0 : ℕ) < 100000)

/-! ## Which trips do what -/

theorem early2 : ∀ t1 : Fin k0_t1_loop.trips, k0_cond2 t1 = 1#1 → t1.val < 50 := by decide +kernel
theorem early5 : ∀ t1 : Fin k0_t1_loop.trips, k0_cond5 t1 = 1#1 → t1.val < 50 := by decide +kernel
theorem conds_late : ∀ t1 : Fin k0_t1_loop.trips, 1 ≤ t1.val → k0_cond1 t1 = 1#1 ∧ k0_cond3 t1 = 1#1 ∧ k0_cond4 t1 = 1#1 := by decide +kernel
theorem conds_first : ∀ t1 : Fin k0_t1_loop.trips, t1.val = 0 → k0_cond1 t1 ≠ 1#1 ∧ k0_cond3 t1 ≠ 1#1 ∧ k0_cond4 t1 ≠ 1#1 := by decide +kernel
theorem conds_early : ∀ t1 : Fin k0_t1_loop.trips, t1.val < 50 → k0_cond2 t1 = 1#1 ∧ k0_cond5 t1 = 1#1 ∧ k0_cond6 t1 = 1#1 := by decide +kernel
theorem conds_last : ∀ t1 : Fin k0_t1_loop.trips, 50 ≤ t1.val → k0_cond2 t1 ≠ 1#1 ∧ k0_cond5 t1 ≠ 1#1 ∧ k0_cond6 t1 ≠ 1#1 := by decide +kernel
theorem trips51 : k0_t1_loop.trips = 51 := by decide +kernel
theorem eight2 : k0_t2_loop.trips = 8 := by decide +kernel
theorem eight3 : k0_t3_loop.trips = 8 := by decide +kernel
theorem eight8 : k0_t8_loop.trips = 8 := by decide +kernel
theorem eight9 : k0_t9_loop.trips = 8 := by decide +kernel

theorem lanes2 : ∀ (t : Fin k0_t2_loop.trips) (k : Fin 16), k0_pay3 t (Shape.ofLane k) = BitVec.ofNat 32 (0 + 16 * t.val + k) := by decide +kernel
theorem lanes3 : ∀ (t : Fin k0_t3_loop.trips) (k : Fin 16), k0_pay10 t (Shape.ofLane k) = BitVec.ofNat 32 (128 + 16 * t.val + k) := by decide +kernel
theorem lanes8 : ∀ (t : Fin k0_t8_loop.trips) (k : Fin 16), k0_pay21 t (Shape.ofLane k) = BitVec.ofNat 32 (0 + 16 * t.val + k) := by decide +kernel
theorem lanes9 : ∀ (t : Fin k0_t9_loop.trips) (k : Fin 16), k0_pay28 t (Shape.ofLane k) = BitVec.ofNat 32 (128 + 16 * t.val + k) := by decide +kernel

/-! ## The listing loops -/

variable [FloatOps F]

variable (i : grid0.Coords) (arg2 : Memref sig .scVector .hbm S6400x128 .i32) (harg2 : arg2.IsWhole) (arg3 : Memref sig .scVector .hbm S1000x128 .f32) (harg3 : arg3.IsWhole) (arg4 : Memref sig .scVector .hbm S99000x128 .f32) (harg4 : arg4.IsWhole) (arg5 : Memref sig .scVector .hbm S819200x128 .f32) (harg5 : arg5.IsWhole) (arg6 : Memref sig .scVector .vmem S200x128 .i32) (harg6 : arg6.IsWhole) (arg7 : Memref sig .scVector .vmem S128 .i32) (harg7 : arg7.IsWhole) (arg8 : Memref sig .scVector .vmem S128 .i32) (harg8 : arg8.IsWhole) (arg9 : Memref sig .scVector .vmem S256x128 .f32) (harg9 : arg9.IsWhole) (arg10 : Memref sig .scVector .vmem S272 .i32) (harg10 : arg10.IsWhole) (arg11 : Memref sig .scVector .vmem S272 .i32) (harg11 : arg11.IsWhole) (arg12 : DmaSems sig S_) (arg13 : DmaSems sig S_) (arg14 : Memref sig .scVector .vmem S128 .i32) (harg14 : arg14.IsWhole) (arg15 : Memref sig .scVector .vmem S128 .i32) (harg15 : arg15.IsWhole) (arg16 : Memref sig .scVector .vmem S256x128 .f32) (harg16 : arg16.IsWhole) (arg17 : Memref sig .scVector .vmem S272 .i32) (harg17 : arg17.IsWhole) (arg18 : Memref sig .scVector .vmem S272 .i32) (harg18 : arg18.IsWhole) (arg19 : DmaSems sig S_) (arg20 : DmaSems sig S_) (arg21 : DmaSems sig S_) (v6_r0 : DmaSems sig S_)
variable {d : Dev nD} {α : Type} {gi : S200x128.Idx → BitVec 32} {qi q qt : PosShare TreeShare}
variable {gt : S1000x128.Idx → Elt F .f32} {gf : S99000x128.Idx → Elt F .f32}
variable {O : CellTallies nD τ sig (HIx 1)} {W₀ : Waits sig (HIx 1)}

theorem listed2 (t1 : Fin k0_t1_loop.trips) (hc : k0_cond2 t1 = 1#1) (hgi : ∀ x, (gi x).toNat < 100000) (t : Fin k0_t2_loop.trips) (acc : BitVec 32) :
    (listing d i qi arg6 arg7 arg10 arg11 gi (chunk gi (2 * t1.val)) 0 t.val acc : sProp 𝕄)
      ⊢ runs (me d i) (k0_t2_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc t acc) (fun acc' => listing d i qi arg6 arg7 arg10 arg11 gi (chunk gi (2 * t1.val)) 0 (t.val + 1) acc') :=
  runs_group (R := 4 * t1.val) (t := t.val) (fun x hx => chunk_row0 gi (2 * t1.val) (by have := early2 t1 hc; omega) x (by omega)) (chunk_lt hgi _) (by omega)
    (lt_of_lt_of_eq t.isLt eight2) (k0_off3 t1 t) (k0_off3_inb t1 t hc) (k0_off4 t) (k0_off4_inb t1 t hc) (k0_off3_eq t1 t) (k0_off4_eq t)
    (k0_chk1 t1) (k0_chk1.dec t1) (fun v hv => k0_idx1_inb t1 v hv hc) (fun v hv => k0_idx2_inb t1 v hv hc) (fun v hv => ⟨fun _ => hv, fun _ => hv⟩)
    (k0_pay3 t) (lanes2 t) (k0_pay4 i t1 t) (fun w x => ⟨_, rfl⟩) acc

theorem listed3 (t1 : Fin k0_t1_loop.trips) (hc : k0_cond2 t1 = 1#1) (hgi : ∀ x, (gi x).toNat < 100000) (t : Fin k0_t3_loop.trips) (acc : BitVec 32) :
    (listing d i qi arg6 arg8 arg10 arg11 gi (chunk gi (2 * t1.val)) 128 t.val acc : sProp 𝕄)
      ⊢ runs (me d i) (k0_t3_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc t acc) (fun acc' => listing d i qi arg6 arg8 arg10 arg11 gi (chunk gi (2 * t1.val)) 128 (t.val + 1) acc') :=
  runs_group (R := 4 * t1.val + 1) (t := t.val) (fun x hx => chunk_row128 gi (2 * t1.val) (by have := early2 t1 hc; omega) x (by omega)) (chunk_lt hgi _) (by omega)
    (lt_of_lt_of_eq t.isLt eight3) (k0_off5 t1 t) (k0_off5_inb t1 t hc) (k0_off6 t) (k0_off6_inb t1 t hc) (k0_off5_eq t1 t) (k0_off6_eq t)
    (k0_chk2 t1) (k0_chk2.dec t1) (fun v hv => k0_idx3_inb t1 v hv hc) (fun v hv => k0_idx4_inb t1 v hv hc) (fun v hv => ⟨fun _ => hv, fun _ => hv⟩)
    (k0_pay10 t) (lanes3 t) (k0_pay11 i t1 t) (fun w x => ⟨_, rfl⟩) acc

theorem listed8 (t1 : Fin k0_t1_loop.trips) (hc : k0_cond5 t1 = 1#1) (hgi : ∀ x, (gi x).toNat < 100000) (t : Fin k0_t8_loop.trips) (acc : BitVec 32) :
    (listing d i qi arg6 arg14 arg17 arg18 gi (chunk gi (2 * t1.val + 1)) 0 t.val acc : sProp 𝕄)
      ⊢ runs (me d i) (k0_t8_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc t acc) (fun acc' => listing d i qi arg6 arg14 arg17 arg18 gi (chunk gi (2 * t1.val + 1)) 0 (t.val + 1) acc') :=
  runs_group (R := 4 * t1.val + 2) (t := t.val) (fun x hx => chunk_row0 gi (2 * t1.val + 1) (by have := early5 t1 hc; omega) x (by omega)) (chunk_lt hgi _) (by omega)
    (lt_of_lt_of_eq t.isLt eight8) (k0_off17 t1 t) (k0_off17_inb t1 t hc) (k0_off18 t) (k0_off18_inb t1 t hc) (k0_off17_eq t1 t) (k0_off18_eq t)
    (k0_chk8 t1) (k0_chk8.dec t1) (fun v hv => k0_idx5_inb t1 v hv hc) (fun v hv => k0_idx6_inb t1 v hv hc) (fun v hv => ⟨fun _ => hv, fun _ => hv⟩)
    (k0_pay21 t) (lanes8 t) (k0_pay22 i t1 t) (fun w x => ⟨_, rfl⟩) acc

theorem listed9 (t1 : Fin k0_t1_loop.trips) (hc : k0_cond5 t1 = 1#1) (hgi : ∀ x, (gi x).toNat < 100000) (t : Fin k0_t9_loop.trips) (acc : BitVec 32) :
    (listing d i qi arg6 arg15 arg17 arg18 gi (chunk gi (2 * t1.val + 1)) 128 t.val acc : sProp 𝕄)
      ⊢ runs (me d i) (k0_t9_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc t acc) (fun acc' => listing d i qi arg6 arg15 arg17 arg18 gi (chunk gi (2 * t1.val + 1)) 128 (t.val + 1) acc') :=
  runs_group (R := 4 * t1.val + 3) (t := t.val) (fun x hx => chunk_row128 gi (2 * t1.val + 1) (by have := early5 t1 hc; omega) x (by omega)) (chunk_lt hgi _) (by omega)
    (lt_of_lt_of_eq t.isLt eight9) (k0_off19 t1 t) (k0_off19_inb t1 t hc) (k0_off20 t) (k0_off20_inb t1 t hc) (k0_off19_eq t1 t) (k0_off20_eq t)
    (k0_chk9 t1) (k0_chk9.dec t1) (fun v hv => k0_idx7_inb t1 v hv hc) (fun v hv => k0_idx8_inb t1 v hv hc) (fun v hv => ⟨fun _ => hv, fun _ => hv⟩)
    (k0_pay28 t) (lanes9 t) (k0_pay29 i t1 t) (fun w x => ⟨_, rfl⟩) acc

end Cert.Proof

end
-- ==== Proof.Stages.lean ====
/-
  One trip of a tile's outer loop, cut into its six stages.
-/
module

public import proofs.«01_k».proof.Proof.Bodies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Stages

variable (i : grid0.Coords) (arg2 : Memref sig .scVector .hbm S6400x128 .i32) (harg2 : arg2.IsWhole) (arg3 : Memref sig .scVector .hbm S1000x128 .f32) (harg3 : arg3.IsWhole) (arg4 : Memref sig .scVector .hbm S99000x128 .f32) (harg4 : arg4.IsWhole) (arg5 : Memref sig .scVector .hbm S819200x128 .f32) (harg5 : arg5.IsWhole) (arg6 : Memref sig .scVector .vmem S200x128 .i32) (harg6 : arg6.IsWhole) (arg7 : Memref sig .scVector .vmem S128 .i32) (harg7 : arg7.IsWhole) (arg8 : Memref sig .scVector .vmem S128 .i32) (harg8 : arg8.IsWhole) (arg9 : Memref sig .scVector .vmem S256x128 .f32) (harg9 : arg9.IsWhole) (arg10 : Memref sig .scVector .vmem S272 .i32) (harg10 : arg10.IsWhole) (arg11 : Memref sig .scVector .vmem S272 .i32) (harg11 : arg11.IsWhole) (arg12 : DmaSems sig S_) (arg13 : DmaSems sig S_) (arg14 : Memref sig .scVector .vmem S128 .i32) (harg14 : arg14.IsWhole) (arg15 : Memref sig .scVector .vmem S128 .i32) (harg15 : arg15.IsWhole) (arg16 : Memref sig .scVector .vmem S256x128 .f32) (harg16 : arg16.IsWhole) (arg17 : Memref sig .scVector .vmem S272 .i32) (harg17 : arg17.IsWhole) (arg18 : Memref sig .scVector .vmem S272 .i32) (harg18 : arg18.IsWhole) (arg19 : DmaSems sig S_) (arg20 : DmaSems sig S_) (arg21 : DmaSems sig S_) (v6_r0 : DmaSems sig S_)
variable {α : Type}

/-- Wait for the first slot's copy out. -/
def drainA (t1 : Fin k0_t1_loop.trips) (k : TP F i α) : TP F i α :=
  if h : k0_cond1 t1 = 1#1 then
    Prog.lift (.waitDma2 arg13.sem arg9 (arg5.slice (Rect.unit (s := S819200x128) (k0_off2 i) S256x128.size (k0_off2_inb i t1 h)) (fun _ => rfl))
      harg9.wordExact (View.wordExact_bits rfl)) >>= fun _ => k
  else k

/-- List and fetch a chunk in the first slot. -/
def frontA (t1 : Fin k0_t1_loop.trips) (k : BitVec 32 → TP F i α) : TP F i α :=
  if h : k0_cond2 t1 = 1#1 then
    Scf.Loop.for k0_t2_loop (k0_t2_ok t1 h) 0#32 (k0_t2_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h) >>= fun v =>
    Scf.Loop.for k0_t3_loop (k0_t3_ok t1 h) v (k0_t3_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h) >>= fun w =>
    SparseCore.enqueueIndirectGather rfl (tblAll arg4) (upper arg9) gathers_S99000x128_S128x128 arg7 rfl arg12.sem (View.wordExact_bits rfl) rfl (Or.inl rfl) >>= fun _ =>
    SparseCore.enqueueIndirectGather rfl (tblAll arg4) (lower arg9) gathers_S99000x128_S128x128 arg8 rfl arg12.sem (View.wordExact_bits rfl) rfl (Or.inl rfl) >>= fun _ =>
    (pure w : TP F i (BitVec 32)) >>= k
  else (pure 0#32 : TP F i (BitVec 32)) >>= k

/-- Finish the second slot's chunk. -/
def backB (t1 : Fin k0_t1_loop.trips) (v : BitVec 32) (hv : k0_chk3 t1 v) (k : TP F i α) : TP F i α :=
  if h : k0_cond3 t1 = 1#1 then
    SparseCore.waitIndirectGather arg19.sem (tblAll arg4) (upper arg16) (View.wordExact_bits rfl) (View.wordExact_bits rfl) >>= fun _ =>
    SparseCore.waitIndirectGather arg19.sem (tblAll arg4) (lower arg16) (View.wordExact_bits rfl) (View.wordExact_bits rfl) >>= fun _ =>
    Scf.Loop.for (k0_t4_loop v) (k0_t4_ok t1 v hv h) 0#32 (k0_t4_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun a =>
    Scf.Loop.for (k0_t5_loop v) (k0_t5_ok t1 v hv h) a (k0_t5_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun _ =>
    Scf.Loop.for (k0_t6_loop v) (k0_t6_ok t1 v hv h) 0#32 (k0_t6_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun b =>
    Scf.Loop.for (k0_t7_loop v) (k0_t7_ok t1 v hv h) b (k0_t7_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun _ =>
    Prog.lift (.enqueueDma arg16 (.here (arg5.slice (Rect.unit (s := S819200x128) (k0_off15 i t1) S256x128.size (k0_off15_inb i t1 h)) (fun _ => rfl))) (.dma arg20.sem)
      harg16.wordExact (View.wordExact_bits rfl) ⟨Or.inl rfl, trivial⟩) >>= fun _ => k
  else k

/-- Wait for the second slot's copy out. -/
def drainB (t1 : Fin k0_t1_loop.trips) (k : TP F i α) : TP F i α :=
  if h : k0_cond4 t1 = 1#1 then
    Prog.lift (.waitDma2 arg20.sem arg16 (arg5.slice (Rect.unit (s := S819200x128) (k0_off16 i) S256x128.size (k0_off16_inb i t1 h)) (fun _ => rfl))
      harg16.wordExact (View.wordExact_bits rfl)) >>= fun _ => k
  else k

/-- List and fetch a chunk in the second slot. -/
def frontB (t1 : Fin k0_t1_loop.trips) (k : BitVec 32 → TP F i α) : TP F i α :=
  if h : k0_cond5 t1 = 1#1 then
    Scf.Loop.for k0_t8_loop (k0_t8_ok t1 h) 0#32 (k0_t8_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h) >>= fun v =>
    Scf.Loop.for k0_t9_loop (k0_t9_ok t1 h) v (k0_t9_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h) >>= fun w =>
    SparseCore.enqueueIndirectGather rfl (tblAll arg4) (upper arg16) gathers_S99000x128_S128x128 arg14 rfl arg19.sem (View.wordExact_bits rfl) rfl (Or.inl rfl) >>= fun _ =>
    SparseCore.enqueueIndirectGather rfl (tblAll arg4) (lower arg16) gathers_S99000x128_S128x128 arg15 rfl arg19.sem (View.wordExact_bits rfl) rfl (Or.inl rfl) >>= fun _ =>
    (pure w : TP F i (BitVec 32)) >>= k
  else (pure 0#32 : TP F i (BitVec 32)) >>= k

/-- Finish the first slot's chunk. -/
def backA (t1 : Fin k0_t1_loop.trips) (v : BitVec 32) (hv : k0_chk10 t1 v) (k : TP F i α) : TP F i α :=
  if h : k0_cond6 t1 = 1#1 then
    SparseCore.waitIndirectGather arg12.sem (tblAll arg4) (upper arg9) (View.wordExact_bits rfl) (View.wordExact_bits rfl) >>= fun _ =>
    SparseCore.waitIndirectGather arg12.sem (tblAll arg4) (lower arg9) (View.wordExact_bits rfl) (View.wordExact_bits rfl) >>= fun _ =>
    Scf.Loop.for (k0_t10_loop v) (k0_t10_ok t1 v hv h) 0#32 (k0_t10_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun a =>
    Scf.Loop.for (k0_t11_loop v) (k0_t11_ok t1 v hv h) a (k0_t11_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun _ =>
    Scf.Loop.for (k0_t12_loop v) (k0_t12_ok t1 v hv h) 0#32 (k0_t12_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun b =>
    Scf.Loop.for (k0_t13_loop v) (k0_t13_ok t1 v hv h) b (k0_t13_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv h) >>= fun _ =>
    Prog.lift (.enqueueDma arg9 (.here (arg5.slice (Rect.unit (s := S819200x128) (k0_off29 i t1) S256x128.size (k0_off29_inb i t1 h)) (fun _ => rfl))) (.dma arg13.sem)
      harg9.wordExact (View.wordExact_bits rfl) ⟨Or.inl rfl, trivial⟩) >>= fun _ => k
  else k

set_option maxHeartbeats 2000000 in
/-- A trip is its stages, one after another. -/
theorem body_stages (t1 : Fin k0_t1_loop.trips) (v u : BitVec 32) :
    k0_t1_body (F := F) i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 (v, u)
      = (Prog.lift (TpuEff.assume (k0_chk3 t1 u) (k0_chk3.dec t1 u)) >>= fun h3 =>
          drainA i arg5 arg9 harg9 arg13 t1 (frontA i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 fun w =>
            Prog.lift (TpuEff.assume (k0_chk10 t1 w) (k0_chk10.dec t1 w)) >>= fun h10 =>
            backB i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 u h3.down (drainB i arg5 arg16 harg16 arg20 t1 (frontB i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 fun w' =>
              backA i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 w h10.down (pure (w, w')))))) := rfl

end Stages

end Cert.Proof

end
-- ==== Proof.Steps.lean ====
/-
  The stages of a trip as state changes of the two slots: idle, looking rows up, writing a finished chunk out.
-/
module

public import proofs.«01_k».proof.Proof.Stages

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- One slot of a tile: its buffer, its fetch lists, its lists of small words, and its two semaphores. -/
structure Slot where
  buf : Memref sig .scVector .vmem S256x128 .f32
  fA : Memref sig .scVector .vmem S128 .i32
  fB : Memref sig .scVector .vmem S128 .i32
  jl : Memref sig .scVector .vmem S272 .i32
  tl : Memref sig .scVector .vmem S272 .i32
  gsem : DmaSem sig
  wsem : DmaSem sig

/-- The first row of the output that a tile writes. -/
def firstRow (i : grid0.Coords) : ℕ := 51200 * (i 1).val + 25600 * (i 0).val

/-- The rows of the output that hold a tile's chunk `c`. -/
def slab (i : grid0.Coords) (c : ℕ) : Finset S819200x128.Idx :=
  Finset.univ.filter fun x => firstRow i + 256 * c ≤ (x 0).val ∧ (x 0).val < firstRow i + 256 * c + 256

theorem slab_rect (i : grid0.Coords) (c : ℕ) (h : ∀ a, (![firstRow i + 256 * c, 0] : Fin 2 → ℕ) a + S256x128.size a ≤ S819200x128.size a) :
    (Rect.unit (s := S819200x128) ![firstRow i + 256 * c, 0] S256x128.size h).set = slab i c := by
  ext x
  rw [Rect.mem_set_unit, slab, Finset.mem_filter]
  have h1 : (x 1).val < 128 := (x 1).isLt
  constructor
  · intro hx
    exact ⟨Finset.mem_univ _, hx 0⟩
  · rintro ⟨-, hx⟩ a
    match a with
    | ⟨0, _⟩ => exact hx
    | ⟨1, _⟩ => exact ⟨Nat.zero_le _, show (x 1).val < 0 + 128 by omega⟩

variable [FloatOps F]

section States

variable {d : Dev nD} {i : grid0.Coords} {α : Type}
variable {train : Memref sig .scVector .hbm S1000x128 .f32} {tbl : Memref sig .scVector .hbm S99000x128 .f32} {out : Memref sig .scVector .hbm S819200x128 .f32}
variable {s : Slot} {q : PosShare TreeShare} {gf : S99000x128.Idx → Elt F .f32} {Gout : S819200x128.Idx → Elt F .f32}
variable {O : CellTallies nD τ sig (HIx 1)} {W₀ : Waits sig (HIx 1)}

def idle (d : Dev nD) (i : grid0.Coords) (tbl : Memref sig .scVector .hbm S99000x128 .f32) (s : Slot) (q : PosShare TreeShare) (gf : S99000x128.Idx → Elt F .f32) : sProp 𝕄 :=
  iprop(rest d i tbl s.fA s.fB s.jl s.tl s.gsem q gf ∗ (∃ g, holds (me d i) s.buf fullShare g) ∗ semVal (me d i, .dma s.wsem) 0)

def looking (d : Dev nD) (i : grid0.Coords) (tbl : Memref sig .scVector .hbm S99000x128 .f32) (s : Slot) (q : PosShare TreeShare) (gf : S99000x128.Idx → Elt F .f32)
    (wd : ℕ → BitVec 32) : sProp 𝕄 :=
  iprop(fronted d i tbl s.buf s.fA s.fB s.jl s.tl s.gsem q gf wd ∗ semVal (me d i, .dma s.wsem) 0)

def writing (d : Dev nD) (i : grid0.Coords) (tbl : Memref sig .scVector .hbm S99000x128 .f32) (s : Slot) (q : PosShare TreeShare) (gf : S99000x128.Idx → Elt F .f32)
    (P : sProp 𝕄) : sProp 𝕄 :=
  iprop(rest d i tbl s.fA s.fB s.jl s.tl s.gsem q gf
    ∗ Transfers.Flight countersEmb (me d i) (.dma s.wsem) (default : HIx 1) 1048576 iprop(P ∗ ∃ g, holds (me d i) s.buf fullShare g))

/-- A chunk of the output, written or not. -/
def outDone (d : Dev nD) (i : grid0.Coords) (out : Memref sig .scVector .hbm S819200x128 .f32) (Gout : S819200x128.Idx → Elt F .f32) (c : ℕ) : sProp 𝕄 :=
  part (me d i) out (slab i c) fullShare Gout
def outTodo (d : Dev nD) (i : grid0.Coords) (out : Memref sig .scVector .hbm S819200x128 .f32) (c : ℕ) : sProp 𝕄 :=
  iprop(∃ g : S819200x128.Idx → Elt F .f32, part (me d i) out (slab i c) fullShare g)

theorem slab_holds {o : Fin 2 → ℕ} (c : ℕ) (eo : o = ![firstRow i + 256 * c, 0]) (ho : ∀ a, o a + S256x128.size a ≤ S819200x128.size a) (g : S819200x128.Idx → Elt F .f32) :
    (holds (me d i) (out.slice (Rect.unit (s := S819200x128) o S256x128.size ho) (fun _ => rfl)) fullShare
      (fun y => g ((Rect.unit (s := S819200x128) o S256x128.size ho).emb y)) : sProp 𝕄) = part (me d i) out (slab i c) fullShare g := by
  subst eo
  rw [part_set (slab_rect i c ho).symm]
  exact holds_slice (c := me d i) (m := out) (q := fullShare) (g := g) _ (fun _ => rfl)

theorem runs_drained {Q : α → sProp 𝕄} {P : sProp 𝕄} {dst : Memref sig .scVector .hbm S256x128 .f32} {w₁ : s.buf.view.WordExact} {w₂ : dst.view.WordExact}
    {k : PUnit → TP F i α} :
    iprop(writing d i tbl s q gf P ∗ clock (me d i) O W₀)
      ⊢ iprop((idle d i tbl s q gf -∗ P -∗ clock (me d i) O W₀ -∗ runs (me d i) (k ⟨⟩) Q)
        -∗ runs (me d i) (Prog.lift (.waitDma2 s.wsem s.buf dst w₁ w₂) >>= k) Q) := by
  unfold writing idle
  iintro ⟨⟨HR, HF⟩, HC⟩ Hk
  iapply (run_wait (c := me d i) (sem := s.wsem) (srcw := s.buf) (dstw := dst) (N := 1048576) (by exact slab_units)) $$ [HF HC]
  · isplitl [HF] <;> iassumption
  iintro ⟨HP, Hb⟩ HV HC
  iapply Hk $$ [HR Hb HV] HP HC
  isplitl [HR]; · iexact HR
  isplitl [Hb] <;> iassumption

/-- A copy out under way, with what it delivers restated over the whole output. -/
theorem writing_intro {o : Fin 2 → ℕ} (c : ℕ) (eo : o = ![firstRow i + 256 * c, 0]) (ho : ∀ a, o a + S256x128.size a ≤ S819200x128.size a) :
    iprop(rest d i tbl s.fA s.fB s.jl s.tl s.gsem q gf ∗ Transfers.Flight countersEmb (me d i) (.dma s.wsem) (default : HIx 1) 1048576
        iprop(holds (me d i) (out.slice (Rect.unit (s := S819200x128) o S256x128.size ho) (fun _ => rfl)) fullShare
            (fun y => Gout ((Rect.unit (s := S819200x128) o S256x128.size ho).emb y))
          ∗ holds (me d i) s.buf fullShare (fun y => Gout ((Rect.unit (s := S819200x128) o S256x128.size ho).emb y))))
      ⊢ (writing d i tbl s q gf (outDone d i out Gout c) : sProp 𝕄) := by
  unfold writing outDone
  iintro ⟨HR, HF⟩
  isplitl [HR]; · iexact HR
  iapply (Transfers.Flight_mono countersEmb (me d i) ?_) $$ HF
  iintro ⟨Hd, Hb⟩
  isplitl [Hd]
  · iapply (Entails.of_eq (slab_holds c eo ho Gout)) $$ Hd
  · iexists _; iexact Hb

end States

section Steps

variable (i : grid0.Coords) (arg2 : Memref sig .scVector .hbm S6400x128 .i32) (harg2 : arg2.IsWhole) (arg3 : Memref sig .scVector .hbm S1000x128 .f32) (harg3 : arg3.IsWhole) (arg4 : Memref sig .scVector .hbm S99000x128 .f32) (harg4 : arg4.IsWhole) (arg5 : Memref sig .scVector .hbm S819200x128 .f32) (harg5 : arg5.IsWhole) (arg6 : Memref sig .scVector .vmem S200x128 .i32) (harg6 : arg6.IsWhole) (arg7 : Memref sig .scVector .vmem S128 .i32) (harg7 : arg7.IsWhole) (arg8 : Memref sig .scVector .vmem S128 .i32) (harg8 : arg8.IsWhole) (arg9 : Memref sig .scVector .vmem S256x128 .f32) (harg9 : arg9.IsWhole) (arg10 : Memref sig .scVector .vmem S272 .i32) (harg10 : arg10.IsWhole) (arg11 : Memref sig .scVector .vmem S272 .i32) (harg11 : arg11.IsWhole) (arg12 : DmaSems sig S_) (arg13 : DmaSems sig S_) (arg14 : Memref sig .scVector .vmem S128 .i32) (harg14 : arg14.IsWhole) (arg15 : Memref sig .scVector .vmem S128 .i32) (harg15 : arg15.IsWhole) (arg16 : Memref sig .scVector .vmem S256x128 .f32) (harg16 : arg16.IsWhole) (arg17 : Memref sig .scVector .vmem S272 .i32) (harg17 : arg17.IsWhole) (arg18 : Memref sig .scVector .vmem S272 .i32) (harg18 : arg18.IsWhole) (arg19 : DmaSems sig S_) (arg20 : DmaSems sig S_) (arg21 : DmaSems sig S_) (v6_r0 : DmaSems sig S_)
variable {α : Type} {d : Dev nD} {gi : S200x128.Idx → BitVec 32} {qt qA qB : PosShare TreeShare}
variable {gt : S1000x128.Idx → Elt F .f32} {gf : S99000x128.Idx → Elt F .f32} {Gout : S819200x128.Idx → Elt F .f32}
variable {O : CellTallies nD τ sig (HIx 1)} {W₀ : Waits sig (HIx 1)}

/-- The two slots. -/
abbrev slotA : Slot := ⟨arg9, arg7, arg8, arg10, arg11, arg12.sem, arg13.sem⟩
abbrev slotB : Slot := ⟨arg16, arg14, arg15, arg17, arg18, arg19.sem, arg20.sem⟩

theorem off_late : ∀ (i : grid0.Coords) (t1 : Fin k0_t1_loop.trips), 1 ≤ t1.val → k0_off15 i t1 = ![firstRow i + 256 * (2 * t1.val - 1), 0] := by decide +kernel
theorem off_early (i : grid0.Coords) (t1 : Fin k0_t1_loop.trips) : k0_off29 i t1 = ![firstRow i + 256 * (2 * t1.val), 0] := by
  rw [k0_off29_eq i t1, firstRow]; congr 2; omega

theorem drainA_runs {Q : α → sProp 𝕄} {P : sProp 𝕄} (t1 : Fin k0_t1_loop.trips) (ht : 1 ≤ t1.val) (k : TP F i α) :
    iprop(writing d i arg4 (slotA arg7 arg8 arg9 arg10 arg11 arg12 arg13) qA gf P ∗ clock (me d i) O W₀)
      ⊢ iprop((idle d i arg4 (slotA arg7 arg8 arg9 arg10 arg11 arg12 arg13) qA gf -∗ P -∗ clock (me d i) O W₀ -∗ runs (me d i) k Q) -∗ runs (me d i) (drainA i arg5 arg9 harg9 arg13 t1 k) Q) := by
  rw [drainA, dif_pos (conds_late t1 ht).1]
  exact runs_drained (s := (slotA arg7 arg8 arg9 arg10 arg11 arg12 arg13)) (k := fun _ => k)

theorem drainA_skip (t1 : Fin k0_t1_loop.trips) (ht : t1.val = 0) (k : TP F i α) : drainA i arg5 arg9 harg9 arg13 t1 k = k := by
  rw [drainA, dif_neg (conds_first t1 ht).1]

theorem drainB_runs {Q : α → sProp 𝕄} {P : sProp 𝕄} (t1 : Fin k0_t1_loop.trips) (ht : 1 ≤ t1.val) (k : TP F i α) :
    iprop(writing d i arg4 (slotB arg14 arg15 arg16 arg17 arg18 arg19 arg20) qB gf P ∗ clock (me d i) O W₀)
      ⊢ iprop((idle d i arg4 (slotB arg14 arg15 arg16 arg17 arg18 arg19 arg20) qB gf -∗ P -∗ clock (me d i) O W₀ -∗ runs (me d i) k Q) -∗ runs (me d i) (drainB i arg5 arg16 harg16 arg20 t1 k) Q) := by
  rw [drainB, dif_pos (conds_late t1 ht).2.2]
  exact runs_drained (s := (slotB arg14 arg15 arg16 arg17 arg18 arg19 arg20)) (k := fun _ => k)

theorem drainB_skip (t1 : Fin k0_t1_loop.trips) (ht : t1.val = 0) (k : TP F i α) : drainB i arg5 arg16 harg16 arg20 t1 k = k := by
  rw [drainB, dif_neg (conds_first t1 ht).2.2]

theorem frontA_runs {Q : α → sProp 𝕄} (t1 : Fin k0_t1_loop.trips) (ht : t1.val < 50) (hgi : ∀ x, (gi x).toNat < 100000) (k : BitVec 32 → TP F i α) :
    iprop(idle d i arg4 (slotA arg7 arg8 arg9 arg10 arg11 arg12 arg13) qA gf ∗ holds (F := F) (e := .i32) (me d i) arg6 fullShare gi)
      ⊢ iprop((looking d i arg4 (slotA arg7 arg8 arg9 arg10 arg11 arg12 arg13) qA gf (chunk gi (2 * t1.val)) -∗ holds (F := F) (e := .i32) (me d i) arg6 fullShare gi
          -∗ runs (me d i) (k (BitVec.ofNat 32 (cnt (chunk gi (2 * t1.val)) 256))) Q) -∗ runs (me d i) (frontA i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 k) Q) := by
  have hc := (conds_early t1 ht).1
  rw [frontA, dif_pos hc]
  unfold idle looking
  iintro ⟨⟨HR, Hb, HW⟩, Hi⟩ Hk
  iapply (runs_front (d := d) (i := i) (wd := chunk gi (2 * t1.val)) eight2 eight3 (listed2 i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc hgi) (listed3 i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc hgi)
    (k := fun w => (pure w : TP F i (BitVec 32)) >>= k)) $$ [HR Hb Hi]
  · isplitl [HR]; · iexact HR
    isplitl [Hb] <;> iassumption
  iintro HF Hi
  iapply Hk $$ [HF HW] Hi
  isplitl [HF] <;> iassumption

theorem frontA_skip (t1 : Fin k0_t1_loop.trips) (ht : 50 ≤ t1.val) (k : BitVec 32 → TP F i α) : frontA i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 k = k 0#32 := by
  rw [frontA, dif_neg (conds_last t1 ht).1]
  rfl

theorem frontB_runs {Q : α → sProp 𝕄} (t1 : Fin k0_t1_loop.trips) (ht : t1.val < 50) (hgi : ∀ x, (gi x).toNat < 100000) (k : BitVec 32 → TP F i α) :
    iprop(idle d i arg4 (slotB arg14 arg15 arg16 arg17 arg18 arg19 arg20) qB gf ∗ holds (F := F) (e := .i32) (me d i) arg6 fullShare gi)
      ⊢ iprop((looking d i arg4 (slotB arg14 arg15 arg16 arg17 arg18 arg19 arg20) qB gf (chunk gi (2 * t1.val + 1)) -∗ holds (F := F) (e := .i32) (me d i) arg6 fullShare gi
          -∗ runs (me d i) (k (BitVec.ofNat 32 (cnt (chunk gi (2 * t1.val + 1)) 256))) Q) -∗ runs (me d i) (frontB i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 k) Q) := by
  have hc := (conds_early t1 ht).2.1
  rw [frontB, dif_pos hc]
  unfold idle looking
  iintro ⟨⟨HR, Hb, HW⟩, Hi⟩ Hk
  iapply (runs_front (d := d) (i := i) (wd := chunk gi (2 * t1.val + 1)) eight8 eight9 (listed8 i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc hgi) (listed9 i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 hc hgi)
    (k := fun w => (pure w : TP F i (BitVec 32)) >>= k)) $$ [HR Hb Hi]
  · isplitl [HR]; · iexact HR
    isplitl [Hb] <;> iassumption
  iintro HF Hi
  iapply Hk $$ [HF HW] Hi
  isplitl [HF] <;> iassumption

theorem frontB_skip (t1 : Fin k0_t1_loop.trips) (ht : 50 ≤ t1.val) (k : BitVec 32 → TP F i α) : frontB i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 k = k 0#32 := by
  rw [frontB, dif_neg (conds_last t1 ht).2.1]
  rfl

set_option maxHeartbeats 1000000 in
theorem backB_runs {Q : α → sProp 𝕄} (t1 : Fin k0_t1_loop.trips) (ht : 1 ≤ t1.val) (hgi : ∀ x, (gi x).toNat < 100000)
    (hG : ∀ (o : Fin 2 → ℕ) (ho : ∀ a, o a + S256x128.size a ≤ S819200x128.size a), o = ![firstRow i + 256 * (2 * t1.val - 1), 0] →
      Right (chunk gi (2 * t1.val - 1)) gt gf (fun y => Gout ((Rect.unit (s := S819200x128) o S256x128.size ho).emb y)))
    (hv : k0_chk3 t1 (BitVec.ofNat 32 (cnt (chunk gi (2 * t1.val - 1)) 256))) (k : TP F i α) :
    iprop(looking d i arg4 (slotB arg14 arg15 arg16 arg17 arg18 arg19 arg20) qB gf (chunk gi (2 * t1.val - 1)) ∗ holds (me d i) arg3 qt gt ∗ semVal (me d i, .dma arg21.sem) 0 ∗ clock (me d i) O W₀
        ∗ outTodo (F := F) d i arg5 (2 * t1.val - 1))
      ⊢ iprop((writing d i arg4 (slotB arg14 arg15 arg16 arg17 arg18 arg19 arg20) qB gf (outDone d i arg5 Gout (2 * t1.val - 1)) -∗ holds (me d i) arg3 qt gt -∗ semVal (me d i, .dma arg21.sem) 0 -∗ clock (me d i) O W₀
          -∗ runs (me d i) k Q) -∗ runs (me d i) (backB i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 (BitVec.ofNat 32 (cnt (chunk gi (2 * t1.val - 1)) 256)) hv k) Q) := by
  have hc := (conds_late t1 ht).2.1
  have hn : cnt (chunk gi (2 * t1.val - 1)) 256 ≤ 256 := Nat.count_le _
  have hf := loop_facts ⟨cnt (chunk gi (2 * t1.val - 1)) 256, by omega⟩
  rw [backB, dif_pos hc]
  unfold looking outTodo
  iintro ⟨⟨HF, HW⟩, Ht, HP, HC, ⟨%g₀, Hd⟩⟩ Hk
  ihave Hd := (Entails.of_eq (slab_holds (2 * t1.val - 1) (off_late i t1 ht) (k0_off15_inb i t1 hc) g₀).symm) $$ Hd
  iapply (runs_back (d := d) (i := i) (wd := chunk gi (2 * t1.val - 1)) (k := fun _ => k)
    (G := fun y => Gout ((Rect.unit (s := S819200x128) (k0_off15 i t1) S256x128.size (k0_off15_inb i t1 hc)).emb y))
    hf.2.1 hf.2.2.2 hf.2.1 hf.2.2.2
    (k0_off7 (BitVec.ofNat 32 (cnt (chunk gi (2 * t1.val - 1)) 256))) (fun t => k0_off7_inb t1 _ hv t hc) (entry_off hn)
    (k0_chk4 t1) (k0_chk5 t1) (k0_chk4.dec t1) (k0_chk5.dec t1)
    (fun v h => k0_off10_inb t1 v h hc) (fun v h => k0_off9_inb t1 v h hc)
    (fun v h => ⟨fun _ => row_in_buf v h, fun _ => row_in_buf v h⟩) (fun v h _ => row_in_train v h)
    (fun _ _ => rfl) (fun _ _ => rfl) (hG _ (k0_off15_inb i t1 hc) (off_late i t1 ht)) (chunk_lt hgi _)) $$ [HF Ht HP HC Hd HW]
  · isplitl [HF]; · iexact HF
    isplitl [Ht]; · iexact Ht
    isplitl [HP]; · iexact HP
    isplitl [HC]; · iexact HC
    isplitl [Hd]; · iexists _; iexact Hd
    iexact HW
  iintro HR Ht HP HC HF
  iapply Hk $$ [HR HF] Ht HP HC
  iapply (writing_intro (s := (slotB arg14 arg15 arg16 arg17 arg18 arg19 arg20)) (out := arg5) (2 * t1.val - 1) (off_late i t1 ht) (k0_off15_inb i t1 hc))
  isplitl [HR]; · iexact HR
  iexact HF

theorem backB_skip (t1 : Fin k0_t1_loop.trips) (ht : t1.val = 0) (v : BitVec 32) (hv : k0_chk3 t1 v) (k : TP F i α) :
    backB i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv k = k := by
  rw [backB, dif_neg (conds_first t1 ht).2.1]

set_option maxHeartbeats 1000000 in
theorem backA_runs {Q : α → sProp 𝕄} (t1 : Fin k0_t1_loop.trips) (ht : t1.val < 50) (hgi : ∀ x, (gi x).toNat < 100000)
    (hG : ∀ (o : Fin 2 → ℕ) (ho : ∀ a, o a + S256x128.size a ≤ S819200x128.size a), o = ![firstRow i + 256 * (2 * t1.val), 0] →
      Right (chunk gi (2 * t1.val)) gt gf (fun y => Gout ((Rect.unit (s := S819200x128) o S256x128.size ho).emb y)))
    (hv : k0_chk10 t1 (BitVec.ofNat 32 (cnt (chunk gi (2 * t1.val)) 256))) (k : TP F i α) :
    iprop(looking d i arg4 (slotA arg7 arg8 arg9 arg10 arg11 arg12 arg13) qA gf (chunk gi (2 * t1.val)) ∗ holds (me d i) arg3 qt gt ∗ semVal (me d i, .dma arg21.sem) 0 ∗ clock (me d i) O W₀
        ∗ outTodo (F := F) d i arg5 (2 * t1.val))
      ⊢ iprop((writing d i arg4 (slotA arg7 arg8 arg9 arg10 arg11 arg12 arg13) qA gf (outDone d i arg5 Gout (2 * t1.val)) -∗ holds (me d i) arg3 qt gt -∗ semVal (me d i, .dma arg21.sem) 0 -∗ clock (me d i) O W₀
          -∗ runs (me d i) k Q) -∗ runs (me d i) (backA i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 (BitVec.ofNat 32 (cnt (chunk gi (2 * t1.val)) 256)) hv k) Q) := by
  have hc := (conds_early t1 ht).2.2
  have hn : cnt (chunk gi (2 * t1.val)) 256 ≤ 256 := Nat.count_le _
  have hf := loop_facts ⟨cnt (chunk gi (2 * t1.val)) 256, by omega⟩
  rw [backA, dif_pos hc]
  unfold looking outTodo
  iintro ⟨⟨HF, HW⟩, Ht, HP, HC, ⟨%g₀, Hd⟩⟩ Hk
  ihave Hd := (Entails.of_eq (slab_holds (2 * t1.val) (off_early i t1) (k0_off29_inb i t1 hc) g₀).symm) $$ Hd
  iapply (runs_back (d := d) (i := i) (wd := chunk gi (2 * t1.val)) (k := fun _ => k)
    (G := fun y => Gout ((Rect.unit (s := S819200x128) (k0_off29 i t1) S256x128.size (k0_off29_inb i t1 hc)).emb y))
    hf.2.1 hf.2.2.2 hf.2.1 hf.2.2.2
    (k0_off21 (BitVec.ofNat 32 (cnt (chunk gi (2 * t1.val)) 256))) (fun t => k0_off21_inb t1 _ hv t hc) (entry_off hn)
    (k0_chk11 t1) (k0_chk12 t1) (k0_chk11.dec t1) (k0_chk12.dec t1)
    (fun v h => k0_off24_inb t1 v h hc) (fun v h => k0_off23_inb t1 v h hc)
    (fun v h => ⟨fun _ => row_in_buf v h, fun _ => row_in_buf v h⟩) (fun v h _ => row_in_train v h)
    (fun _ _ => rfl) (fun _ _ => rfl) (hG _ (k0_off29_inb i t1 hc) (off_early i t1)) (chunk_lt hgi _)) $$ [HF Ht HP HC Hd HW]
  · isplitl [HF]; · iexact HF
    isplitl [Ht]; · iexact Ht
    isplitl [HP]; · iexact HP
    isplitl [HC]; · iexact HC
    isplitl [Hd]; · iexists _; iexact Hd
    iexact HW
  iintro HR Ht HP HC HF
  iapply Hk $$ [HR HF] Ht HP HC
  iapply (writing_intro (s := (slotA arg7 arg8 arg9 arg10 arg11 arg12 arg13)) (out := arg5) (2 * t1.val) (off_early i t1) (k0_off29_inb i t1 hc))
  isplitl [HR]; · iexact HR
  iexact HF

theorem backA_skip (t1 : Fin k0_t1_loop.trips) (ht : 50 ≤ t1.val) (v : BitVec 32) (hv : k0_chk10 t1 v) (k : TP F i α) :
    backA i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 v hv k = k := by
  rw [backA, dif_neg (conds_last t1 ht).2.2]

end Steps

end Cert.Proof

end
-- ==== Proof.Body.lean ====
/-
  A tile's whole run: the copy of its 25600 words, and the fifty-one trips over its hundred chunks.
-/
module

public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The chunks below `n`. -/
def below (n : ℕ) : Finset (Fin 100) := Finset.univ.filter fun c => c.val < n

theorem below_zero (P : Fin 100 → sProp 𝕄) : bigSep (below 0) P = (BI.emp : sProp 𝕄) := by
  rw [show below 0 = ∅ from Finset.filter_eq_empty_iff.mpr fun _ _ => Nat.not_lt_zero _, bigSep_empty]
theorem below_all (P : Fin 100 → sProp 𝕄) : bigSep (below 100) P = bigSep Finset.univ P := by
  rw [show below 100 = Finset.univ from Finset.filter_true_of_mem fun c _ => c.isLt]
theorem below_succ (P : ℕ → sProp 𝕄) {n : ℕ} (hn : n < 100) :
    bigSep (below (n + 1)) (fun c => P c.val) = iprop(P n ∗ bigSep (below n) (fun c => P c.val)) := by
  have h : below (n + 1) = insert (⟨n, hn⟩ : Fin 100) (below n) := by
    ext c; simp only [below, Finset.mem_filter, Finset.mem_univ, true_and, Finset.mem_insert, Fin.ext_iff]; omega
  rw [h, bigSep_insert (by simp [below])]; rfl
theorem above_succ (P : ℕ → sProp 𝕄) {n : ℕ} (hn : n < 100) :
    bigSep (Transfers.pending (n := 100) n) (fun c => P c.val) = iprop(P n ∗ bigSep (Transfers.pending (n := 100) (n + 1)) (fun c => P c.val)) := by
  rw [Transfers.pending_succ hn, bigSep_insert (Transfers.not_mem_pending_succ hn)]; rfl

/-- Two shares of the same elements, put together again. -/
theorem pointsTo_unshare {ℓ : Loc nD τ sig} {I : Finset (Idx ℓ)} {f f' : Buf (Elt F) ℓ} {q q₁ q₂ : PosShare TreeShare} (h : q ∈ q₁ ·? q₂) :
    iprop((ℓ ↦[I]{q₁} f) ∗ ℓ ↦[I]{q₂} f') ⊢ (ℓ ↦[I]{q} f : sProp 𝕄) := by
  refine BI.Laws.pure_elim _ pointsTo_agree fun hv => ?_
  rw [pointsTo_congr (f := f') (g := f) fun i hi => (hv i (Finset.mem_inter.mpr ⟨hi, hi⟩)).1.symm]
  exact (pointsTo_share h).2

theorem part_unshare {c : Thread nD τ} {sp : Space} {s : Shape} {e : EltTy} {m : Memref sig c.2.kind sp s e} {S : Finset s.Idx} {g : s.Idx → Elt F e}
    {q q₁ q₂ : PosShare TreeShare} (h : q ∈ q₁ ·? q₂) : iprop(part c m S q₁ g ∗ part c m S q₂ g) ⊢ (part c m S q g : sProp 𝕄) := by
  unfold part; iintro ⟨⟨%f, %hf, H⟩, ⟨%f', -, H'⟩⟩
  iexists f; isplitr; · ipureintro; exact hf
  iapply (pointsTo_unshare h)
  isplitl [H] <;> iassumption

theorem words_units : RefSig.bitCredit S200x128 .i32 = 819200 := by decide +kernel

section Run

variable (i : grid0.Coords) (arg2 : Memref sig .scVector .hbm S6400x128 .i32) (harg2 : arg2.IsWhole) (arg3 : Memref sig .scVector .hbm S1000x128 .f32) (harg3 : arg3.IsWhole) (arg4 : Memref sig .scVector .hbm S99000x128 .f32) (harg4 : arg4.IsWhole) (arg5 : Memref sig .scVector .hbm S819200x128 .f32) (harg5 : arg5.IsWhole) (arg6 : Memref sig .scVector .vmem S200x128 .i32) (harg6 : arg6.IsWhole) (arg7 : Memref sig .scVector .vmem S128 .i32) (harg7 : arg7.IsWhole) (arg8 : Memref sig .scVector .vmem S128 .i32) (harg8 : arg8.IsWhole) (arg9 : Memref sig .scVector .vmem S256x128 .f32) (harg9 : arg9.IsWhole) (arg10 : Memref sig .scVector .vmem S272 .i32) (harg10 : arg10.IsWhole) (arg11 : Memref sig .scVector .vmem S272 .i32) (harg11 : arg11.IsWhole) (arg12 : DmaSems sig S_) (arg13 : DmaSems sig S_) (arg14 : Memref sig .scVector .vmem S128 .i32) (harg14 : arg14.IsWhole) (arg15 : Memref sig .scVector .vmem S128 .i32) (harg15 : arg15.IsWhole) (arg16 : Memref sig .scVector .vmem S256x128 .f32) (harg16 : arg16.IsWhole) (arg17 : Memref sig .scVector .vmem S272 .i32) (harg17 : arg17.IsWhole) (arg18 : Memref sig .scVector .vmem S272 .i32) (harg18 : arg18.IsWhole) (arg19 : DmaSems sig S_) (arg20 : DmaSems sig S_) (arg21 : DmaSems sig S_) (v6_r0 : DmaSems sig S_)
variable {α : Type} {d : Dev nD} {gi : S200x128.Idx → BitVec 32} {qi qt qA qB : PosShare TreeShare}
variable {gt : S1000x128.Idx → Elt F .f32} {gf : S99000x128.Idx → Elt F .f32} {Gout : S819200x128.Idx → Elt F .f32}
variable {O : CellTallies nD τ sig (HIx 1)} {W₀ : Waits sig (HIx 1)}

/-- What the two slots are doing before trip `t`. -/
def slots (d : Dev nD) (i : grid0.Coords) (arg3 : Memref sig .scVector .hbm S1000x128 .f32) (arg4 : Memref sig .scVector .hbm S99000x128 .f32) (arg5 : Memref sig .scVector .hbm S819200x128 .f32) (arg6 : Memref sig .scVector .vmem S200x128 .i32) (arg7 : Memref sig .scVector .vmem S128 .i32) (arg8 : Memref sig .scVector .vmem S128 .i32) (arg9 : Memref sig .scVector .vmem S256x128 .f32) (arg10 : Memref sig .scVector .vmem S272 .i32) (arg11 : Memref sig .scVector .vmem S272 .i32) (arg12 : DmaSems sig S_) (arg13 : DmaSems sig S_) (arg14 : Memref sig .scVector .vmem S128 .i32) (arg15 : Memref sig .scVector .vmem S128 .i32) (arg16 : Memref sig .scVector .vmem S256x128 .f32) (arg17 : Memref sig .scVector .vmem S272 .i32) (arg18 : Memref sig .scVector .vmem S272 .i32) (arg19 : DmaSems sig S_) (arg20 : DmaSems sig S_) (arg21 : DmaSems sig S_) (gi : S200x128.Idx → BitVec 32) (qA qB : PosShare TreeShare) (gf : S99000x128.Idx → Elt F .f32) (Gout : S819200x128.Idx → Elt F .f32) (t : ℕ) (u : BitVec 32) : sProp 𝕄 :=
  if t = 0 then iprop(⌜u = 0#32⌝ ∗ idle d i arg4 (slotA arg7 arg8 arg9 arg10 arg11 arg12 arg13) qA gf ∗ idle d i arg4 (slotB arg14 arg15 arg16 arg17 arg18 arg19 arg20) qB gf)
  else if 51 ≤ t then iprop(idle d i arg4 (slotA arg7 arg8 arg9 arg10 arg11 arg12 arg13) qA gf ∗ idle d i arg4 (slotB arg14 arg15 arg16 arg17 arg18 arg19 arg20) qB gf)
  else iprop(⌜u = BitVec.ofNat 32 (cnt (chunk gi (2 * t - 1)) 256)⌝ ∗ writing d i arg4 (slotA arg7 arg8 arg9 arg10 arg11 arg12 arg13) qA gf (outDone d i arg5 Gout (2 * t - 2))
    ∗ looking d i arg4 (slotB arg14 arg15 arg16 arg17 arg18 arg19 arg20) qB gf (chunk gi (2 * t - 1)))

/-- What every trip needs beside the slots: the tile's words, the small table, the semaphore of the row copies. -/
def common (d : Dev nD) (i : grid0.Coords) (arg3 : Memref sig .scVector .hbm S1000x128 .f32) (arg6 : Memref sig .scVector .vmem S200x128 .i32) (arg21 : DmaSems sig S_)
    (gi : S200x128.Idx → BitVec 32) (qt : PosShare TreeShare) (gt : S1000x128.Idx → Elt F .f32) (O : CellTallies nD τ sig (HIx 1)) (W₀ : Waits sig (HIx 1)) : sProp 𝕄 :=
  iprop(clock (me d i) O W₀ ∗ holds (F := F) (e := .i32) (me d i) arg6 fullShare gi ∗ holds (me d i) arg3 qt gt ∗ semVal (me d i, .dma arg21.sem) 0)

/-- Before trip `t`: the chunks below `2t - 2` are written, those from `2t - 1` on are not. -/
def trip (d : Dev nD) (i : grid0.Coords) (arg3 : Memref sig .scVector .hbm S1000x128 .f32) (arg4 : Memref sig .scVector .hbm S99000x128 .f32) (arg5 : Memref sig .scVector .hbm S819200x128 .f32) (arg6 : Memref sig .scVector .vmem S200x128 .i32) (arg7 : Memref sig .scVector .vmem S128 .i32) (arg8 : Memref sig .scVector .vmem S128 .i32) (arg9 : Memref sig .scVector .vmem S256x128 .f32) (arg10 : Memref sig .scVector .vmem S272 .i32) (arg11 : Memref sig .scVector .vmem S272 .i32) (arg12 : DmaSems sig S_) (arg13 : DmaSems sig S_) (arg14 : Memref sig .scVector .vmem S128 .i32) (arg15 : Memref sig .scVector .vmem S128 .i32) (arg16 : Memref sig .scVector .vmem S256x128 .f32) (arg17 : Memref sig .scVector .vmem S272 .i32) (arg18 : Memref sig .scVector .vmem S272 .i32) (arg19 : DmaSems sig S_) (arg20 : DmaSems sig S_) (arg21 : DmaSems sig S_) (gi : S200x128.Idx → BitVec 32) (qt qA qB : PosShare TreeShare) (gt : S1000x128.Idx → Elt F .f32) (gf : S99000x128.Idx → Elt F .f32) (Gout : S819200x128.Idx → Elt F .f32) (O : CellTallies nD τ sig (HIx 1)) (W₀ : Waits sig (HIx 1)) (t : ℕ) (u : BitVec 32) : sProp 𝕄 :=
  iprop(common d i arg3 arg6 arg21 gi qt gt O W₀
    ∗ bigSep (below (2 * t - 2)) (fun c => outDone d i arg5 Gout c.val)
    ∗ bigSep (Transfers.pending (n := 100) (2 * t - 1)) (fun c => outTodo (F := F) d i arg5 c.val)
    ∗ slots d i arg3 arg4 arg5 arg6 arg7 arg8 arg9 arg10 arg11 arg12 arg13 arg14 arg15 arg16 arg17 arg18 arg19 arg20 arg21 gi qA qB gf Gout t u)

theorem slots_first {t : ℕ} (h : t = 0) (u : BitVec 32) : slots d i arg3 arg4 arg5 arg6 arg7 arg8 arg9 arg10 arg11 arg12 arg13 arg14 arg15 arg16 arg17 arg18 arg19 arg20 arg21 gi qA qB gf Gout t u
    = iprop(⌜u = 0#32⌝ ∗ idle d i arg4 (slotA arg7 arg8 arg9 arg10 arg11 arg12 arg13) qA gf ∗ idle d i arg4 (slotB arg14 arg15 arg16 arg17 arg18 arg19 arg20) qB gf) := by
  unfold slots; rw [if_pos h]
theorem slots_last {t : ℕ} (h : 51 ≤ t) (u : BitVec 32) : slots d i arg3 arg4 arg5 arg6 arg7 arg8 arg9 arg10 arg11 arg12 arg13 arg14 arg15 arg16 arg17 arg18 arg19 arg20 arg21 gi qA qB gf Gout t u
    = iprop(idle d i arg4 (slotA arg7 arg8 arg9 arg10 arg11 arg12 arg13) qA gf ∗ idle d i arg4 (slotB arg14 arg15 arg16 arg17 arg18 arg19 arg20) qB gf) := by
  unfold slots; rw [if_neg (by omega), if_pos h]
theorem slots_mid {t m n : ℕ} (h : 1 ≤ t) (h' : t < 51) (hm : 2 * t - 2 = m) (hn : 2 * t - 1 = n) (u : BitVec 32) : slots d i arg3 arg4 arg5 arg6 arg7 arg8 arg9 arg10 arg11 arg12 arg13 arg14 arg15 arg16 arg17 arg18 arg19 arg20 arg21 gi qA qB gf Gout t u
    = iprop(⌜u = BitVec.ofNat 32 (cnt (chunk gi n) 256)⌝ ∗ writing d i arg4 (slotA arg7 arg8 arg9 arg10 arg11 arg12 arg13) qA gf (outDone d i arg5 Gout m)
    ∗ looking d i arg4 (slotB arg14 arg15 arg16 arg17 arg18 arg19 arg20) qB gf (chunk gi n)) := by
  subst hm hn; unfold slots; rw [if_neg (by omega), if_neg (by omega)]

/-- The tables and the output agree on a tile's chunks. -/
def Agree (i : grid0.Coords) (gi : S200x128.Idx → BitVec 32) (gt : S1000x128.Idx → Elt F .f32) (gf : S99000x128.Idx → Elt F .f32) (Gout : S819200x128.Idx → Elt F .f32) : Prop :=
  ∀ c : ℕ, c < 100 → ∀ (o : Fin 2 → ℕ) (ho : ∀ a, o a + S256x128.size a ≤ S819200x128.size a), o = ![firstRow i + 256 * c, 0] →
    Right (chunk gi c) gt gf (fun y => Gout ((Rect.unit (s := S819200x128) o S256x128.size ho).emb y))

theorem trip_first (t1 : Fin k0_t1_loop.trips) (h0 : t1.val = 0) (hgi : ∀ x, (gi x).toNat < 100000) (hG : Agree i gi gt gf Gout) (vu : BitVec 32 × BitVec 32) :
    trip d i arg3 arg4 arg5 arg6 arg7 arg8 arg9 arg10 arg11 arg12 arg13 arg14 arg15 arg16 arg17 arg18 arg19 arg20 arg21 gi qt qA qB gt gf Gout O W₀ t1.val vu.2
      ⊢ runs (me d i) (k0_t1_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 vu) (fun vu' => trip d i arg3 arg4 arg5 arg6 arg7 arg8 arg9 arg10 arg11 arg12 arg13 arg14 arg15 arg16 arg17 arg18 arg19 arg20 arg21 gi qt qA qB gt gf Gout O W₀ (t1.val + 1) vu'.2) := by
  obtain ⟨v, u⟩ := vu
  have ht : t1.val < 50 := by omega
  have hn : cnt (chunk gi (2 * t1.val)) 256 ≤ 256 := Nat.count_le _
  rw [body_stages]
  unfold trip common
  rw [slots_first i arg3 arg4 arg5 arg6 arg7 arg8 arg9 arg10 arg11 arg12 arg13 arg14 arg15 arg16 arg17 arg18 arg19 arg20 arg21 h0, show 2 * (t1.val + 1) - 1 = 2 * t1.val + 1 by omega,
    show 2 * (t1.val + 1) - 2 = 2 * t1.val by omega, show 2 * t1.val - 2 = 2 * t1.val by omega, show 2 * t1.val - 1 = 2 * t1.val by omega]
  iintro ⟨⟨HC, Hi, Ht, HP⟩, HD, HT, ⟨%hu, HA, HB⟩⟩
  subst hu
  ihave HT := (Entails.of_eq (above_succ (fun c => outTodo (F := F) d i arg5 c) (n := 2 * t1.val) (by omega))) $$ HT
  icases HT with ⟨Hd, HT⟩
  iapply (run_assume (count_checks t1 (n := 0) (by decide)).1)
  rw [drainA_skip (ht := h0)]
  iapply (frontA_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 ht hgi _) $$ [HA Hi]
  · isplitl [HA] <;> iassumption
  iintro HA Hi
  iapply (run_assume (count_checks t1 hn).2)
  rw [backB_skip (ht := h0), drainB_skip (ht := h0)]
  iapply (frontB_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 ht hgi _) $$ [HB Hi]
  · isplitl [HB] <;> iassumption
  iintro HB Hi
  iapply (backA_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 ht hgi (hG _ (by omega)) _ _) $$ [HA Ht HP HC Hd]
  · isplitl [HA]; · iexact HA
    isplitl [Ht]; · iexact Ht
    isplitl [HP]; · iexact HP
    isplitl [HC]; · iexact HC
    iexact Hd
  iintro HA Ht HP HC
  iapply run_pure
  isplitl [HC Hi Ht HP]
  · isplitl [HC]; · iexact HC
    isplitl [Hi]; · iexact Hi
    isplitl [Ht] <;> iassumption
  isplitl [HD]; · iexact HD
  isplitl [HT]; · iexact HT
  iapply (Entails.of_eq (slots_mid i arg3 arg4 arg5 arg6 arg7 arg8 arg9 arg10 arg11 arg12 arg13 arg14 arg15 arg16 arg17 arg18 arg19 arg20 arg21 (t := t1.val + 1) (m := 2 * t1.val) (n := 2 * t1.val + 1) (by omega) (by omega) (by omega) (by omega) _).symm)
  isplitr; · ipureintro; rfl
  isplitl [HA] <;> iassumption

theorem trip_last (t1 : Fin k0_t1_loop.trips) (h5 : t1.val = 50) (hgi : ∀ x, (gi x).toNat < 100000) (hG : Agree i gi gt gf Gout) (vu : BitVec 32 × BitVec 32) :
    trip d i arg3 arg4 arg5 arg6 arg7 arg8 arg9 arg10 arg11 arg12 arg13 arg14 arg15 arg16 arg17 arg18 arg19 arg20 arg21 gi qt qA qB gt gf Gout O W₀ t1.val vu.2
      ⊢ runs (me d i) (k0_t1_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 vu) (fun vu' => trip d i arg3 arg4 arg5 arg6 arg7 arg8 arg9 arg10 arg11 arg12 arg13 arg14 arg15 arg16 arg17 arg18 arg19 arg20 arg21 gi qt qA qB gt gf Gout O W₀ (t1.val + 1) vu'.2) := by
  obtain ⟨v, u⟩ := vu
  have h1 : 1 ≤ t1.val := by omega
  have h50 : 50 ≤ t1.val := by omega
  have hn : cnt (chunk gi (2 * t1.val - 1)) 256 ≤ 256 := Nat.count_le _
  rw [body_stages]
  unfold trip common
  rw [slots_mid i arg3 arg4 arg5 arg6 arg7 arg8 arg9 arg10 arg11 arg12 arg13 arg14 arg15 arg16 arg17 arg18 arg19 arg20 arg21 h1 (by omega) rfl rfl, show 2 * (t1.val + 1) - 2 = 2 * t1.val - 2 + 1 + 1 by omega]
  iintro ⟨⟨HC, Hi, Ht, HP⟩, HD, HT, ⟨%hu, HA, HB⟩⟩
  dsimp only at hu
  subst hu
  ihave HT := (Entails.of_eq (above_succ (fun c => outTodo (F := F) d i arg5 c) (n := 2 * t1.val - 1) (by omega))) $$ HT
  icases HT with ⟨Hd, HT⟩
  iapply (run_assume (count_checks t1 hn).1)
  iapply (drainA_runs i arg4 arg5 arg7 arg8 arg9 harg9 arg10 arg11 arg12 arg13 t1 h1 _) $$ [HA HC]
  · isplitl [HA] <;> iassumption
  iintro HA Hw HC
  rw [frontA_skip (ht := h50)]
  iapply (run_assume (count_checks t1 (n := 0) (by decide)).2)
  iapply (backB_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h1 hgi (hG _ (by omega)) _ _) $$ [HB Ht HP HC Hd]
  · isplitl [HB]; · iexact HB
    isplitl [Ht]; · iexact Ht
    isplitl [HP]; · iexact HP
    isplitl [HC]; · iexact HC
    iexact Hd
  iintro HB Ht HP HC
  iapply (drainB_runs i arg4 arg5 arg14 arg15 arg16 harg16 arg17 arg18 arg19 arg20 t1 h1 _) $$ [HB HC]
  · isplitl [HB] <;> iassumption
  iintro HB Hw' HC
  rw [frontB_skip (ht := h50), backA_skip (ht := h50)]
  iapply run_pure
  isplitl [HC Hi Ht HP]
  · isplitl [HC]; · iexact HC
    isplitl [Hi]; · iexact Hi
    isplitl [Ht] <;> iassumption
  isplitl [HD Hw Hw']
  · iapply (Entails.of_eq (below_succ (fun c => outDone d i arg5 Gout c) (n := 2 * t1.val - 2 + 1) (by omega)).symm)
    isplitl [Hw']
    · iapply (Entails.of_eq (congrArg (outDone d i arg5 Gout) (show 2 * t1.val - 1 = 2 * t1.val - 2 + 1 by omega))) $$ Hw'
    iapply (Entails.of_eq (below_succ (fun c => outDone d i arg5 Gout c) (n := 2 * t1.val - 2) (by omega)).symm)
    isplitl [Hw] <;> iassumption
  isplitl [HT]
  · iapply (Entails.of_eq ((pending_none (n := 100) (k := 2 * t1.val - 1 + 1) (by omega) _).trans (pending_none (n := 100) (k := 2 * (t1.val + 1) - 1) (by omega) _).symm)) $$ HT
  iapply (Entails.of_eq (slots_last i arg3 arg4 arg5 arg6 arg7 arg8 arg9 arg10 arg11 arg12 arg13 arg14 arg15 arg16 arg17 arg18 arg19 arg20 arg21 (t := t1.val + 1) (by omega) _).symm)
  isplitl [HA] <;> iassumption

theorem trip_mid (t1 : Fin k0_t1_loop.trips) (h1 : 1 ≤ t1.val) (ht : t1.val < 50) (hgi : ∀ x, (gi x).toNat < 100000) (hG : Agree i gi gt gf Gout) (vu : BitVec 32 × BitVec 32) :
    trip d i arg3 arg4 arg5 arg6 arg7 arg8 arg9 arg10 arg11 arg12 arg13 arg14 arg15 arg16 arg17 arg18 arg19 arg20 arg21 gi qt qA qB gt gf Gout O W₀ t1.val vu.2
      ⊢ runs (me d i) (k0_t1_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 vu) (fun vu' => trip d i arg3 arg4 arg5 arg6 arg7 arg8 arg9 arg10 arg11 arg12 arg13 arg14 arg15 arg16 arg17 arg18 arg19 arg20 arg21 gi qt qA qB gt gf Gout O W₀ (t1.val + 1) vu'.2) := by
  obtain ⟨v, u⟩ := vu
  have hn : cnt (chunk gi (2 * t1.val - 1)) 256 ≤ 256 := Nat.count_le _
  have hn' : cnt (chunk gi (2 * t1.val)) 256 ≤ 256 := Nat.count_le _
  rw [body_stages]
  unfold trip common
  rw [slots_mid i arg3 arg4 arg5 arg6 arg7 arg8 arg9 arg10 arg11 arg12 arg13 arg14 arg15 arg16 arg17 arg18 arg19 arg20 arg21 h1 (by omega) rfl rfl, show 2 * (t1.val + 1) - 1 = 2 * t1.val + 1 by omega,
    show 2 * (t1.val + 1) - 2 = 2 * t1.val by omega]
  iintro ⟨⟨HC, Hi, Ht, HP⟩, HD, HT, ⟨%hu, HA, HB⟩⟩
  dsimp only at hu
  subst hu
  ihave HT := (Entails.of_eq (above_succ (fun c => outTodo (F := F) d i arg5 c) (n := 2 * t1.val - 1) (by omega))) $$ HT
  icases HT with ⟨Hd, HT⟩
  ihave HT := (Entails.of_eq (congrArg (fun n => bigSep (Transfers.pending (n := 100) n) (fun c => outTodo (F := F) d i arg5 c.val))
    (show 2 * t1.val - 1 + 1 = 2 * t1.val by omega))) $$ HT
  ihave HT := (Entails.of_eq (above_succ (fun c => outTodo (F := F) d i arg5 c) (n := 2 * t1.val) (by omega))) $$ HT
  icases HT with ⟨Hd', HT⟩
  iapply (run_assume (count_checks t1 hn).1)
  iapply (drainA_runs i arg4 arg5 arg7 arg8 arg9 harg9 arg10 arg11 arg12 arg13 t1 h1 _) $$ [HA HC]
  · isplitl [HA] <;> iassumption
  iintro HA Hw HC
  iapply (frontA_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 ht hgi _) $$ [HA Hi]
  · isplitl [HA] <;> iassumption
  iintro HA Hi
  iapply (run_assume (count_checks t1 hn').2)
  iapply (backB_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h1 hgi (hG _ (by omega)) _ _) $$ [HB Ht HP HC Hd]
  · isplitl [HB]; · iexact HB
    isplitl [Ht]; · iexact Ht
    isplitl [HP]; · iexact HP
    isplitl [HC]; · iexact HC
    iexact Hd
  iintro HB Ht HP HC
  iapply (drainB_runs i arg4 arg5 arg14 arg15 arg16 harg16 arg17 arg18 arg19 arg20 t1 h1 _) $$ [HB HC]
  · isplitl [HB] <;> iassumption
  iintro HB Hw' HC
  iapply (frontB_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 ht hgi _) $$ [HB Hi]
  · isplitl [HB] <;> iassumption
  iintro HB Hi
  iapply (backA_runs i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 ht hgi (hG _ (by omega)) _ _) $$ [HA Ht HP HC Hd']
  · isplitl [HA]; · iexact HA
    isplitl [Ht]; · iexact Ht
    isplitl [HP]; · iexact HP
    isplitl [HC]; · iexact HC
    iexact Hd'
  iintro HA Ht HP HC
  iapply run_pure
  isplitl [HC Hi Ht HP]
  · isplitl [HC]; · iexact HC
    isplitl [Hi]; · iexact Hi
    isplitl [Ht] <;> iassumption
  isplitl [HD Hw Hw']
  · iapply (Entails.of_eq (congrArg (fun n => bigSep (below n) (fun c => outDone d i arg5 Gout c.val)) (show 2 * t1.val - 2 + 1 + 1 = 2 * t1.val by omega)))
    iapply (Entails.of_eq (below_succ (fun c => outDone d i arg5 Gout c) (n := 2 * t1.val - 2 + 1) (by omega)).symm)
    isplitl [Hw']
    · iapply (Entails.of_eq (congrArg (outDone d i arg5 Gout) (show 2 * t1.val - 1 = 2 * t1.val - 2 + 1 by omega))) $$ Hw'
    iapply (Entails.of_eq (below_succ (fun c => outDone d i arg5 Gout c) (n := 2 * t1.val - 2) (by omega)).symm)
    isplitl [Hw] <;> iassumption
  isplitl [HT]; · iexact HT
  iapply (Entails.of_eq (slots_mid i arg3 arg4 arg5 arg6 arg7 arg8 arg9 arg10 arg11 arg12 arg13 arg14 arg15 arg16 arg17 arg18 arg19 arg20 arg21 (t := t1.val + 1) (m := 2 * t1.val) (n := 2 * t1.val + 1) (by omega) (by omega) (by omega) (by omega) _).symm)
  isplitr; · ipureintro; rfl
  isplitl [HA] <;> iassumption

theorem trip_step (t1 : Fin k0_t1_loop.trips) (hgi : ∀ x, (gi x).toNat < 100000) (hG : Agree i gi gt gf Gout) (vu : BitVec 32 × BitVec 32) :
    trip d i arg3 arg4 arg5 arg6 arg7 arg8 arg9 arg10 arg11 arg12 arg13 arg14 arg15 arg16 arg17 arg18 arg19 arg20 arg21 gi qt qA qB gt gf Gout O W₀ t1.val vu.2
      ⊢ runs (me d i) (k0_t1_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 vu) (fun vu' => trip d i arg3 arg4 arg5 arg6 arg7 arg8 arg9 arg10 arg11 arg12 arg13 arg14 arg15 arg16 arg17 arg18 arg19 arg20 arg21 gi qt qA qB gt gf Gout O W₀ (t1.val + 1) vu'.2) := by
  have h51 : t1.val < 51 := lt_of_lt_of_eq t1.isLt trips51
  rcases Nat.eq_zero_or_pos t1.val with h0 | h1
  · exact trip_first i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h0 hgi hG vu
  rcases Nat.lt_or_ge t1.val 50 with h | h
  · exact trip_mid i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 h1 h hgi hG vu
  · exact trip_last i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t1 (by omega) hgi hG vu

theorem trip_begin : iprop(common (F := F) d i arg3 arg6 arg21 gi qt gt O W₀ ∗ bigSep Finset.univ (fun c : Fin 100 => outTodo (F := F) d i arg5 c.val)
      ∗ idle d i arg4 (slotA arg7 arg8 arg9 arg10 arg11 arg12 arg13) qA gf ∗ idle d i arg4 (slotB arg14 arg15 arg16 arg17 arg18 arg19 arg20) qB gf) ⊢ (trip d i arg3 arg4 arg5 arg6 arg7 arg8 arg9 arg10 arg11 arg12 arg13 arg14 arg15 arg16 arg17 arg18 arg19 arg20 arg21 gi qt qA qB gt gf Gout O W₀ 0 0#32 : sProp 𝕄) := by
  unfold trip
  rw [slots_first i arg3 arg4 arg5 arg6 arg7 arg8 arg9 arg10 arg11 arg12 arg13 arg14 arg15 arg16 arg17 arg18 arg19 arg20 arg21 rfl, below_zero, Transfers.pending_zero]
  iintro ⟨HC, HT, HS⟩
  isplitl [HC]; · iexact HC
  isplitr; · iempintro
  isplitl [HT]; · iexact HT
  isplitr; · ipureintro; rfl
  iexact HS

theorem trip_end (u : BitVec 32) : (trip d i arg3 arg4 arg5 arg6 arg7 arg8 arg9 arg10 arg11 arg12 arg13 arg14 arg15 arg16 arg17 arg18 arg19 arg20 arg21 gi qt qA qB gt gf Gout O W₀ 51 u : sProp 𝕄)
    ⊢ iprop(common (F := F) d i arg3 arg6 arg21 gi qt gt O W₀ ∗ bigSep Finset.univ (fun c : Fin 100 => outDone d i arg5 Gout c.val)
      ∗ idle d i arg4 (slotA arg7 arg8 arg9 arg10 arg11 arg12 arg13) qA gf ∗ idle d i arg4 (slotB arg14 arg15 arg16 arg17 arg18 arg19 arg20) qB gf) := by
  unfold trip
  rw [slots_last i arg3 arg4 arg5 arg6 arg7 arg8 arg9 arg10 arg11 arg12 arg13 arg14 arg15 arg16 arg17 arg18 arg19 arg20 arg21 (le_refl _), show 2 * 51 - 2 = 100 from rfl, below_all]
  iintro ⟨HC, HD, -, HS⟩
  isplitl [HC]; · iexact HC
  isplitl [HD] <;> iassumption

/-- A tile's scratch and semaphores. -/
def scratch (d : Dev nD) (i : grid0.Coords) (arg6 : Memref sig .scVector .vmem S200x128 .i32) (arg7 : Memref sig .scVector .vmem S128 .i32) (arg8 : Memref sig .scVector .vmem S128 .i32) (arg9 : Memref sig .scVector .vmem S256x128 .f32) (arg10 : Memref sig .scVector .vmem S272 .i32) (arg11 : Memref sig .scVector .vmem S272 .i32) (arg12 : DmaSems sig S_) (arg13 : DmaSems sig S_) (arg14 : Memref sig .scVector .vmem S128 .i32) (arg15 : Memref sig .scVector .vmem S128 .i32) (arg16 : Memref sig .scVector .vmem S256x128 .f32) (arg17 : Memref sig .scVector .vmem S272 .i32) (arg18 : Memref sig .scVector .vmem S272 .i32) (arg19 : DmaSems sig S_) (arg20 : DmaSems sig S_) (arg21 : DmaSems sig S_) (v6_r0 : DmaSems sig S_) : sProp 𝕄 :=
  iprop((∃ g, holds (F := F) (e := .i32) (me d i) arg6 fullShare g)
    ∗ ((∃ g, holds (F := F) (e := .i32) (me d i) arg7 fullShare g) ∗ (∃ g, holds (F := F) (e := .i32) (me d i) arg8 fullShare g) ∗ (∃ g, holds (F := F) (e := .f32) (me d i) arg9 fullShare g)
      ∗ (∃ g, holds (F := F) (e := .i32) (me d i) arg10 fullShare g) ∗ (∃ g, holds (F := F) (e := .i32) (me d i) arg11 fullShare g)
      ∗ semVal (me d i, .dma arg12.sem) 0 ∗ semVal (me d i, .dma arg13.sem) 0)
    ∗ ((∃ g, holds (F := F) (e := .i32) (me d i) arg14 fullShare g) ∗ (∃ g, holds (F := F) (e := .i32) (me d i) arg15 fullShare g) ∗ (∃ g, holds (F := F) (e := .f32) (me d i) arg16 fullShare g)
      ∗ (∃ g, holds (F := F) (e := .i32) (me d i) arg17 fullShare g) ∗ (∃ g, holds (F := F) (e := .i32) (me d i) arg18 fullShare g)
      ∗ semVal (me d i, .dma arg19.sem) 0 ∗ semVal (me d i, .dma arg20.sem) 0)
    ∗ semVal (me d i, .dma arg21.sem) 0 ∗ semVal (me d i, .dma v6_r0.sem) 0)

/-- A tile's run: from its words and the two tables to its hundred chunks of the output. -/
theorem tile_runs {qf : PosShare TreeShare} (hgi : ∀ x, (gi x).toNat < 100000) (hG : Agree i gi gt gf Gout) :
    iprop(holds (F := F) (e := .i32) (me d i) (arg2.slice (Rect.unit (s := S6400x128) (k0_off1 i) S200x128.size (k0_off1_inb i)) (fun _ => rfl)) qi gi
        ∗ holds (me d i) arg3 qt gt ∗ holds (me d i) arg4 qf gf ∗ bigSep Finset.univ (fun c : Fin 100 => outTodo (F := F) d i arg5 c.val)
        ∗ scratch (F := F) d i arg6 arg7 arg8 arg9 arg10 arg11 arg12 arg13 arg14 arg15 arg16 arg17 arg18 arg19 arg20 arg21 v6_r0 ∗ clock (me d i) O W₀)
      ⊢ runs (me d i) (Cert.KernelIdeal.cc0_k_fn i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0) (fun _ =>
        iprop(holds (F := F) (e := .i32) (me d i) (arg2.slice (Rect.unit (s := S6400x128) (k0_off1 i) S200x128.size (k0_off1_inb i)) (fun _ => rfl)) qi gi
        ∗ holds (me d i) arg3 qt gt ∗ holds (me d i) arg4 qf gf ∗ bigSep Finset.univ (fun c : Fin 100 => outDone d i arg5 Gout c.val)
        ∗ scratch (F := F) d i arg6 arg7 arg8 arg9 arg10 arg11 arg12 arg13 arg14 arg15 arg16 arg17 arg18 arg19 arg20 arg21 v6_r0 ∗ clock (me d i) O W₀)) := by
  rw [cc0_k_fn_eq_skeleton]
  unfold cc0_k_fn_skel
  iintro ⟨Hs, Ht, Hf, HT, HS, HC⟩
  unfold scratch
  icases HS with ⟨⟨%g6, H6⟩, ⟨H7, H8, H9, H10, H11, H12, H13⟩, ⟨H14, H15, H16, H17, H18, H19, H20⟩, H21, HR⟩
  ihave Hf := (part_share (PosShare.mem_left_op_right qf)) $$ Hf
  icases Hf with ⟨HfA, HfB⟩
  iapply (run_dma (c := me d i) (src := arg2.slice (Rect.unit (s := S6400x128) (k0_off1 i) S200x128.size (k0_off1_inb i)) (fun _ => rfl)) (dst := arg6) 819200 (by exact words_units) (by decide)) $$ [Hs H6 HR]
  · isplitl [Hs]; · iexact Hs
    isplitl [H6]; · iexact H6
    iexact HR
  iintro HF
  iapply (run_wait (c := me d i) (sem := v6_r0.sem) (dstw := arg6) (N := 819200) (by exact words_units)) $$ [HF HC]
  · isplitl [HF] <;> iassumption
  iintro ⟨H6, Hs⟩ HR HC
  have hL := Scf.wp_for_bind (kk := fun _ => (pure ⟨⟩ : TP F i PUnit)) (Q := fun _ =>
        iprop(holds (F := F) (e := .i32) (me d i) (arg2.slice (Rect.unit (s := S6400x128) (k0_off1 i) S200x128.size (k0_off1_inb i)) (fun _ => rfl)) qi gi
        ∗ holds (me d i) arg3 qt gt ∗ holds (me d i) arg4 qf gf ∗ bigSep Finset.univ (fun c : Fin 100 => outDone d i arg5 Gout c.val)
        ∗ scratch (F := F) d i arg6 arg7 arg8 arg9 arg10 arg11 arg12 arg13 arg14 arg15 arg16 arg17 arg18 arg19 arg20 arg21 v6_r0 ∗ clock (me d i) O W₀)) frame (wpE (defs₀ (F := F)) 𝒱₀ (me d i) none) Set.univ k0_t1_loop.lb k0_t1_loop.ub k0_t1_loop.st k0_t1_ok (0#32, 0#32)
    (k0_t1_body i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0) (fun t vu => trip d i arg3 arg4 arg5 arg6 arg7 arg8 arg9 arg10 arg11 arg12 arg13 arg14 arg15 arg16 arg17 arg18 arg19 arg20 arg21 gi qt qf.left qf.right gt gf Gout O W₀ t vu.2) (fun t vu => trip_step i arg2 harg2 arg3 harg3 arg4 harg4 arg5 harg5 arg6 harg6 arg7 harg7 arg8 harg8 arg9 harg9 arg10 harg10 arg11 harg11 arg12 arg13 arg14 harg14 arg15 harg15 arg16 harg16 arg17 harg17 arg18 harg18 arg19 arg20 arg21 v6_r0 t hgi hG vu)
  rw [show Scf.trips k0_t1_loop.lb k0_t1_loop.ub k0_t1_loop.st = 51 from trips51] at hL
  iapply hL $$ [H6 Ht HC H21 HT HfA HfB H7 H8 H9 H10 H11 H12 H13 H14 H15 H16 H17 H18 H19 H20]
  · iapply (trip_begin i arg3 arg4 arg5 arg6 arg7 arg8 arg9 arg10 arg11 arg12 arg13 arg14 arg15 arg16 arg17 arg18 arg19 arg20 arg21)
    unfold common
    isplitl [H6 Ht HC H21]
    · isplitl [HC]; · iexact HC
      isplitl [H6]; · iexact H6
      isplitl [Ht] <;> iassumption
    isplitl [HT]; · iexact HT
    unfold idle rest
    isplitl [HfA H7 H8 H9 H10 H11 H12 H13]
    · isplitl [HfA H7 H8 H10 H11 H12]
      · isplitl [HfA]; · iexact HfA
        isplitl [H7]; · iexact H7
        isplitl [H8]; · iexact H8
        isplitl [H10]; · iexact H10
        isplitl [H11]; · iexact H11
        iexact H12
      isplitl [H9]; · iexact H9
      iexact H13
    · isplitl [HfB H14 H15 H17 H18 H19]
      · isplitl [HfB]; · iexact HfB
        isplitl [H14]; · iexact H14
        isplitl [H15]; · iexact H15
        isplitl [H17]; · iexact H17
        isplitl [H18]; · iexact H18
        iexact H19
      isplitl [H16]; · iexact H16
      iexact H20
  iintro %vu HT
  ihave HT := (trip_end i arg3 arg4 arg5 arg6 arg7 arg8 arg9 arg10 arg11 arg12 arg13 arg14 arg15 arg16 arg17 arg18 arg19 arg20 arg21 _) $$ HT
  unfold common idle rest
  icases HT with ⟨⟨HC, H6, Ht, H21⟩, HD, HA, HB⟩
  icases HA with ⟨⟨HfA, H7, H8, H10, H11, H12⟩, H9, H13⟩
  icases HB with ⟨⟨HfB, H14, H15, H17, H18, H19⟩, H16, H20⟩
  iapply run_pure
  isplitl [Hs]; · iexact Hs
  isplitl [Ht]; · iexact Ht
  isplitl [HfA HfB]
  · iapply (part_unshare (PosShare.mem_left_op_right qf))
    isplitl [HfA] <;> iassumption
  isplitl [HD]; · iexact HD
  isplitr [HC]
  · unfold scratch
    isplitl [H6]; · iexists gi; iexact H6
    isplitl [H7 H8 H9 H10 H11 H12 H13]
    · isplitl [H7]; · iexact H7
      isplitl [H8]; · iexact H8
      isplitl [H9]; · iexact H9
      isplitl [H10]; · iexact H10
      isplitl [H11]; · iexact H11
      isplitl [H12]; · iexact H12
      iexact H13
    isplitl [H14 H15 H16 H17 H18 H19 H20]
    · isplitl [H14]; · iexact H14
      isplitl [H15]; · iexact H15
      isplitl [H16]; · iexact H16
      isplitl [H17]; · iexact H17
      isplitl [H18]; · iexact H18
      isplitl [H19]; · iexact H19
      iexact H20
    isplitl [H21] <;> iassumption
  iexact HC

end Run

end Cert.Proof

end
-- ==== Proof.Values.lean ====
/-
  The looked-up rows as one function of the words and the two tables, and that a tile's chunks of it are what a tile makes.
-/
module

public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Where a unit rectangle places an index, along one axis. -/
theorem unit_at {s : Shape} (off size : Fin s.rank → ℕ) (inb : ∀ a, off a + size a ≤ s.size a) (x : (Rect.unit (s := s) off size inb).shape.Idx) (a : Fin s.rank) :
    ((Rect.unit (s := s) off size inb).emb x a).val = off a + (x a).val := by
  show off a + 1 * (x a).val = _
  rw [Nat.one_mul]

/-- The row of the two tables, one after the other, that a word names: at lane `l`. -/
def pick (gt : S1000x128.Idx → Elt F .f32) (gf : S99000x128.Idx → Elt F .f32) (w : BitVec 32) (l : Fin 128) : Elt F .f32 :=
  if h : w.toNat < 1000 then gt fun a => match a with
    | ⟨0, _⟩ => ⟨w.toNat, h⟩
    | ⟨1, _⟩ => l
  else gf fun a => match a with
    | ⟨0, _⟩ => ⟨(w.toNat - 1000) % 99000, Nat.mod_lt _ (by decide)⟩
    | ⟨1, _⟩ => l

theorem pick_small {gt : S1000x128.Idx → Elt F .f32} {gf : S99000x128.Idx → Elt F .f32} {w : BitVec 32} {l : Fin 128} (z : S1000x128.Idx)
    (h0 : (z 0).val = w.toNat) (h1 : (z 1).val = l.val) : pick gt gf w l = gt z := by
  have hz : (z 0).val < 1000 := (z 0).isLt
  rw [pick, dif_pos (by omega)]
  refine congrArg gt (funext fun a => ?_)
  match a with
  | ⟨0, _⟩ => exact Fin.ext h0.symm
  | ⟨1, _⟩ => exact Fin.ext h1.symm

theorem pick_large {gt : S1000x128.Idx → Elt F .f32} {gf : S99000x128.Idx → Elt F .f32} {w : BitVec 32} {l : Fin 128} (z : S99000x128.Idx)
    (h0 : w.toNat = (z 0).val + 1000) (h1 : (z 1).val = l.val) : pick gt gf w l = gf z := by
  have hz : (z 0).val < 99000 := (z 0).isLt
  rw [pick, dif_neg (by omega)]
  refine congrArg gf (funext fun a => ?_)
  match a with
  | ⟨0, _⟩ => exact Fin.ext (by show (w.toNat - 1000) % 99000 = (z 0).val; omega)
  | ⟨1, _⟩ => exact Fin.ext h1.symm

/-- Word `n` of the words laid out in rows of 128. -/
def wordAt (gw : S6400x128.Idx → BitVec 32) (n : ℕ) : BitVec 32 := gw fun a => match a with
  | ⟨0, _⟩ => ⟨n / 128 % 6400, Nat.mod_lt _ (by decide)⟩
  | ⟨1, _⟩ => ⟨n % 128, Nat.mod_lt _ (by decide)⟩

/-- Row `n` of the output is the row that word `n` names. -/
def looked (gw : S6400x128.Idx → BitVec 32) (gt : S1000x128.Idx → Elt F .f32) (gf : S99000x128.Idx → Elt F .f32) : S819200x128.Idx → Elt F .f32 :=
  fun x => pick gt gf (wordAt gw (x 0).val) (x 1)

/-- The words of a tile: its two hundred rows of 128. -/
abbrev wordRows (i : grid0.Coords) : Rect S6400x128 := Rect.unit (s := S6400x128) (k0_off1 i) S200x128.size (k0_off1_inb i)

theorem grid_lt (i : grid0.Coords) : (i 0).val < 2 ∧ (i 1).val < 16 := ⟨(i 0).isLt, (i 1).isLt⟩

theorem tile_word (gw : S6400x128.Idx → BitVec 32) (i : grid0.Coords) (n : ℕ) (hn : n < 25600) :
    tileWord (fun y => gw ((wordRows i).emb y)) n = wordAt gw (firstRow i + n) := by
  obtain ⟨h0, h1⟩ := grid_lt i
  rw [tileWord, dif_pos hn, wordAt]
  refine congrArg gw (funext fun a => Fin.ext ?_)
  match a with
  | ⟨0, _⟩ =>
    refine (unit_at (s := S6400x128) (k0_off1 i) S200x128.size (k0_off1_inb i) _ ⟨0, _⟩).trans ?_
    have e := congrFun (k0_off1_eq i) 0
    change k0_off1 i 0 = 400 * (i 1).val + 200 * (i 0).val at e
    show k0_off1 i 0 + n / 128 = (firstRow i + n) / 128 % 6400
    unfold firstRow; omega
  | ⟨1, _⟩ =>
    refine (unit_at (s := S6400x128) (k0_off1 i) S200x128.size (k0_off1_inb i) _ ⟨1, _⟩).trans ?_
    have e := congrFun (k0_off1_eq i) 1
    change k0_off1 i 1 = 0 at e
    show k0_off1 i 1 + n % 128 = (firstRow i + n) % 128
    unfold firstRow; omega

theorem agree_looked (gw : S6400x128.Idx → BitVec 32) (gt : S1000x128.Idx → Elt F .f32) (gf : S99000x128.Idx → Elt F .f32) (i : grid0.Coords) :
    Agree i (fun y => gw ((wordRows i).emb y)) gt gf (looked gw gt gf) := by
  intro c hc o ho eo x
  subst eo
  have hx0 : (x 0).val < 256 := (x 0).isLt
  have e0 : ((Rect.unit (s := S819200x128) ![firstRow i + 256 * c, 0] S256x128.size ho).emb x 0).val = firstRow i + 256 * c + (x 0).val :=
    unit_at (s := S819200x128) ![firstRow i + 256 * c, 0] S256x128.size ho x 0
  have e1 : ((Rect.unit (s := S819200x128) ![firstRow i + 256 * c, 0] S256x128.size ho).emb x 1).val = (x 1).val :=
    (unit_at (s := S819200x128) ![firstRow i + 256 * c, 0] S256x128.size ho x 1).trans (Nat.zero_add _)
  have ew : wordAt gw (firstRow i + 256 * c + (x 0).val) = chunk (fun y => gw ((wordRows i).emb y)) c (x 0).val := by
    rw [chunk, tile_word gw i _ (by omega), Nat.add_assoc]
  constructor
  · intro z h0 h1
    show pick gt gf (wordAt gw _) _ = _
    rw [e0, ew]
    exact pick_small z h0 (h1.trans e1.symm)
  · intro z h0 h1
    show pick gt gf (wordAt gw _) _ = _
    rw [e0, ew]
    exact pick_large z h0 (h1.trans e1.symm)

end Cert.Proof

end
-- ==== Proof.Tile.lean ====
/-
  A tile at the launch: its scratch buffers and semaphores taken out of what it owns and put back, and its run from
  plain shares of the arrays.
-/
module

public import proofs.«01_k».proof.Proof.Values

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore.Cfg (Pay tileRest ownBufs ownSems0 ownCells ownRefs mem_ownCells mem_ownRefs)

variable [FloatOps F]

/-! ## Whole buffers -/

omit [FloatOps F] in
theorem setOn_whole {κ : Kind} (b : Ref sig κ) (S : Finset b.ty.shape.Idx) : (Memref.whole b).view.setOn S = S := by
  ext x; exact (Memref.whole b).view.mem_setOn

section Whole
variable {c : Thread nD τ} (b : Ref sig c.2.kind) {S : Finset b.ty.shape.Idx} {q : PosShare TreeShare} (g : b.ty.shape.Idx → Elt F b.ty.elt)

omit [FloatOps F] in
/-- Part of a whole buffer, as the buffer's own elements. -/
theorem part_whole_out : (part c (Memref.whole b) S q g : sProp 𝕄) ⊢ (c.loc b ↦[S]{q} (g : Buf (Elt F) (c.loc b))) := by
  unfold part
  iintro ⟨%f, %hf, H⟩
  have e : ((Memref.whole b).view.loc c ↦[(Memref.whole b).view.setOn S]{q} f : sProp 𝕄) = (c.loc b ↦[S]{q} (g : Buf (Elt F) (c.loc b))) := by
    rw [setOn_whole]; exact pointsTo_congr fun x hx => hf x hx
  iapply (Entails.of_eq e); iexact H

omit [FloatOps F] in
theorem part_whole_in : (c.loc b ↦[S]{q} (g : Buf (Elt F) (c.loc b)) : sProp 𝕄) ⊢ part c (Memref.whole b) S q g := by
  have e : (c.loc b ↦[S]{q} (g : Buf (Elt F) (c.loc b)) : sProp 𝕄) = ((Memref.whole b).view.loc c ↦[(Memref.whole b).view.setOn S]{q} g) := by
    rw [setOn_whole]
  rw [e]
  exact part_intro _ fun x _ => rfl

end Whole

/-! ## The scratch -/

section Scratch
variable (d : Dev nD) (i : grid0.Coords)

/-- A buffer of the tile, whatever it holds. -/
abbrev own (b : Ref sig .scVector) : sProp 𝕄 := iprop(∃ f : Buf (Elt F) ((me d i).loc b), (me d i).loc b ↦{fullShare} f)

/-- The same, read through the whole buffer. -/
abbrev tileBuf (b : Ref sig .scVector) : sProp 𝕄 := iprop(∃ g : b.ty.shape.Idx → Elt F b.ty.elt, holds (me d i) (Memref.whole b) fullShare g)

omit [FloatOps F] in
theorem own_buf (b : Ref sig .scVector) : own (F := F) d i b ⊢ tileBuf (F := F) d i b := by
  iintro ⟨%f, H⟩; iexists f; iapply (part_whole_in (c := me d i) b (S := Finset.univ) f); iexact H

omit [FloatOps F] in
theorem buf_own (b : Ref sig .scVector) : tileBuf (F := F) d i b ⊢ own (F := F) d i b := by
  iintro ⟨%f, H⟩; iexists f; iapply (part_whole_out (c := me d i) b (S := Finset.univ) f); iexact H

/-- The eleven scratch buffers. -/
abbrev bufAt (k : Fin 11) : Ref sig .scVector := ⟨.vmem, k, rfl⟩

theorem bufAt_inj : Function.Injective bufAt := by decide

/-- The six semaphores. -/
abbrev semAt (k : Fin 6) : GSem nD τ sig := (me d i, .dma k)

/-- What else of buffers and semaphores the tile owns. -/
def otherBufs : sProp 𝕄 := bigSep (ownRefs (me d i).2 \ Finset.univ.image fun k => (me d i).2.devRef (bufAt k)) fun b => iprop(∃ f, ((d, b) : Loc nD τ sig) ↦{fullShare} f)
def otherSems : sProp 𝕄 := bigSep (ownCells (me d i) \ Finset.univ.image (semAt d i)) fun g => semVal g 0

omit [FloatOps F] in
theorem bufs_eq : (ownBufs (me d i) : sProp 𝕄) = iprop((bigSep Finset.univ fun k => own (F := F) d i (bufAt k)) ∗ otherBufs d i) := by
  unfold SparseCore.Cfg.ownBufs otherBufs
  rw [SparseCore.bigSep_sdiff_split' (t := Finset.univ.image fun k => (me d i).2.devRef (bufAt k)) fun x hx => by
      obtain ⟨k, -, rfl⟩ := Finset.mem_image.mp hx; exact SparseCore.Cfg.mem_ownRefs_of_owner rfl,
    bigSep_image_of_injOn fun a _ b _ h => bufAt_inj (Proc.devRef_injective _ h)]

omit [FloatOps F] in
theorem sems_eq : (ownSems0 (me d i) : sProp 𝕄) = iprop((bigSep Finset.univ fun k => semVal (semAt d i k) 0) ∗ otherSems d i) := by
  unfold SparseCore.Cfg.ownSems0 otherSems
  rw [SparseCore.bigSep_sdiff_split' (t := Finset.univ.image (semAt d i)) fun x hx => by
      obtain ⟨k, -, rfl⟩ := Finset.mem_image.mp hx
      refine mem_ownCells.mpr ⟨rfl, ?_⟩
      show (SemLoc.dma k : SemLoc sig).isScoped .scVector = true
      clear hx; revert k; decide,
    bigSep_image_of_injOn fun a _ b _ h => SemLoc.dma.inj (Prod.mk.inj h).2]

omit [FloatOps F] in
theorem over11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide]
  iterate 10 rw [SparseCore.bigSep_insert' (by decide)]
  rw [bigSep_singleton]

omit [FloatOps F] in
theorem over6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide]
  iterate 5 rw [SparseCore.bigSep_insert' (by decide)]
  rw [bigSep_singleton]

/-- A tile's scratch, as the kernel is handed it. -/
abbrev scratch0 : sProp 𝕄 :=
  scratch (F := F) d i (Memref.whole cc0_scratch0) (Memref.whole cc0_scratch1) (Memref.whole cc0_scratch2) (Memref.whole cc0_scratch3) (Memref.whole cc0_scratch4) (Memref.whole cc0_scratch5)
    cc0_scratch6 cc0_scratch7 (Memref.whole cc0_scratch8) (Memref.whole cc0_scratch9) (Memref.whole cc0_scratch10) (Memref.whole cc0_scratch11) (Memref.whole cc0_scratch12) cc0_scratch13 cc0_scratch14 cc0_scratch15 cc0_scoped0

omit [FloatOps F] in
/-- The scratch, buffers and semaphores each in one row. -/
theorem scratch0_eq : (scratch0 (F := F) d i : sProp 𝕄) = iprop(tileBuf (F := F) d i (bufAt 0)
    ∗ (tileBuf (F := F) d i (bufAt 1) ∗ tileBuf (F := F) d i (bufAt 2) ∗ tileBuf (F := F) d i (bufAt 3) ∗ tileBuf (F := F) d i (bufAt 4) ∗ tileBuf (F := F) d i (bufAt 5)
      ∗ semVal (semAt d i 0) 0 ∗ semVal (semAt d i 1) 0)
    ∗ (tileBuf (F := F) d i (bufAt 6) ∗ tileBuf (F := F) d i (bufAt 7) ∗ tileBuf (F := F) d i (bufAt 8) ∗ tileBuf (F := F) d i (bufAt 9) ∗ tileBuf (F := F) d i (bufAt 10)
      ∗ semVal (semAt d i 2) 0 ∗ semVal (semAt d i 3) 0)
    ∗ semVal (semAt d i 4) 0 ∗ semVal (semAt d i 5) 0) := rfl

omit [FloatOps F] in
theorem scratch_out : iprop(ownBufs (me d i) ∗ ownSems0 (me d i)) ⊢ (iprop(scratch0 (F := F) d i ∗ otherBufs d i ∗ otherSems d i) : sProp 𝕄) := by
  rw [bufs_eq, sems_eq, over11, over6, scratch0_eq]
  iintro ⟨⟨⟨B0, B1, B2, B3, B4, B5, B6, B7, B8, B9, B10⟩, HB⟩, ⟨S0, S1, S2, S3, S4, S5⟩, HS⟩
  isplitr [HB HS]
  · isplitl [B0]; · iapply own_buf; iexact B0
    isplitl [B1 B2 B3 B4 B5 S0 S1]
    · isplitl [B1]; · iapply own_buf; iexact B1
      isplitl [B2]; · iapply own_buf; iexact B2
      isplitl [B3]; · iapply own_buf; iexact B3
      isplitl [B4]; · iapply own_buf; iexact B4
      isplitl [B5]; · iapply own_buf; iexact B5
      isplitl [S0] <;> iassumption
    isplitl [B6 B7 B8 B9 B10 S2 S3]
    · isplitl [B6]; · iapply own_buf; iexact B6
      isplitl [B7]; · iapply own_buf; iexact B7
      isplitl [B8]; · iapply own_buf; iexact B8
      isplitl [B9]; · iapply own_buf; iexact B9
      isplitl [B10]; · iapply own_buf; iexact B10
      isplitl [S2] <;> iassumption
    isplitl [S4] <;> iassumption
  · isplitl [HB] <;> iassumption

omit [FloatOps F] in
theorem scratch_back : (iprop(scratch0 (F := F) d i ∗ otherBufs d i ∗ otherSems d i) : sProp 𝕄) ⊢ iprop(ownBufs (me d i) ∗ ownSems0 (me d i)) := by
  rw [bufs_eq, sems_eq, over11, over6, scratch0_eq]
  iintro ⟨⟨B0, ⟨B1, B2, B3, B4, B5, S0, S1⟩, ⟨B6, B7, B8, B9, B10, S2, S3⟩, S4, S5⟩, HB, HS⟩
  isplitr [HS S0 S1 S2 S3 S4 S5]
  · isplitr [HB]
    · isplitl [B0]; · iapply buf_own; iexact B0
      isplitl [B1]; · iapply buf_own; iexact B1
      isplitl [B2]; · iapply buf_own; iexact B2
      isplitl [B3]; · iapply buf_own; iexact B3
      isplitl [B4]; · iapply buf_own; iexact B4
      isplitl [B5]; · iapply buf_own; iexact B5
      isplitl [B6]; · iapply buf_own; iexact B6
      isplitl [B7]; · iapply buf_own; iexact B7
      isplitl [B8]; · iapply buf_own; iexact B8
      isplitl [B9]; · iapply buf_own; iexact B9
      iapply buf_own; iexact B10
    · iexact HB
  · isplitr [HS]
    · isplitl [S0]; · iexact S0
      isplitl [S1]; · iexact S1
      isplitl [S2]; · iexact S2
      isplitl [S3]; · iexact S3
      isplitl [S4] <;> iassumption
    · iexact HS

end Scratch

/-! ## The run -/

section Run
variable (d : Dev nD) (i : grid0.Coords)

abbrev vLoc (d : Dev nD) : Loc nD τ sig := (SparseCore.T d).loc main_v0
abbrev tLoc (d : Dev nD) : Loc nD τ sig := (SparseCore.T d).loc main_arg1
abbrev fLoc (d : Dev nD) : Loc nD τ sig := (SparseCore.T d).loc main_arg2
abbrev oLoc (d : Dev nD) : Loc nD τ sig := (SparseCore.T d).loc main_v1

/-- The output rows of a tile. -/
def rowsOf (i : grid0.Coords) : Finset S819200x128.Idx := (Finset.univ : Finset (Fin 100)).biUnion fun c => slab i c.val

theorem slabs_disjoint (c c' : Fin 100) (h : c ≠ c') : Disjoint (slab i c.val) (slab i c'.val) := by
  refine Finset.disjoint_left.mpr fun x hx hx' => h (Fin.ext ?_)
  have a := (Finset.mem_filter.mp hx).2
  have b := (Finset.mem_filter.mp hx').2
  omega

omit [FloatOps F] in
theorem rows_slabs (g : S819200x128.Idx → Elt F .f32) :
    (part (e := .f32) (me d i) (Memref.whole main_v1_scv) (rowsOf i) fullShare g : sProp 𝕄) = bigSep Finset.univ fun c : Fin 100 => outDone d i (Memref.whole main_v1_scv) g c.val :=
  part_bigSep _ ⟨0, Finset.mem_univ _⟩ _ fun c _ c' _ h => slabs_disjoint i c c' h

/-- The kernel as a tile is handed it. -/
abbrev kernel0 (i : grid0.Coords) :=
  cc0_k_fn (F := F) i (Memref.whole main_v0_scv) (Memref.isWhole_whole _) (Memref.whole main_arg1_scv) (Memref.isWhole_whole _) (Memref.whole main_arg2_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)
    cc0_scratch13 cc0_scratch14 cc0_scratch15 cc0_scoped0

variable {q : PosShare TreeShare} {gw : S6400x128.Idx → BitVec 32} {gt : S1000x128.Idx → Elt F .f32} {gf : S99000x128.Idx → Elt F .f32}

/-- What a tile is handed and hands back, its output rows at `g`. -/
def res (d : Dev nD) (i : grid0.Coords) (q : PosShare TreeShare) (gw : S6400x128.Idx → BitVec 32) (gt : S1000x128.Idx → Elt F .f32) (gf : S99000x128.Idx → Elt F .f32) (g : S819200x128.Idx → Elt F .f32) : sProp 𝕄 :=
  iprop((vLoc d ↦{q} (gw : Buf (Elt F) (vLoc d))) ∗ (tLoc d ↦{q} (gt : Buf (Elt F) (tLoc d))) ∗ (fLoc d ↦{q} (gf : Buf (Elt F) (fLoc d)))
    ∗ (oLoc d ↦[rowsOf i]{fullShare} (g : Buf (Elt F) (oLoc d))))

instance res_storable (g : S819200x128.Idx → Elt F .f32) : BI.Storable (upEmb : UEmb _ 𝕄) (res d i q gw gt gf g) := by unfold res; infer_instance

abbrev wordsOf (i : grid0.Coords) (gw : S6400x128.Idx → BitVec 32) : S200x128.Idx → BitVec 32 := fun y => gw ((wordRows i).emb y)

omit [FloatOps F] in
theorem words_out : (vLoc d ↦{q} (gw : Buf (Elt F) (vLoc d)) : sProp 𝕄)
    ⊢ iprop(holds (F := F) (e := .i32) (me d i) ((Memref.whole main_v0_scv).slice (wordRows i) (fun _ => rfl)) q (wordsOf i gw)
        ∗ part (F := F) (e := .i32) (me d i) (Memref.whole main_v0_scv) (Finset.univ \ (wordRows i).set) q gw) := by
  iintro H
  ihave H := (part_whole_in (c := me d i) main_v0_scv (S := Finset.univ) (F := F) gw) $$ H
  ihave H := (Entails.of_eq (part_set (c := me d i) (m := Memref.whole main_v0_scv) (F := F) (q := q) (g := gw) (Finset.union_sdiff_of_subset (Finset.subset_univ (wordRows i).set)).symm)) $$ H
  ihave H := (part_split Finset.disjoint_sdiff) $$ H
  icases H with ⟨H, H'⟩
  isplitl [H]
  · iapply (Entails.of_eq (holds_slice (c := me d i) (m := Memref.whole main_v0_scv) (F := F) (q := q) (g := gw) (wordRows i) (fun _ => rfl)).symm); iexact H
  · iexact H'

omit [FloatOps F] in
theorem words_back : iprop(holds (F := F) (e := .i32) (me d i) ((Memref.whole main_v0_scv).slice (wordRows i) (fun _ => rfl)) q (wordsOf i gw)
        ∗ part (F := F) (e := .i32) (me d i) (Memref.whole main_v0_scv) (Finset.univ \ (wordRows i).set) q gw)
    ⊢ (vLoc d ↦{q} (gw : Buf (Elt F) (vLoc d)) : sProp 𝕄) := by
  iintro ⟨H, H'⟩
  ihave H := (Entails.of_eq (show (holds (F := F) (e := .i32) (me d i) ((Memref.whole main_v0_scv).slice (wordRows i) (fun _ => rfl)) q (wordsOf i gw) : sProp 𝕄) = _ from
    holds_slice (c := me d i) (m := Memref.whole main_v0_scv) (F := F) (q := q) (g := gw) (wordRows i) (fun _ => rfl))) $$ H
  ihave H := (part_join (c := me d i) (m := Memref.whole main_v0_scv) (F := F) (q := q) (g := gw) (Finset.disjoint_sdiff (s := (wordRows i).set) (t := Finset.univ))) $$ [H H']
  · isplitl [H] <;> iassumption
  ihave H := (Entails.of_eq (part_set (c := me d i) (m := Memref.whole main_v0_scv) (F := F) (q := q) (g := gw) (Finset.union_sdiff_of_subset (Finset.subset_univ (wordRows i).set)))) $$ H
  iapply (part_whole_out (c := me d i) main_v0_scv (S := Finset.univ) (F := F) gw); iexact H

omit [FloatOps F] in
theorem one_todo (g : S819200x128.Idx → Elt F .f32) (c : ℕ) : (outDone d i (Memref.whole main_v1_scv) g c : sProp 𝕄) ⊢ outTodo (F := F) d i (Memref.whole main_v1_scv) c := by
  unfold outTodo outDone; iintro H; iexists g; iexact H

omit [FloatOps F] in
theorem slabs_todo (g : S819200x128.Idx → Elt F .f32) : (bigSep Finset.univ fun c : Fin 100 => outDone d i (Memref.whole main_v1_scv) g c.val)
    ⊢ (bigSep Finset.univ fun c : Fin 100 => outTodo (F := F) d i (Memref.whole main_v1_scv) c.val : sProp 𝕄) :=
  bigSep_mono fun c _ => one_todo d i g c.val

/-- What the run leaves aside of the words: the other tiles' rows. -/
abbrev others (d : Dev nD) (i : grid0.Coords) (q : PosShare TreeShare) (gw : S6400x128.Idx → BitVec 32) : sProp 𝕄 :=
  part (F := F) (e := .i32) (me d i) (Memref.whole main_v0_scv) (Finset.univ \ (wordRows i).set) q gw

/-- The same resources as the run's lemmas take them. -/
abbrev resRun (d : Dev nD) (i : grid0.Coords) (q : PosShare TreeShare) (gw : S6400x128.Idx → BitVec 32) (gt : S1000x128.Idx → Elt F .f32) (gf : S99000x128.Idx → Elt F .f32) (Z A B : sProp 𝕄) : sProp 𝕄 :=
  iprop(holds (F := F) (e := .i32) (me d i) ((Memref.whole main_v0_scv).slice (wordRows i) (fun _ => rfl)) q (wordsOf i gw)
    ∗ holds (F := F) (e := .f32) (me d i) (Memref.whole main_arg1_scv) q gt ∗ holds (F := F) (e := .f32) (me d i) (Memref.whole main_arg2_scv) q gf ∗ Z ∗ A ∗ B)

omit [FloatOps F] in
theorem res_in (fo : S819200x128.Idx → Elt F .f32) {A B : sProp 𝕄} :
    iprop(res (F := F) d i q gw gt gf fo ∗ A ∗ B)
      ⊢ iprop(resRun d i q gw gt gf (bigSep Finset.univ fun c : Fin 100 => outTodo (F := F) d i (Memref.whole main_v1_scv) c.val) A B ∗ others d i q gw) := by
  unfold res
  iintro ⟨⟨Hv, Ht, Hf, Ho⟩, HA, HB⟩
  ihave Hv := (words_out (F := F) d i) $$ Hv
  icases Hv with ⟨Hv, Hv'⟩
  isplitr [Hv']
  · isplitl [Hv]; · iexact Hv
    isplitl [Ht]; · iapply (part_whole_in (c := me d i) main_arg1_scv (S := Finset.univ) (F := F) gt); iexact Ht
    isplitl [Hf]; · iapply (part_whole_in (c := me d i) main_arg2_scv (S := Finset.univ) (F := F) gf); iexact Hf
    isplitl [Ho]
    · iapply (slabs_todo d i fo); iapply (Entails.of_eq (rows_slabs d i fo))
      iapply (part_whole_in (c := me d i) main_v1_scv (S := rowsOf i) (F := F) fo); iexact Ho
    isplitl [HA] <;> iassumption
  · iexact Hv'

omit [FloatOps F] in
theorem res_out (fo : S819200x128.Idx → Elt F .f32) {A B : sProp 𝕄} :
    iprop(resRun d i q gw gt gf (bigSep Finset.univ fun c : Fin 100 => outDone d i (Memref.whole main_v1_scv) fo c.val) A B ∗ others d i q gw)
      ⊢ iprop(res (F := F) d i q gw gt gf fo ∗ A ∗ B) := by
  unfold res
  iintro ⟨⟨Hv, Ht, Hf, Ho, HA, HB⟩, Hv'⟩
  isplitr [HA HB]
  · isplitl [Hv Hv']
    · iapply (words_back (F := F) d i); isplitl [Hv] <;> iassumption
    isplitl [Ht]; · iapply (part_whole_out (c := me d i) main_arg1_scv (S := Finset.univ) (F := F) gt); iexact Ht
    isplitl [Hf]; · iapply (part_whole_out (c := me d i) main_arg2_scv (S := Finset.univ) (F := F) gf); iexact Hf
    iapply (part_whole_out (c := me d i) main_v1_scv (S := rowsOf i) (F := F) fo)
    iapply (Entails.of_eq (rows_slabs d i fo).symm); iexact Ho
  · isplitl [HA] <;> iassumption

/-- A tile's run at the launch: from its share of the words and tables to its rows of the output. -/
theorem tile_run {O : CellTallies nD τ sig (HIx 1)} {W₀ : Waits sig (HIx 1)} (fo : S819200x128.Idx → Elt F .f32) (hw : ∀ x, (gw x).toNat < 100000) :
    iprop(res (F := F) d i q gw gt gf fo ∗ scratch0 (F := F) d i ∗ clock (F := F) (me d i) O W₀)
      ⊢ runs (me d i) (kernel0 i) fun _ => iprop(res d i q gw gt gf (looked gw gt gf) ∗ scratch0 (F := F) d i ∗ clock (F := F) (me d i) O W₀) :=
  (res_in d i fo).trans <| (sep_mono_l (tile_runs i (Memref.whole main_v0_scv) (Memref.isWhole_whole _) _ _ _ _ _ _ _ _ _ _ _ _ _ _ _ _ _ _ _ _ _ _ _ _ _ _ _ _ _ _ _ _ _ _
      (fun x => hw _) (agree_looked gw gt gf i))).trans <|
    (wp_frame_r frame _ Set.univ).trans <| wp_mono frame _ _ fun _ => res_out d i _

end Run
end Cert.Proof

end
-- ==== Proof.Cut.lean ====
/-
  The arrays cut among the tiles: the words and tables into shares, the output into rows.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of subcore `s` of core `c`. -/
def tileAt (c : Fin (grid0.bound 0)) (s : Fin (grid0.bound 1)) : grid0.Coords := fun | 0 => c | 1 => s | ⟨_ + 2, h⟩ => absurd h (Nat.not_lt.2 (Nat.le_add_left _ _))

/-- Its share of what every tile reads. -/
def tileShare (c : Fin 2) (s : Fin 16) : PosShare TreeShare := pieceOf (pieceOf fullShare 2 (by decide) c) 16 (by decide) s

theorem cut_shares (ℓ : Loc nD τ sig) (f : Buf (Elt F) ℓ) :
    (ℓ ↦{fullShare} f : sProp 𝕄) = bigSep Finset.univ fun c : Fin 2 => bigSep Finset.univ fun s : Fin 16 => ℓ ↦{tileShare c s} f := by
  rw [pointsTo_piecesOf Finset.univ f (o := 2) (by decide) fullShare]
  exact bigSep_congr fun c _ => pointsTo_piecesOf Finset.univ f (o := 16) (by decide) _

theorem mem_rowsOf {i : grid0.Coords} {x : S819200x128.Idx} : x ∈ rowsOf i ↔ firstRow i ≤ (x 0).val ∧ (x 0).val < firstRow i + 25600 := by
  rw [rowsOf, Finset.mem_biUnion]
  constructor
  · rintro ⟨c, -, hc⟩
    have h := (Finset.mem_filter.mp hc).2
    have := c.isLt
    omega
  · rintro ⟨h1, h2⟩
    refine ⟨⟨((x 0).val - firstRow i) / 256, by omega⟩, Finset.mem_univ _, Finset.mem_filter.mpr ⟨Finset.mem_univ _, ?_⟩⟩
    show firstRow i + 256 * (((x 0).val - firstRow i) / 256) ≤ (x 0).val ∧ (x 0).val < firstRow i + 256 * (((x 0).val - firstRow i) / 256) + 256
    omega

theorem first_at (c : Fin 2) (s : Fin 16) : firstRow (tileAt c s) = 51200 * s.val + 25600 * c.val := rfl

/-- The rows of one core's tiles. -/
def coreRows (c : Fin 2) : Finset S819200x128.Idx := Finset.univ.biUnion fun s : Fin 16 => rowsOf (tileAt c s)

theorem tiles_disjoint {c c' : Fin 2} {s s' : Fin 16} (h : c ≠ c' ∨ s ≠ s') : Disjoint (rowsOf (tileAt c s)) (rowsOf (tileAt c' s')) := by
  refine Finset.disjoint_left.mpr fun x hx hx' => ?_
  have a := mem_rowsOf.mp hx
  have b := mem_rowsOf.mp hx'
  rw [first_at] at a b
  have := c.isLt; have := c'.isLt
  rcases h with h | h
  · exact h (Fin.ext (by omega))
  · exact h (Fin.ext (by omega))

theorem cores_disjoint {c c' : Fin 2} (h : c ≠ c') : Disjoint (coreRows c) (coreRows c') := by
  unfold coreRows
  rw [Finset.disjoint_biUnion_left]
  refine fun s _ => (Finset.disjoint_biUnion_right _ _ _).mpr fun s' _ => tiles_disjoint (Or.inl h)

theorem every_row : (Finset.univ : Finset S819200x128.Idx) = Finset.univ.biUnion coreRows := by
  refine (Finset.eq_univ_iff_forall.mpr fun x => ?_).symm
  have hx : (x 0).val < 819200 := (x 0).isLt
  refine Finset.mem_biUnion.mpr ⟨⟨(x 0).val / 25600 % 2, Nat.mod_lt _ (by decide)⟩, Finset.mem_univ _,
    Finset.mem_biUnion.mpr ⟨⟨(x 0).val / 51200, by omega⟩, Finset.mem_univ _, mem_rowsOf.mpr ?_⟩⟩
  rw [first_at]
  show 51200 * ((x 0).val / 51200) + 25600 * ((x 0).val / 25600 % 2) ≤ _ ∧ _ < 51200 * ((x 0).val / 51200) + 25600 * ((x 0).val / 25600 % 2) + 25600
  omega

theorem cut_rows (d : Dev nD) (f : Buf (Elt F) (oLoc d)) :
    (oLoc d ↦{fullShare} f : sProp 𝕄) = bigSep Finset.univ fun c : Fin 2 => bigSep Finset.univ fun s : Fin 16 => oLoc d ↦[rowsOf (tileAt c s)]{fullShare} f := by
  have e : (oLoc d ↦{fullShare} f : sProp 𝕄) = (oLoc d ↦[(Finset.univ.biUnion coreRows : Finset S819200x128.Idx)]{fullShare} f) := by
    exact congrArg (fun I : Finset S819200x128.Idx => (oLoc d ↦[I]{fullShare} f : sProp 𝕄)) every_row
  rw [e]
  refine (pointsTo_biUnion (ℓ := oLoc d) Finset.univ coreRows fun c _ c' _ h => cores_disjoint h).trans (bigSep_congr fun c _ => ?_)
  exact pointsTo_biUnion (ℓ := oLoc d) Finset.univ (fun s : Fin 16 => rowsOf (tileAt c s)) fun s _ s' _ h => tiles_disjoint (Or.inr h)

/-- The four arrays whole are what the tiles are handed, all of them. -/
theorem cut_all (d : Dev nD) (gw : S6400x128.Idx → BitVec 32) (gt : S1000x128.Idx → Elt F .f32) (gf : S99000x128.Idx → Elt F .f32) (g : S819200x128.Idx → Elt F .f32) :
    (bigSep Finset.univ fun c : Fin 2 => bigSep Finset.univ fun s : Fin 16 => (res d (tileAt c s) (tileShare c s) gw gt gf g : sProp 𝕄))
      = iprop((vLoc d ↦{fullShare} (gw : Buf (Elt F) (vLoc d))) ∗ (tLoc d ↦{fullShare} (gt : Buf (Elt F) (tLoc d))) ∗ (fLoc d ↦{fullShare} (gf : Buf (Elt F) (fLoc d)))
          ∗ (oLoc d ↦{fullShare} (g : Buf (Elt F) (oLoc d)))) := by
  rw [cut_shares (vLoc d), cut_shares (tLoc d), cut_shares (fLoc d), cut_rows d]
  unfold res
  simp only [bigSep_sep']

end Cert.Proof

end
-- ==== Proof.Task.lean ====
/-
  The call as the launch theorem takes it: what each tile is handed and hands back, and each tile's task.
-/
module

public import proofs.«01_k».proof.Proof.Cut

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore.Cfg (Pay tileRest ownBufs ownSems0 ownCells ownRefs mem_ownCells mem_ownRefs)

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

abbrev aLoc (d : Dev nD) : Loc nD τ sig := (SparseCore.T d).loc main_arg0
abbrev yLoc (d : Dev nD) : Loc nD τ sig := (SparseCore.T d).loc main_v2

/-- The words, in rows of 128. -/
def words (d : Dev nD) : S6400x128.Idx → BitVec 32 := shapeCast S6400x128 (m (aLoc d) : S4096x200.Idx → BitVec 32) shapeCasts_S4096x200_S6400x128

/-- The looked-up rows. -/
def rows (d : Dev nD) : S819200x128.Idx → Elt F .f32 := looked (words m d) (m (tLoc d)) (m (fLoc d))

/-- The result: the same in the words' own layout. -/
def result (d : Dev nD) : S4096x200x128.Idx → Elt F .f32 := shapeCast S4096x200x128 (rows m d) shapeCasts_S819200x128_S4096x200x128

/-- Every word names a row. -/
def InVocab : Prop := ∀ (d : Dev nD) (x : S4096x200.Idx), ((m (aLoc d) : S4096x200.Idx → BitVec 32) x).toNat < 100000

theorem words_lt (h : InVocab m) (d : Dev nD) (x : S6400x128.Idx) : (words m d x).toNat < 100000 := h d _

/-- What tile `(c, s)` is handed, and what it hands back. -/
abbrev before (d : Dev nD) (c : Fin 2) (s : Fin 16) : sProp 𝕄 := res d (tileAt c s) (tileShare c s) (words m d) (m (tLoc d)) (m (fLoc d)) (m (oLoc d))
abbrev after (d : Dev nD) (c : Fin 2) (s : Fin 16) : sProp 𝕄 := res d (tileAt c s) (tileShare c s) (words m d) (m (tLoc d)) (m (fLoc d)) (rows m d)

variable [FloatOps F]

def P : (K (F := F)).Pay (nD := nD) (Val := Elt F) (Name := ℕ) (U := UU) where
  st := fun q d => match q with | 0 => fun c => bigSep Finset.univ fun s : Fin 16 => before m d c s
  dn := fun q d => match q with | 0 => fun c => bigSep Finset.univ fun s : Fin 16 => after m d c s
  go := fun q d => match q with | 0 => fun c s => before m d c s
  td := fun q d => match q with | 0 => fun c s => after m d c s
  x := fun _ _ => iprop(emp)

theorem before_storable (d : Dev nD) (c : Fin 2) : BI.Storable (upEmb : UEmb _ 𝕄) (bigSep Finset.univ fun s : Fin 16 => before m d c s) :=
  have : ∀ s : Fin 16, BI.Storable (upEmb : UEmb _ 𝕄) (before m d c s) := fun s => res_storable d (tileAt c s) _
  BI.Storable.bigSep upEmb Finset.univ fun s : Fin 16 => before m d c s

theorem after_storable (d : Dev nD) (c : Fin 2) : BI.Storable (upEmb : UEmb _ 𝕄) (bigSep Finset.univ fun s : Fin 16 => after m d c s) :=
  have : ∀ s : Fin 16, BI.Storable (upEmb : UEmb _ 𝕄) (after m d c s) := fun s => res_storable d (tileAt c s) _
  BI.Storable.bigSep upEmb Finset.univ fun s : Fin 16 => after m d c s

instance P_storable : (P (F := F) m).IsStorable where
  st q d c := match q with | 0 => before_storable m d c
  dn q d c := match q with | 0 => after_storable m d c
  go q d c i := match q with | 0 => (res_storable d (tileAt c i) _)
  td q d c i := match q with | 0 => (res_storable d (tileAt c i) _)

/-! ## One tile -/

/-- A tile's task, from what the launch deals it. -/
theorem tile_body (h : InVocab m) (d : Dev nD) (c : Fin 2) (s : Fin 16) (O : CellTallies nD τ sig (HIx 1)) (W : Waits sig (HIx 1)) (hO : ∀ g, O g none = 0) :
    iprop(levAts (K (F := F)).L (K (F := F)).lev ∗ emp ∗ before m d c s
        ∗ scopedBufs (me d (tileAt c s)) ∗ scopedSems0 (me d (tileAt c s)) ∗ owes (me d (tileAt c s)) O W)
      ⊢ wp frame (wpE (defs₀ (F := F)) 𝒱₀ (me d (tileAt c s)) none) Set.univ (kernel0 (tileAt c s))
          fun _ => iprop(after m d c s ∗ scopedBufs (me d (tileAt c s)) ∗ scopedSems0 (me d (tileAt c s))
            ∗ ∃ W', ⌜∀ p ∈ W', p ∈ W ∨ p.2 = none⌝ ∗ owes (me d (tileAt c s)) O W') := by
  have hb : (scopedBufs (me d (tileAt c s)) : sProp 𝕄) = ownBufs (me d (tileAt c s)) := (K (F := F)).scopedBufs_V facts d _ _
  have hs : (scopedSems0 (me d (tileAt c s)) : sProp 𝕄) = ownSems0 (me d (tileAt c s)) := SparseCore.Cfg.scopedSems0_V (Val := Elt F) d _ _
  rw [hb, hs]
  refine BIBase.Entails.trans (Q := iprop((res (F := F) d (tileAt c s) (tileShare c s) (words m d) (m (tLoc d)) (m (fLoc d)) (m (oLoc d))
      ∗ scratch0 (F := F) d (tileAt c s) ∗ clock (F := F) (me d (tileAt c s)) O W) ∗ otherBufs d (tileAt c s) ∗ otherSems d (tileAt c s))) ?_ ?_
  · iintro ⟨#Hlv, -, HR, HB, HS, HO⟩
    ihave Hmw := (show levAts (K (F := F)).L (K (F := F)).lev ⊢ Transfers.MayWaits (me d (tileAt c s)) (default : HIx 1) O from
      (K (F := F)).mayWaits_none (thr := me d (tileAt c s)) hO) $$ Hlv
    ihave HS := (scratch_out (F := F) d (tileAt c s)) $$ [HB HS]
    · isplitl [HB] <;> iassumption
    icases HS with ⟨HS, HB, HT⟩
    isplitr [HB HT]
    · isplitl [HR]; · iexact HR
      isplitl [HS]; · iexact HS
      iapply (clock_intro (F := F) (me d (tileAt c s)) O W)
      isplitl [Hmw] <;> iassumption
    · isplitl [HB] <;> iassumption
  · refine (sep_mono_l (tile_run d (tileAt c s) (m (oLoc d)) (words_lt m h d))).trans ((wp_frame_r frame _ Set.univ).trans (wp_mono frame _ _ fun _ => ?_))
    unfold clock
    iintro ⟨⟨HR, HS, -, HO⟩, HB, HT⟩
    ihave HS := (scratch_back (F := F) d (tileAt c s)) $$ [HS HB HT]
    · isplitl [HS]; · iexact HS
      isplitl [HB] <;> iassumption
    icases HS with ⟨HB, HS⟩
    isplitl [HR]; · iexact HR
    isplitl [HB]; · iexact HB
    isplitl [HS] <;> iassumption

theorem defs₀_vector (c : Fin τ.nSC) (s : Fin τ.nSub) :
    defs₀ (F := F) (.scVector c s) 0 () = SparseCore.onTile hcore0 hsub0 (fun c s => kernel0 (F := F) (tileAt c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (h : InVocab m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m h d ⟨_, hci.1⟩ ⟨_, hci.2⟩ O W hO).trans (wp_mono frame _ _ fun _ => obl_post)

theorem vecSplit : (K (F := F)).VecSplit' (P m) 0 := by
  intro d c
  show (bigSep Finset.univ fun s : Fin 16 => before m d c s) ⊢ |={Set.univ}=> iprop(
      (bigSep Finset.univ fun s : Fin 16 => before m d c s)
      ∗ ((bigSep Finset.univ fun s : Fin 16 => after m d c s) -∗ bigSep Finset.univ fun s : Fin 16 => after m d c s))
  iintro H; imodintro
  isplitl [H]; · iexact H
  iintro H; iexact H

/-! ## The launch's ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

end Cert.Proof

end
-- ==== Proof.Launch.lean ====
/-
  The whole program: the words laid out in rows, the call, and the output reshaped; what it leaves in every array.
-/
module

public import proofs.«01_k».proof.Proof.Task

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.RA.PCS
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)
open Idealize.ShloMosaic.SparseCore.Cfg (Pay)

variable (m : (ℓ : Loc nD τ sig) → Buf (Elt F) ℓ) (ρ : Dev nD → PrngReg)
variable [FloatOps F]

/-! ## The host program -/

abbrev a' : DevRef τ sig := Proc.devRef .tc (main_arg0 : Ref sig .tc)
abbrev t' : DevRef τ sig := Proc.devRef .tc (main_arg1 : Ref sig .tc)
abbrev f' : DevRef τ sig := Proc.devRef .tc (main_arg2 : Ref sig .tc)
abbrev v' : DevRef τ sig := Proc.devRef .tc (main_v0 : Ref sig .tc)
abbrev o' : DevRef τ sig := Proc.devRef .tc (main_v1 : Ref sig .tc)
abbrev y' : DevRef τ sig := Proc.devRef .tc (main_v2 : Ref sig .tc)

abbrev opIn : HloOp τ sig (Elt F) := StableHlo.reshape main_arg0 main_v0 (rfl : (.i32 : EltTy) = .i32) shapeCasts_S4096x200_S6400x128
abbrev opOut : HloOp τ sig (Elt F) := StableHlo.reshape main_v1 main_v2 (rfl : (.f32 : EltTy) = .f32) shapeCasts_S819200x128_S4096x200x128

/-- The arrays of the host program. -/
abbrev S6 : Finset (DevRef τ sig) := {a', t', f', v', o', y'}

theorem held_S6 (d : Dev nD) (W : Valuation τ sig (Elt F)) :
    (held (T d) S6 W : sProp 𝕄) = iprop((aLoc d ↦{fullShare} W a') ∗ (tLoc d ↦{fullShare} W t') ∗ (fLoc d ↦{fullShare} W f')
      ∗ (vLoc d ↦{fullShare} W v') ∗ (oLoc d ↦{fullShare} W o') ∗ (yLoc d ↦{fullShare} W y')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscoped_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (fLoc d ↦{fullShare} W main_arg2)
      ∗ (vLoc d ↦{fullShare} W main_v0) ∗ (oLoc d ↦{fullShare} W main_v1) ∗ (yLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch; and after the call. -/
def V0 (d : Dev nD) : Valuation τ sig (Elt F) := fun b => m (d, b)
def V1 (d : Dev nD) : Valuation τ sig (Elt F) := Function.update ((opIn (F := F)).result (V0 m d)) o' (rows m d)

theorem unscoped_held (d : Dev nD) : (unscopedBufs d (fun b => m ((SparseCore.T d).loc b)) : sProp 𝕄) = held (T d) S6 (V0 m d) := by
  rw [unscoped_eq, held_S6]; rfl

theorem in_v (d : Dev nD) : (opIn (F := F)).result (V0 m d) v' = words m d :=
  (StableHlo.reshape_result main_arg0 main_v0 _ _ _ _ (V0 m d)).trans rfl
theorem in_ne (d : Dev nD) (b : DevRef τ sig) (h : b ≠ v') : (opIn (F := F)).result (V0 m d) b = m (d, b) :=
  (opIn (F := F)).result_of_not_mem (V0 m d) fun hb => h (Finset.mem_singleton.mp hb)

theorem V1_o (d : Dev nD) : V1 m d o' = rows m d := Function.update_self _ _ _
theorem V1_v (d : Dev nD) : V1 m d v' = words m d := (Function.update_of_ne (show v' ≠ o' by decide) _ _).trans (in_v m d)
theorem V1_ne (d : Dev nD) (b : DevRef τ sig) (h : b ≠ v') (ho : b ≠ o') : V1 m d b = m (d, b) := (Function.update_of_ne ho _ _).trans (in_ne m d b h)

theorem out_y (d : Dev nD) : (opOut (F := F)).result (V1 m d) y' = result m d := by
  refine (StableHlo.reshape_result main_v1 main_v2 _ _ _ _ (V1 m d)).trans ?_
  rw [V1_o]; rfl
theorem out_ne (d : Dev nD) (b : DevRef τ sig) (h : b ≠ v') (ho : b ≠ o') (hy : b ≠ y') : (opOut (F := F)).result (V1 m d) b = m (d, b) :=
  ((opOut (F := F)).result_of_not_mem (V1 m d) fun hb => hy (Finset.mem_singleton.mp hb)).trans (V1_ne m d b h ho)

/-- The arrays after the first reshape, after the call, and at the end. -/
theorem held_in (d : Dev nD) : (held (T d) S6 ((opIn (F := F)).result (V0 m d)) : sProp 𝕄)
    = iprop((aLoc d ↦{fullShare} m (aLoc d)) ∗ (tLoc d ↦{fullShare} m (tLoc d)) ∗ (fLoc d ↦{fullShare} m (fLoc d))
      ∗ (vLoc d ↦{fullShare} words m d) ∗ (oLoc d ↦{fullShare} m (oLoc d)) ∗ (yLoc d ↦{fullShare} m (yLoc d))) := by
  rw [held_S6, in_v, in_ne m d a' (by decide), in_ne m d t' (by decide), in_ne m d f' (by decide), in_ne m d o' (by decide), in_ne m d y' (by decide)]
theorem held_called (d : Dev nD) : (held (T d) S6 (V1 m d) : sProp 𝕄)
    = iprop((aLoc d ↦{fullShare} m (aLoc d)) ∗ (tLoc d ↦{fullShare} m (tLoc d)) ∗ (fLoc d ↦{fullShare} m (fLoc d))
      ∗ (vLoc d ↦{fullShare} words m d) ∗ (oLoc d ↦{fullShare} rows m d) ∗ (yLoc d ↦{fullShare} m (yLoc d))) := by
  rw [held_S6, V1_v, V1_o, V1_ne m d a' (by decide) (by decide), V1_ne m d t' (by decide) (by decide), V1_ne m d f' (by decide) (by decide), V1_ne m d y' (by decide) (by decide)]
theorem held_out (d : Dev nD) : (held (T d) S6 ((opOut (F := F)).result (V1 m d)) : sProp 𝕄)
    = iprop((aLoc d ↦{fullShare} m (aLoc d)) ∗ (tLoc d ↦{fullShare} m (tLoc d)) ∗ (fLoc d ↦{fullShare} m (fLoc d))
      ∗ (vLoc d ↦{fullShare} (opOut (F := F)).result (V1 m d) v') ∗ (oLoc d ↦{fullShare} (opOut (F := F)).result (V1 m d) o') ∗ (yLoc d ↦{fullShare} result m d)) := by
  rw [held_S6, out_y, out_ne m d a' (by decide) (by decide) (by decide), out_ne m d t' (by decide) (by decide) (by decide), out_ne m d f' (by decide) (by decide) (by decide)]

theorem st0_eq (d : Dev nD) : (bigSep Finset.univ fun c : Fin ((K (F := F)).nCore 0) => (P m).st 0 d c)
    = iprop((vLoc d ↦{fullShare} words m d) ∗ (tLoc d ↦{fullShare} m (tLoc d)) ∗ (fLoc d ↦{fullShare} m (fLoc d)) ∗ (oLoc d ↦{fullShare} m (oLoc d))) :=
  cut_all d (words m d) (m (tLoc d)) (m (fLoc d)) (m (oLoc d))
theorem dn0_eq (d : Dev nD) : (bigSep Finset.univ fun c : Fin ((K (F := F)).nCore 0) => (P m).dn 0 d c)
    = iprop((vLoc d ↦{fullShare} words m d) ∗ (tLoc d ↦{fullShare} m (tLoc d)) ∗ (fLoc d ↦{fullShare} m (fLoc d)) ∗ (oLoc d ↦{fullShare} rows m d)) :=
  cut_all d (words m d) (m (tLoc d)) (m (fLoc d)) (rows m d)

/-- What the program leaves: the arguments as they were, and the result. -/
abbrev FIN (d : Dev nD) : sProp 𝕄 :=
  iprop((aLoc d ↦{fullShare} m (aLoc d)) ∗ (tLoc d ↦{fullShare} m (tLoc d)) ∗ (fLoc d ↦{fullShare} m (fLoc d)) ∗ (yLoc d ↦{fullShare} result m d))

theorem hIn : (opIn (F := F)).bufs ⊆ S6 := show ({a', v'} : Finset (DevRef τ sig)) ⊆ S6 by decide
theorem hOut : (opOut (F := F)).bufs ⊆ S6 := show ({o', y'} : Finset (DevRef τ sig)) ⊆ S6 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S6) hIn (V := V0 m d)) $$ [Hb Hheld]
  · isplitl [Hb] <;> iassumption
  iintro ⟨Hb, Hheld⟩
  ihave Hh := (Entails.of_eq (held_in (F := F) m d)) $$ Hheld
  icases Hh with ⟨Ha, Ht, Hf, Hv, Ho, Hy⟩
  rw [wp_ret]; imodintro
  iapply ((K (F := F)).wp_run (D (F := F)) 𝒱 (EH := EH) (P := P m) κ d 0) $$ [Hst Ha Ht Hf Hv Ho Hy Hb Hts]
  isplitr; · iexact Hctx
  isplitl [Hst]; · iexact Hst
  isplitl [Ht Hf Hv Ho]
  · iapply (Entails.of_eq (st0_eq (F := F) m d).symm)
    isplitl [Hv]; · iexact Hv
    isplitl [Ht]; · iexact Ht
    isplitl [Hf] <;> iassumption
  iintro ⟨Hst, Hdn⟩
  ihave Hdn := (Entails.of_eq (dn0_eq (F := F) m d)) $$ Hdn
  icases Hdn with ⟨Hv, Ht, Hf, Ho⟩
  iapply (wp_hlo_within 𝒱 (SparseCore.T d) none Set.univ (op := opOut) (S := S6) hOut (V := V1 m d)) $$ [Hb Ha Ht Hf Hv Ho Hy]
  · isplitl [Hb]; · iexact Hb
    iapply (Entails.of_eq (held_called (F := F) m d).symm)
    isplitl [Ha]; · iexact Ha
    isplitl [Ht]; · iexact Ht
    isplitl [Hf]; · iexact Hf
    isplitl [Hv]; · iexact Hv
    isplitl [Ho] <;> iassumption
  iintro ⟨Hb, Hheld⟩
  ihave Hh := (Entails.of_eq (held_out (F := F) m d)) $$ Hheld
  icases Hh with ⟨Ha, Ht, Hf, -, -, Hy⟩
  rw [wp_ret]; imodintro; imodintro
  isplitl [Hst]; · iexact Hst
  isplitr [Hb Hts]
  · isplitl [Ha]; · iexact Ha
    isplitl [Ht]; · iexact Ht
    isplitl [Hf] <;> iassumption
  isplitl [Hb] <;> iassumption

/-! ## The run -/

/-- The memory at the end, on device `d`. -/
def fq (d : Dev nD) (s' : Phys nD τ sig (Elt F)) : Prop :=
  s'.mem.mem (aLoc d) = m (aLoc d) ∧ s'.mem.mem (tLoc d) = m (tLoc d) ∧ s'.mem.mem (fLoc d) = m (fLoc d) ∧ s'.mem.mem (yLoc d) = result m d

theorem hfin (d : Dev nD) (s' : Phys nD τ sig (Elt F)) : iprop(FIN m d ∗ SI s') ⊢ (⌜fq m d s'⌝ : sProp 𝕄) := by
  iintro ⟨⟨Ha, Ht, Hf, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%h3, HSI, -⟩
  ihave H := (SI_pointsTo_agree (st := s') (ℓ := yLoc d) (I := Finset.univ) (q := fullShare) (f := result m d)) $$ [HSI Hy]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

def QC : PUnit × MemSt nD τ sig (Elt F) → Prop := fun r =>
  (∀ c : Dev nD, r.2.mem (aLoc c) = m (aLoc c) ∧ r.2.mem (tLoc c) = m (tLoc c) ∧ r.2.mem (fLoc c) = m (fLoc c) ∧ r.2.mem (yLoc c) = result m c) ∧ r.2.sem = fun _ => 0

/-- The program runs, leaves its arguments, and its result is the looked-up rows. -/
theorem run_main [∀ e, Nonempty (Elt F e)] (h : InVocab m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Table.lean ====
/-
  What the reference computes, read at an index: both tables laid one after the other, and of them the row each word names.
-/
module

public import proofs.«01_k».proof.Proof.Gen.ReferenceIdeal
public import proofs.«01_k».proof.Proof.Gen.Pre_in_vocab
public import proofs.«01_k».proof.Proof.Task
public import Idealize.ShloMosaic.Lib.ReduceAll
public import Idealize.ShloMosaic.Lib.WordCmp
public import Idealize.ShloMosaic.Lib.Pipeline.Value

@[expose] public section

noncomputable section

namespace Cert.Proof

open Cert.ReferenceIdeal Cert.ReferenceIdeal.Gen
open Idealize.ShloMosaic Idealize.ShloMosaic.WordCmp Idealize.SL.Sem

variable {F : FTy → Type}

/-! ## The words -/

/-- A word that is at least 0 and below 100000, read signed, is below 100000 read unsigned. -/
theorem word_small {w : BitVec 32} (h : IntOp.andi (IntOp.cmpi .sge w 0#32) (IntOp.cmpi .slt w 100000#32) = 1#1) : w.toNat < 100000 := by
  have h1 := (IntOp.andi_eq_one.1 h).1
  have h2 := (IntOp.andi_eq_one.1 h).2
  rw [cmpi_sge_zero] at h1
  have h3 : w.toNat < 2 ^ (32 - 1) := by
    by_contra hc
    rw [decide_eq_false hc] at h1
    exact absurd h1 (by decide)
  rw [cmpi_slt_of_lt h3 (by decide)] at h2
  by_contra hc
  have e : (100000#32 : BitVec 32).toNat = 100000 := rfl
  rw [e, decide_eq_false hc] at h2
  exact absurd h2 (by decide)

/-- What the precondition says of the words. -/
theorem in_vocab_small [FloatOps F] (a : S4096x200.Idx → BitVec 32) (gt : S1000x128.Idx → Elt F .f32) (gf : S99000x128.Idx → Elt F .f32)
    (h : Cert.Pre_in_vocab.fn (F := F) a gt gf = fun _ => 1#1) (x : S4096x200.Idx) : (a x).toNat < 100000 := by
  haveI : Subsingleton Cert.Pre_in_vocab.S_.Idx := ⟨fun p q => funext fun b => b.elim0⟩
  exact word_small (Host.reduce_andi_all _ _ _ _ (fun b => b.elim0) (congrFun h _) x)

/-! ## The reference's terms -/

/-- The words as row numbers: one below zero counts from the end. -/
def wrapped (a : IVec S4096x200 32) : IVec S4096x200 32 :=
  select (cmpi .slt a (broadcastInDim S4096x200 ![] bcast_S_S4096x200 (constantI S_ 32 0#32))) (addi a (broadcastInDim S4096x200 ![] bcast_S_S4096x200 (constantI S_ 32 100000#32))) a

/-- The row numbers with a last axis of one. -/
def starts (a : IVec S4096x200 32) : IVec S4096x200x1 32 := broadcastInDim S4096x200x1 ![0, 1] bcast_S4096x200_S4096x200x1_0_1 (wrapped a)

/-- Whether each row number is one of the tables'. -/
def inside (a : IVec S4096x200 32) : IVec S4096x200 1 :=
  Host.reduce IntOp.andi (andi (cmpi .sge (starts a) (broadcastInDim S4096x200x1 ![] bcast_S_S4096x200x1 (constantI S_ 32 0#32)))
    (cmpi .sle (starts a) (broadcastInDim S4096x200x1 ![0, 1, 2] bcast_S1x1x1_S4096x200x1_0_1_2 (broadcastInDim S1x1x1 ![2] bcast_S1_S1x1x1_2 (constantI S1 32 99999#32)))))
    (constantI S_ 1 1#1) reducesTo_S4096x200x1_S4096x200_d2 h_S_

/-- The two tables, one after the other. -/
def joined (gt : S1000x128.Idx → Elt F .f32) (gf : S99000x128.Idx → Elt F .f32) : S100000x128.Idx → Elt F .f32 :=
  concatenate S100000x128 0 [⟨S1000x128, gt⟩, ⟨S99000x128, gf⟩] concatenates_S1000x128_S99000x128_S100000x128_d0

/-- The reference's result. -/
def taken [FloatOps F] (a : IVec S4096x200 32) (gt : S1000x128.Idx → Elt F .f32) (gf : S99000x128.Idx → Elt F .f32) : S4096x200x128.Idx → Elt F .f32 :=
  select (broadcastInDim S4096x200x128 ![0, 1] bcast_S4096x200_S4096x200x128_0_1 (inside a))
    (Host.gather gather_S100000x128_S4096x200x1_S4096x200x128_2_0_n_n_0_2_1128 (joined gt gf) (starts a))
    (broadcastInDim S4096x200x128 ![] bcast_S_S4096x200x128 (constant S_ .f32 0x7FC00000#32))

/-! ## Read at an index -/

/-- The first two coordinates of an index. -/
def front {n : ℕ} (y : (⟨3, ![4096, 200, n]⟩ : Shape).Idx) : S4096x200.Idx := fun b => match b with
  | ⟨0, _⟩ => ⟨(y 0).val, (y 0).isLt⟩
  | ⟨1, _⟩ => ⟨(y 1).val, (y 1).isLt⟩

theorem wrapped_eq {a : IVec S4096x200 32} (ha : ∀ x, (a x).toNat < 100000) : wrapped a = a := by
  funext x
  have h : IntOp.cmpi .slt (a x) 0#32 = 0#1 := by
    rw [cmpi_slt_zero, decide_eq_false (by have := ha x; omega)]
    rfl
  show Scalar.select (IntOp.cmpi .slt (a x) 0#32) _ (a x) = a x
  rw [h]
  rfl

theorem starts_at {a : IVec S4096x200 32} (ha : ∀ x, (a x).toNat < 100000) (y : S4096x200x1.Idx) : starts a y = a (front y) := by
  rw [starts, wrapped_eq ha]
  refine broadcastInDim_apply _ _ _ y _ fun b => ?_
  match b with
  | ⟨0, _⟩ => rfl
  | ⟨1, _⟩ => rfl

theorem inside_at {a : IVec S4096x200 32} (ha : ∀ x, (a x).toNat < 100000) (x : S4096x200.Idx) : inside a x = 1#1 := by
  refine Host.reduce_andi_one _ _ _ _ x rfl fun y => ?_
  have hy := ha (front y)
  show IntOp.andi (IntOp.cmpi .sge (starts a y) 0#32) (IntOp.cmpi .sle (starts a y) 99999#32) = 1#1
  have e : (99999#32 : BitVec 32).toNat = 99999 := rfl
  rw [starts_at ha, cmpi_sge_zero, cmpi_sle_of_lt (by omega) (by decide), e, decide_eq_true (by omega), decide_eq_true (by omega)]
  rfl

/-- A row of the two tables, one after the other, is the row the word names. -/
theorem joined_at (gt : S1000x128.Idx → Elt F .f32) (gf : S99000x128.Idx → Elt F .f32) (w : BitVec 32) (l : Fin 128) (z : S100000x128.Idx)
    (h0 : (z 0).val = w.toNat) (h1 : (z 1).val = l.val) : joined gt gf z = pick gt gf w l := by
  have hz : (z 0).val < 100000 := (z 0).isLt
  rw [pick, joined]
  split
  · rename_i h
    refine concatenate_pair_apply_left (s₁ := S1000x128) (s₂ := S99000x128) _ _ _ _ z rfl _ fun b => ?_
    match b with
    | ⟨0, _⟩ => exact h0.symm
    | ⟨1, _⟩ => exact h1.symm
  · rename_i h
    refine concatenate_pair_apply_right (s₁ := S1000x128) (s₂ := S99000x128) _ _ _ _ z rfl rfl _ (fun b hb => ?_) ?_
    · match b with
      | ⟨0, _⟩ => exact absurd rfl hb
      | ⟨1, _⟩ => exact h1.symm
    · show (w.toNat - 1000) % 99000 + 1000 = (z 0).val
      omega

/-- The rows taken: row and column of the joined tables at each index of the result. -/
theorem gathered_at (x : S100000x128.Idx → Elt F .f32) {a : IVec S4096x200 32} (ha : ∀ x, (a x).toNat < 100000) (y : S4096x200x128.Idx) :
    ∃ z : S100000x128.Idx, (z 0).val = (a (front y)).toNat ∧ (z 1).val = (y 2).val
      ∧ Host.gather gather_S100000x128_S4096x200x1_S4096x200x128_2_0_n_n_0_2_1128 x (starts a) y = x z := by
  refine ⟨_, ?_, ?_, rfl⟩
  · show GatherDims.start _ y (starts a) 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).1 h).1 (List.mem_singleton.2 rfl))]
    rw [GatherDims.start, dif_pos (show (0 : Fin 2) ∈ gather_S100000x128_S4096x200x1_S4096x200x128_2_0_n_n_0_2_1128.startIndexMap from List.mem_singleton.2 rfl), starts_at ha]
    have e : front (GatherDims.siIdx gather_S100000x128_S4096x200x1_S4096x200x128_2_0_n_n_0_2_1128 y ⟨0, by decide⟩) = front y := by
      funext b
      match b with
      | ⟨0, _⟩ => rfl
      | ⟨1, _⟩ => rfl
    have hy := ha (front y)
    show min (a (front (GatherDims.siIdx gather_S100000x128_S4096x200x1_S4096x200x128_2_0_n_n_0_2_1128 y ⟨0, by decide⟩))).toInt.toNat (100000 - 1) + 0 + 0 = _
    rw [e, toInt_eq_toNat_of_lt_half (by omega)]
    show min (a (front y)).toNat 99999 + 0 + 0 = _
    omega
  · show GatherDims.start _ y (starts a) 1 + GatherDims.batchCoord _ y 1 + GatherDims.offCoord _ y 1 = _
    rw [GatherDims.batchCoord_eq_zero _ _ _ List.not_mem_nil, GatherDims.start, dif_neg (by decide), Nat.zero_add]
    rfl

/-- The reference's result at an index: the row its word names. -/
theorem taken_at [FloatOps F] {a : IVec S4096x200 32} (gt : S1000x128.Idx → Elt F .f32) (gf : S99000x128.Idx → Elt F .f32) (ha : ∀ x, (a x).toNat < 100000)
    (y : S4096x200x128.Idx) : taken a gt gf y = pick gt gf (a (front y)) ⟨(y 2).val, (y 2).isLt⟩ := by
  have h : broadcastInDim S4096x200x128 ![0, 1] bcast_S4096x200_S4096x200x128_0_1 (inside a) y = 1#1 := by
    rw [broadcastInDim]
    exact inside_at ha _
  obtain ⟨z, h0, h1, e⟩ := gathered_at (joined gt gf) ha y
  unfold taken select
  rw [h, e]
  exact (if_pos rfl).trans (joined_at gt gf _ _ z h0 h1)

/-! ## The kernel's result at an index -/

/-- The words in rows of 128, read in order, are the words as they were. -/
theorem wordAt_cast (a : S4096x200.Idx → BitVec 32) (y : S4096x200x128.Idx) :
    wordAt (shapeCast Cert.KernelIdeal.S6400x128 a Cert.KernelIdeal.Gen.shapeCasts_S4096x200_S6400x128) ((y 0).val * 200 + (y 1).val) = a (front y) := by
  have h0 : (y 0).val < 4096 := (y 0).isLt
  have h1 : (y 1).val < 200 := (y 1).isLt
  rw [wordAt]
  refine shapeCast_apply _ _ _ _ ?_
  rw [Shape.rowMajor_val_two, Shape.rowMajor_val_two]
  show (y 0).val * 200 + (y 1).val = ((y 0).val * 200 + (y 1).val) / 128 % 6400 * 128 + ((y 0).val * 200 + (y 1).val) % 128
  omega

/-- The reference's result is the kernel's. -/
theorem taken_eq [FloatOps F] {a : S4096x200.Idx → BitVec 32} (gt : S1000x128.Idx → Elt F .f32) (gf : S99000x128.Idx → Elt F .f32) (ha : ∀ x, (a x).toNat < 100000) :
    taken a gt gf = shapeCast S4096x200x128 (looked (shapeCast Cert.KernelIdeal.S6400x128 a Cert.KernelIdeal.Gen.shapeCasts_S4096x200_S6400x128) gt gf)
      Cert.KernelIdeal.Gen.shapeCasts_S819200x128_S4096x200x128 := by
  funext y
  have h0 : (y 0).val < 4096 := (y 0).isLt
  have h1 : (y 1).val < 200 := (y 1).isLt
  refine (taken_at gt gf ha y).trans (.symm ?_)
  refine (shapeCast_apply _ _ y (fun b => match b with
    | ⟨0, _⟩ => ⟨(y 0).val * 200 + (y 1).val, by show _ < 819200; omega⟩
    | ⟨1, _⟩ => ⟨(y 2).val, (y 2).isLt⟩ : Cert.KernelIdeal.S819200x128.Idx) ?_).trans ?_
  · rw [Shape.rowMajor_val_two, Shape.rowMajor_val_three]
    rfl
  · exact congrArg (fun w => pick gt gf w _) (wordAt_cast a y)

end Cert.Proof

end
-- ==== Proof.lean ====
/- The proof of the certificate's claims. The kernel's run is stated once, over any float values, and read at both; the
   reference's run is the generated one, its term equal to the rows the kernel leaves. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_in_vocab
public import proofs.«01_k».proof.Proof.Launch
public import proofs.«01_k».proof.Proof.Table

@[expose] public section

noncomputable section

namespace Cert.Proof

open Idealize.ShloMosaic Idealize.SL.Sem

/-- The precondition, as the run takes it. -/
theorem words_in {F : FTy → Type} [FloatOps F] (m : (ℓ : Loc Cert.KernelIdeal.nD Cert.KernelIdeal.τ Cert.KernelIdeal.sig) → Buf (Elt F) ℓ)
    (h : ∀ c, Cert.Pre_in_vocab.fn (F := F) (m (aLoc c)) (m (tLoc c)) (m (fLoc c)) = fun _ => 1#1) : InVocab m :=
  fun d => in_vocab_small _ _ _ (h d)

theorem frame_kernel : Cert.quiescent_Kernel := fun m ρ h =>
  (θ_run Cert.KernelIdeal.defs _ _).mono (fun _ hr => ⟨fun c => ⟨(hr.1 c).1, (hr.1 c).2.1, (hr.1 c).2.2.1⟩, hr.2⟩) (run_main (F := Bits) m ρ (words_in m h))

theorem frame_kernel_ideal : Cert.quiescent_KernelIdeal := fun m ρ h =>
  (θ_run Cert.KernelIdeal.defs _ _).mono (fun _ hr => ⟨fun c => ⟨(hr.1 c).1, (hr.1 c).2.1, (hr.1 c).2.2.1⟩, hr.2⟩) (run_main (F := Ideal) m ρ (words_in m h))

theorem frame_reference_ideal : Cert.quiescent_ReferenceIdeal := fun m ρ _ =>
  (θ_run Cert.ReferenceIdeal.defs _ _).mono (fun r hr => ⟨fun c => (hr c).2, Idealize.ShloMosaic.sem_eq_zero_of_no_sems (by decide) r.2⟩)
    (Cert.ReferenceIdeal.Value.run (F := Ideal) m ρ)

theorem frame_reference : Cert.quiescent_Reference := fun m ρ _ =>
  (θ_run Cert.Reference.defs _ _).mono (fun r hr => ⟨fun c => (hr c).2, Idealize.ShloMosaic.sem_eq_zero_of_no_sems (by decide) r.2⟩)
    (Cert.Reference.Value.run (F := Bits) m ρ)

/-- The reference's term of the arguments is the rows the kernel leaves. -/
theorem taken_result {F : FTy → Type} [FloatOps F] (m : (ℓ : Loc Cert.KernelIdeal.nD Cert.KernelIdeal.τ Cert.KernelIdeal.sig) → Buf (Elt F) ℓ)
    (h : InVocab m) (c : Dev Cert.KernelIdeal.nD) (a : Cert.KernelIdeal.S4096x200.Idx → BitVec 32) (gt : Cert.KernelIdeal.S1000x128.Idx → Elt F .f32)
    (gf : Cert.KernelIdeal.S99000x128.Idx → Elt F .f32) (ha : a = m (aLoc c)) (ht : gt = m (tLoc c)) (hf : gf = m (fLoc c)) :
    taken a gt gf = result m c := by
  subst ha ht hf
  exact taken_eq _ _ (h c)

theorem algebraic : Cert.algebraic_KernelIdeal_ReferenceIdeal := fun m ρ m' ρ' h hagree =>
  ⟨fun c => result m c,
    (θ_run Cert.KernelIdeal.defs _ _).mono (fun _ hr c => ⟨(hr.1 c).2.2.2, (hr.1 c).1, (hr.1 c).2.1, (hr.1 c).2.2.1⟩) (run_main (F := Ideal) m ρ (words_in m h)),
    (θ_run Cert.ReferenceIdeal.defs _ _).mono
      (fun _ hr c => ⟨(hr c).1.trans (taken_result m (words_in m h) c _ _ _ (hagree c).1 (hagree c).2.1 (hagree c).2.2), (hr c).2⟩)
      (Cert.ReferenceIdeal.Value.run (F := Ideal) m' ρ')⟩

theorem bitexact : Cert.bitexact_Kernel_Reference := fun m ρ m' ρ' h hagree =>
  ⟨fun c => result (F := Bits) m c,
    (θ_run Cert.KernelIdeal.defs _ _).mono (fun _ hr c => ⟨(hr.1 c).2.2.2, (hr.1 c).1, (hr.1 c).2.1, (hr.1 c).2.2.1⟩) (run_main (F := Bits) m ρ (words_in m h)),
    (θ_run Cert.Reference.defs _ _).mono
      (fun _ hr c => ⟨(hr c).1.trans (taken_result (F := Bits) m (words_in m h) c _ _ _ (hagree c).1 (hagree c).2.1 (hagree c).2.2), (hr c).2⟩)
      (Cert.Reference.Value.run (F := Bits) m' ρ')⟩

/-- `Cert.Claim` (Defs.lean). -/
theorem claim : Cert.Claim :=
  ⟨Cert.Kernel.Gen.facts, Cert.KernelIdeal.Gen.facts, Cert.ReferenceIdeal.Gen.facts, Cert.Reference.Gen.facts, Cert.Pre_in_vocab.Gen.facts,
    frame_kernel, frame_kernel_ideal, frame_reference_ideal, fun m ρ _ => frame_reference_ideal m ρ trivial,
    frame_reference, fun m ρ _ => frame_reference m ρ trivial, trivial, algebraic, bitexact⟩

end Cert.Proof

end
